-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x2048x512 : Shape := ⟨3, ![4, 2048, 512]⟩
abbrev S4x2048x1024 : Shape := ⟨3, ![4, 2048, 1024]⟩
abbrev S4x2048x16 : Shape := ⟨3, ![4, 2048, 16]⟩
abbrev S16x512 : Shape := ⟨2, ![16, 512]⟩
abbrev S512 : Shape := ⟨1, ![512]⟩
abbrev S256 : Shape := ⟨1, ![256]⟩
abbrev S_ : Shape := ⟨0, ![]⟩
abbrev S4x2048x128 : Shape := ⟨3, ![4, 2048, 128]⟩
abbrev S4x2048x4608 : Shape := ⟨3, ![4, 2048, 4608]⟩
abbrev S1x512 : Shape := ⟨2, ![1, 512]⟩
abbrev S1x256 : Shape := ⟨2, ![1, 256]⟩
abbrev S1x512x512 : Shape := ⟨3, ![1, 512, 512]⟩
abbrev S1x512x1024 : Shape := ⟨3, ![1, 512, 1024]⟩
abbrev S1x512x128 : Shape := ⟨3, ![1, 512, 128]⟩
abbrev S4x256x128 : Shape := ⟨3, ![4, 256, 128]⟩
abbrev S256x256 : Shape := ⟨2, ![256, 256]⟩
abbrev S256x512 : Shape := ⟨2, ![256, 512]⟩
abbrev S1x256x128 : Shape := ⟨3, ![1, 256, 128]⟩
abbrev S256x128 : Shape := ⟨2, ![256, 128]⟩
abbrev S256x16 : Shape := ⟨2, ![256, 16]⟩
abbrev S4x64x128 : Shape := ⟨3, ![4, 64, 128]⟩
abbrev S4x1x128 : Shape := ⟨3, ![4, 1, 128]⟩
abbrev S1x256x256 : Shape := ⟨3, ![1, 256, 256]⟩
abbrev S1x1x128 : Shape := ⟨3, ![1, 1, 128]⟩
abbrev S1x128 : Shape := ⟨2, ![1, 128]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x2048x1024, .f32⟩
  | .hbm, ⟨4, _⟩ => ⟨S4x2048x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S_, .f32⟩
  | .hbm, ⟨9, _⟩ => ⟨S4x2048x1024, .f32⟩
  | .hbm, ⟨10, _⟩ => ⟨S_, .f32⟩
  | .hbm, ⟨11, _⟩ => ⟨S4x2048x128, .f32⟩
  | .hbm, ⟨12, _⟩ => ⟨S_, .f32⟩
  | .hbm, ⟨13, _⟩ => ⟨S4x2048x128, .f32⟩
  | .hbm, ⟨14, _⟩ => ⟨S_, .i32⟩
  | .hbm, ⟨15, _⟩ => ⟨S_, .f32⟩
  | .hbm, ⟨16, _⟩ => ⟨S4x2048x128, .f32⟩
  | .hbm, ⟨17, _⟩ => ⟨S_, .f32⟩
  | .hbm, ⟨18, _⟩ => ⟨S4x2048x128, .f32⟩
  | .hbm, ⟨19, _⟩ => ⟨S4x2048x4608, .f32⟩
  | .hbm, ⟨20, _⟩ => ⟨S1x512, .f32⟩
  | .hbm, ⟨21, _⟩ => ⟨S1x256, .f32⟩
  | .hbm, ⟨22, _⟩ => ⟨S4x2048x1024, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x128, .f32⟩
  | .local _ .vmem, ⟨9, _⟩ => ⟨S1x512x128, .f32⟩
  | .local _ .vmem, ⟨10, _⟩ => ⟨S16x512, .f32⟩
  | .local _ .vmem, ⟨11, _⟩ => ⟨S1x512, .f32⟩
  | .local _ .vmem, ⟨12, _⟩ => ⟨S1x256, .f32⟩
  | .local _ .vmem, ⟨13, _⟩ => ⟨S1x512x1024, .bf16⟩
  | .local _ .vmem, ⟨14, _⟩ => ⟨S1x512x1024, .bf16⟩
  | .local _ .vmem, ⟨15, _⟩ => ⟨S4x256x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_31 : BitVec 32 := 0#32
  let c2_i32 : BitVec 32 := 2#32
  let v116 : BitVec 32 := Scalar.addi c0_i32_31 c2_i32
  let c1_i32_32 : BitVec 32 := 1#32
  ⟨c0_i32_31, v116, c1_i32_32⟩
def k0_mult1 (k0_t1 : Fin k0_t1_loop.trips) : BitVec 32 :=
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  v117
def k0_off1 (k0_t1 : Fin k0_t1_loop.trips) : Fin 3 → Nat :=
  let c0_34 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v119 : Index := Scalar.indexCast v118
  let c0_35 : Index := 0#32
  ![0, v119.toNat, 0]
def k0_off2 (k0_t1 : Fin k0_t1_loop.trips) : Fin 3 → Nat :=
  let c0_41 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v150 : Index := Scalar.indexCast v118
  let c0_42 : Index := 0#32
  ![0, v150.toNat, 0]
def k0_off3 (k0_t1 : Fin k0_t1_loop.trips) : Fin 3 → Nat :=
  let c0_47 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v171 : Index := Scalar.indexCast v118
  let c0_48 : Index := 0#32
  ![0, v171.toNat, 0]
def k0_off4 (k0_t1 : Fin k0_t1_loop.trips) : Fin 3 → Nat :=
  let c0_49 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v181 : Index := Scalar.indexCast v118
  let c128 : Index := 128#32
  ![0, v181.toNat, 128]
def k0_off5 (k0_t1 : Fin k0_t1_loop.trips) : Fin 3 → Nat :=
  let c0_54 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v202 : Index := Scalar.indexCast v118
  let c256 : Index := 256#32
  ![0, v202.toNat, 256]
def k0_off6 (k0_t1 : Fin k0_t1_loop.trips) : Fin 3 → Nat :=
  let c0_55 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v212 : Index := Scalar.indexCast v118
  let c256_56 : Index := 256#32
  ![0, v212.toNat, 256]
def k0_off7 (k0_t1 : Fin k0_t1_loop.trips) : Fin 3 → Nat :=
  let c0_61 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v233 : Index := Scalar.indexCast v118
  let c512 : Index := 512#32
  ![0, v233.toNat, 512]
def k0_off8 (k0_t1 : Fin k0_t1_loop.trips) : Fin 3 → Nat :=
  let c0_62 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v243 : Index := Scalar.indexCast v118
  let c384 : Index := 384#32
  ![0, v243.toNat, 384]
def k0_off9 (k0_t1 : Fin k0_t1_loop.trips) : Fin 3 → Nat :=
  let c0_67 : Index := 0#32
  let c0_i32_31 : BitVec 32 := 0#32
  let c1_i32_32 : BitVec 32 := 1#32
  let arg12 : BitVec 32 := Scf.iv c0_i32_31 c1_i32_32 k0_t1
  let c256_i32 : BitVec 32 := 256#32
  let v117 : BitVec 32 := Scalar.muli arg12 c256_i32
  let v118 : BitVec 32 := v117
  let v264 : Index := Scalar.indexCast v118
  let c768 : Index := 768#32
  ![0, v264.toNat, 768]
def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c34_i32 : BitVec 32 := 34#32
  let c0_i32 : BitVec 32 := 0#32
  ![arg0.toNat, arg1.toNat, c34_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x2048x512 : Shape := ⟨3, ![4, 2048, 512]⟩
abbrev S4x2048x1024 : Shape := ⟨3, ![4, 2048, 1024]⟩
abbrev S4x2048x16 : Shape := ⟨3, ![4, 2048, 16]⟩
abbrev S16x512 : Shape := ⟨2, ![16, 512]⟩
abbrev S512 : Shape := ⟨1, ![512]⟩
abbrev S256 : Shape := ⟨1, ![256]⟩
abbrev S1x1x512 : Shape := ⟨3, ![1, 1, 512]⟩
abbrev S_ : Shape := ⟨0, ![]⟩
abbrev S4x2048x4x128 : Shape := ⟨4, ![4, 2048, 4, 128]⟩
abbrev S4x2048x4x256 : Shape := ⟨4, ![4, 2048, 4, 256]⟩
abbrev S64x64 : Shape := ⟨2, ![64, 64]⟩
abbrev S1x64x64x1x1 : Shape := ⟨5, ![1, 64, 64, 1, 1]⟩
abbrev S4x4x128x256 : Shape := ⟨4, ![4, 4, 128, 256]⟩
abbrev S4x32x64x4x128 : Shape := ⟨5, ![4, 32, 64, 4, 128]⟩
abbrev S32x4x64x4x128 : Shape := ⟨5, ![32, 4, 64, 4, 128]⟩
abbrev S4x32x64x4x256 : Shape := ⟨5, ![4, 32, 64, 4, 256]⟩
abbrev S32x4x64x4x256 : Shape := ⟨5, ![32, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S4x1x4x128 : Shape := ⟨4, ![4, 1, 4, 128]⟩
abbrev S4x4x128 : Shape := ⟨3, ![4, 4, 128]⟩
abbrev S4x4x256x64 : Shape := ⟨4, ![4, 4, 256, 64]⟩
abbrev S4x64x1x4x128 : Shape := ⟨5, ![4, 64, 1, 4, 128]⟩
abbrev S4x1x64x4x128 : Shape := ⟨5, ![4, 1, 64, 4, 128]⟩
abbrev S4x64x64x4x128 : Shape := ⟨5, ![4, 64, 64, 4, 128]⟩
abbrev S4x64x64x4 : Shape := ⟨4, ![4, 64, 64, 4]⟩
abbrev S4x4x128x1 : Shape := ⟨4, ![4, 4, 128, 1]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩

abbrev nBuf : Space → Nat
  | .hbm => 177
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x1024, .f32⟩
  | 3 => ⟨S4x2048x1024, .f32⟩
  | 4 => ⟨S4x2048x16, .f32⟩
  | 5 => ⟨S16x512, .f32⟩
  | 6 => ⟨S512, .f32⟩
  | 7 => ⟨S256, .f32⟩
  | 8 => ⟨S4x2048x512, .f32⟩
  | 9 => ⟨S1x1x512, .f32⟩
  | 10 => ⟨S4x2048x512, .f32⟩
  | 11 => ⟨S4x2048x512, .f32⟩
  | 12 => ⟨S4x2048x512, .f32⟩
  | 13 => ⟨S_, .f32⟩
  | 14 => ⟨S4x2048x512, .f32⟩
  | 15 => ⟨S4x2048x512, .f32⟩
  | 16 => ⟨S4x2048x512, .f32⟩
  | 17 => ⟨S4x2048x512, .f32⟩
  | 18 => ⟨S4x2048x512, .i1⟩
  | 19 => ⟨S4x2048x512, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .f32⟩
  | 25 => ⟨S4x2048x512, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S4x2048x4x128, .f32⟩
  | 32 => ⟨S_, .f32⟩
  | 33 => ⟨S4x2048x4x128, .f32⟩
  | 34 => ⟨S4x2048x4x128, .f32⟩
  | 35 => ⟨S4x2048x4x128, .f32⟩
  | 36 => ⟨S4x2048x4x256, .f32⟩
  | 37 => ⟨S4x2048x4x128, .f32⟩
  | 38 => ⟨S_, .i1⟩
  | 39 => ⟨S64x64, .i1⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i1⟩
  | 47 => ⟨S64x64, .i1⟩
  | 48 => ⟨S64x64, .i1⟩
  | 49 => ⟨S1x64x64x1x1, .i1⟩
  | 50 => ⟨S_, .f32⟩
  | 51 => ⟨S4x4x128x256, .f32⟩
  | 52 => ⟨S4x32x64x4x128, .f32⟩
  | 53 => ⟨S32x4x64x4x128, .f32⟩
  | 54 => ⟨S4x32x64x4x128, .f32⟩
  | 55 => ⟨S32x4x64x4x128, .f32⟩
  | 56 => ⟨S4x32x64x4x256, .f32⟩
  | 57 => ⟨S32x4x64x4x256, .f32⟩
  | 58 => ⟨S4x32x64x4x128, .f32⟩
  | 59 => ⟨S32x4x64x4x128, .f32⟩
  | 60 => ⟨S_, .f32⟩
  | 61 => ⟨S32x4x64x4x256, .f32⟩
  | 62 => ⟨S_, .i32⟩
  | 63 => ⟨S32x4x64x4x128, .f32⟩
  | 64 => ⟨S32x4x64x4x128, .f32⟩
  | 65 => ⟨S32x4x64x4x256, .f32⟩
  | 66 => ⟨S32x4x64x4x128, .f32⟩
  | 67 => ⟨S1x64x64x1x1, .i1⟩
  | 68 => ⟨S_, .i32⟩
  | 69 => ⟨S4x4x128x256, .f32⟩
  | 70 => ⟨S32x4x64x4x256, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x4x64x4x128, .f32⟩
  | 78 => ⟨S4x64x4x128, .f32⟩
  | 79 => ⟨S_, .i32⟩
  | 80 => ⟨S_, .i32⟩
  | 81 => ⟨S_, .i32⟩
  | 82 => ⟨S_, .i32⟩
  | 83 => ⟨S1x4x64x4x128, .f32⟩
  | 84 => ⟨S4x64x4x128, .f32⟩
  | 85 => ⟨S_, .i32⟩
  | 86 => ⟨S_, .i32⟩
  | 87 => ⟨S_, .i32⟩
  | 88 => ⟨S_, .i32⟩
  | 89 => ⟨S1x4x64x4x256, .f32⟩
  | 90 => ⟨S4x64x4x256, .f32⟩
  | 91 => ⟨S_, .i32⟩
  | 92 => ⟨S_, .i32⟩
  | 93 => ⟨S_, .i32⟩
  | 94 => ⟨S_, .i32⟩
  | 95 => ⟨S1x4x64x4x128, .f32⟩
  | 96 => ⟨S4x64x4x128, .f32⟩
  | 97 => ⟨S_, .f32⟩
  | 98 => ⟨S_, .f32⟩
  | 99 => ⟨S4x64x4x128, .f32⟩
  | 100 => ⟨S4x1x4x128, .f32⟩
  | 101 => ⟨S4x4x128, .f32⟩
  | 102 => ⟨S4x64x4x128, .f32⟩
  | 103 => ⟨S4x64x4x128, .f32⟩
  | 104 => ⟨S4x4x256x64, .f32⟩
  | 105 => ⟨S4x64x4x256, .f32⟩
  | 106 => ⟨S4x64x1x4x128, .f32⟩
  | 107 => ⟨S4x1x64x4x128, .f32⟩
  | 108 => ⟨S4x64x64x4x128, .f32⟩
  | 109 => ⟨S4x64x64x4x128, .f32⟩
  | 110 => ⟨S4x64x64x4x128, .f32⟩
  | 111 => ⟨S_, .f32⟩
  | 112 => ⟨S_, .f32⟩
  | 113 => ⟨S4x64x64x4x128, .i1⟩
  | 114 => ⟨S4x64x64x4x128, .f32⟩
  | 115 => ⟨S4x64x64x4x128, .f32⟩
  | 116 => ⟨S4x64x64x4x128, .f32⟩
  | 117 => ⟨S4x64x1x4x128, .f32⟩
  | 118 => ⟨S4x1x64x4x128, .f32⟩
  | 119 => ⟨S4x64x64x4x128, .f32⟩
  | 120 => ⟨S4x64x64x4x128, .f32⟩
  | 121 => ⟨S4x64x64x4x128, .f32⟩
  | 122 => ⟨S4x64x64x4x128, .f32⟩
  | 123 => ⟨S_, .f32⟩
  | 124 => ⟨S4x64x64x4, .f32⟩
  | 125 => ⟨S4x4x256x64, .f32⟩
  | 126 => ⟨S4x64x4x256, .f32⟩
  | 127 => ⟨S4x1x4x128, .f32⟩
  | _ => ⟨S4x2048x512, .f32⟩

abbrev hbmTy0_1 (i : Nat) : BufTy := match i % 128 with
  | 0 => ⟨S4x64x4x128, .f32⟩
  | 1 => ⟨S4x64x4x128, .f32⟩
  | 2 => ⟨S4x64x4x128, .f32⟩
  | 3 => ⟨S4x64x4x128, .f32⟩
  | 4 => ⟨S4x4x128, .f32⟩
  | 5 => ⟨S4x4x128x1, .f32⟩
  | 6 => ⟨S4x4x128x256, .f32⟩
  | 7 => ⟨S4x4x128x256, .f32⟩
  | 8 => ⟨S4x4x128x256, .f32⟩
  | 9 => ⟨S4x4x128x256, .f32⟩
  | 10 => ⟨S4x64x4x256, .f32⟩
  | 11 => ⟨S1x4x64x4x256, .f32⟩
  | 12 => ⟨S_, .i32⟩
  | 13 => ⟨S_, .i32⟩
  | 14 => ⟨S_, .i32⟩
  | 15 => ⟨S_, .i32⟩
  | 16 => ⟨S32x4x64x4x256, .f32⟩
  | 17 => ⟨S_, .i32⟩
  | 18 => ⟨S_, .i32⟩
  | 19 => ⟨S4x32x64x4x256, .f32⟩
  | 20 => ⟨S4x2048x4x256, .f32⟩
  | 21 => ⟨S4x2048x4x256, .f32⟩
  | 22 => ⟨S_, .f32⟩
  | 23 => ⟨S4x2048x4, .f32⟩
  | 24 => ⟨S4x2048x4x1, .f32⟩
  | 25 => ⟨S_, .f32⟩
  | 26 => ⟨S4x2048x4x1, .f32⟩
  | 27 => ⟨S4x2048x4x1, .f32⟩
  | 28 => ⟨S_, .f32⟩
  | 29 => ⟨S4x2048x4x1, .f32⟩
  | 30 => ⟨S4x2048x4x1, .f32⟩
  | 31 => ⟨S4x2048x4x1, .f32⟩
  | 32 => ⟨S4x2048x4x256, .f32⟩
  | 33 => ⟨S4x2048x4x256, .f32⟩
  | 34 => ⟨S1x1x1x256, .f32⟩
  | 35 => ⟨S4x2048x4x256, .f32⟩
  | 36 => ⟨S4x2048x4x256, .f32⟩
  | 37 => ⟨S4x2048x1024, .f32⟩
  | 38 => ⟨S4x2048x1024, .f32⟩
  | 39 => ⟨S4x2048x1024, .f32⟩
  | 40 => ⟨S_, .f32⟩
  | 41 => ⟨S4x2048x1024, .f32⟩
  | 42 => ⟨S4x2048x1024, .f32⟩
  | 43 => ⟨S_, .f32⟩
  | 44 => ⟨S4x2048x1024, .f32⟩
  | 45 => ⟨S4x2048x1024, .f32⟩
  | 46 => ⟨S4x2048x1024, .f32⟩
  | 47 => ⟨S4x2048x1024, .f32⟩
  | 48 => ⟨S4x2048x1024, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v16 : Ref sig .tc := ⟨.hbm, 48, rfl⟩
abbrev main_v17 : Ref sig .tc := ⟨.hbm, 49, rfl⟩
abbrev main_cst_1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_c_3 : Ref sig .tc := ⟨.hbm, 62, rfl⟩
abbrev main_v28_0 : Ref sig .tc := ⟨.hbm, 63, rfl⟩
abbrev main_v28_1 : Ref sig .tc := ⟨.hbm, 64, rfl⟩
abbrev main_v28_2 : Ref sig .tc := ⟨.hbm, 65, rfl⟩
abbrev main_v28_3 : Ref sig .tc := ⟨.hbm, 66, rfl⟩
abbrev main_v28_4 : Ref sig .tc := ⟨.hbm, 67, rfl⟩
abbrev main_v28_5 : Ref sig .tc := ⟨.hbm, 68, rfl⟩
abbrev main_v28_6 : Ref sig .tc := ⟨.hbm, 69, rfl⟩
abbrev main_v28_7 : Ref sig .tc := ⟨.hbm, 70, rfl⟩
abbrev main_while0c_c_14 : Ref sig .tc := ⟨.hbm, 71, rfl⟩
abbrev main_while0c_v48 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v48 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v49 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v50 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v51 : Ref sig .tc := ⟨.hbm, 96, rfl⟩
abbrev main_while0b_call6_call0_cst : Ref sig .tc := ⟨.hbm, 97, rfl⟩
abbrev main_while0b_call6_call0_v0 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_cst_14 : Ref sig .tc := ⟨.hbm, 111, rfl⟩
abbrev main_while0b_call7_v0 : Ref sig .tc := ⟨.hbm, 112, rfl⟩
abbrev main_while0b_call7_v1 : Ref sig .tc := ⟨.hbm, 113, rfl⟩
abbrev main_while0b_call7_v2 : Ref sig .tc := ⟨.hbm, 114, rfl⟩
abbrev main_while0b_v64 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_cst_15 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_v80 : Ref sig .tc := ⟨.hbm, 132, rfl⟩
abbrev main_while0b_v81 : Ref sig .tc := ⟨.hbm, 133, rfl⟩
abbrev main_while0b_v82 : Ref sig .tc := ⟨.hbm, 134, rfl⟩
abbrev main_while0b_v83 : Ref sig .tc := ⟨.hbm, 135, rfl⟩
abbrev main_while0b_v84 : Ref sig .tc := ⟨.hbm, 136, rfl⟩
abbrev main_while0b_v85 : Ref sig .tc := ⟨.hbm, 137, rfl⟩
abbrev main_while0b_v86 : Ref sig .tc := ⟨.hbm, 138, rfl⟩
abbrev main_while0b_call8_v0 : Ref sig .tc := ⟨.hbm, 139, rfl⟩
abbrev main_while0b_call8_c : Ref sig .tc := ⟨.hbm, 140, rfl⟩
abbrev main_while0b_call8_c_0 : Ref sig .tc := ⟨.hbm, 141, rfl⟩
abbrev main_while0b_call8_c_1 : Ref sig .tc := ⟨.hbm, 142, rfl⟩
abbrev main_while0b_call8_c_2 : Ref sig .tc := ⟨.hbm, 143, rfl⟩
abbrev main_while0b_v87 : Ref sig .tc := ⟨.hbm, 144, rfl⟩
abbrev main_while0b_c_16 : Ref sig .tc := ⟨.hbm, 145, rfl⟩
abbrev main_while0b_v88 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_cst_4 : Ref sig .tc := ⟨.hbm, 150, rfl⟩
abbrev main_v32 : Ref sig .tc := ⟨.hbm, 151, rfl⟩
abbrev main_v33 : Ref sig .tc := ⟨.hbm, 152, rfl⟩
abbrev main_cst_5 : Ref sig .tc := ⟨.hbm, 153, rfl⟩
abbrev main_v34 : Ref sig .tc := ⟨.hbm, 154, rfl⟩
abbrev main_v35 : Ref sig .tc := ⟨.hbm, 155, rfl⟩
abbrev main_cst_6 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v45 : Ref sig .tc := ⟨.hbm, 174, rfl⟩
abbrev main_v46 : Ref sig .tc := ⟨.hbm, 175, rfl⟩
abbrev main_v47 : Ref sig .tc := ⟨.hbm, 176, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x2048x1024 : Shape := ⟨3, ![4, 2048, 1024]⟩
abbrev S4x2048x2048 : Shape := ⟨3, ![4, 2048, 2048]⟩
abbrev S4x2048 : Shape := ⟨2, ![4, 2048]⟩
abbrev S2048 : Shape := ⟨1, ![2048]⟩
abbrev S8192x1024 : Shape := ⟨2, ![8192, 1024]⟩
abbrev S8192x2048 : Shape := ⟨2, ![8192, 2048]⟩
abbrev S4x1x2048 : Shape := ⟨3, ![4, 1, 2048]⟩
abbrev S1x2048 : Shape := ⟨2, ![1, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .f32⟩
  | .hbm, ⟨3, _⟩ => ⟨S4x2048x2048, .f32⟩
  | .hbm, ⟨4, _⟩ => ⟨S4x2048, .f32⟩
  | .hbm, ⟨5, _⟩ => ⟨S2048, .f32⟩
  | .hbm, ⟨6, _⟩ => ⟨S8192x1024, .bf16⟩
  | .hbm, ⟨7, _⟩ => ⟨S8192x1024, .bf16⟩
  | .hbm, ⟨8, _⟩ => ⟨S4x2048x2048, .bf16⟩
  | .hbm, ⟨9, _⟩ => ⟨S8192x2048, .f32⟩
  | .hbm, ⟨10, _⟩ => ⟨S4x1x2048, .f32⟩
  | .hbm, ⟨11, _⟩ => ⟨S1x2048, .f32⟩
  | .hbm, ⟨12, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x2048x1024 : Shape := ⟨3, ![4, 2048, 1024]⟩
abbrev S4x2048x2048 : Shape := ⟨3, ![4, 2048, 2048]⟩
abbrev S4x2048 : Shape := ⟨2, ![4, 2048]⟩
abbrev S2048 : Shape := ⟨1, ![2048]⟩
abbrev S1x2048x2048 : Shape := ⟨3, ![1, 2048, 2048]⟩
abbrev S2048x2048 : Shape := ⟨2, ![2048, 2048]⟩
abbrev S4x1x2048 : Shape := ⟨3, ![4, 1, 2048]⟩
abbrev S_ : Shape := ⟨0, ![]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .f32⟩
  | .hbm, ⟨3, _⟩ => ⟨S4x2048x2048, .f32⟩
  | .hbm, ⟨4, _⟩ => ⟨S4x2048, .f32⟩
  | .hbm, ⟨5, _⟩ => ⟨S2048, .f32⟩
  | .hbm, ⟨6, _⟩ => ⟨S4x2048x2048, .bf16⟩
  | .hbm, ⟨7, _⟩ => ⟨S4x2048x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S4x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x2048 : Shape := ⟨2, ![4, 2048]⟩
abbrev S2048 : Shape := ⟨1, ![2048]⟩
abbrev S2048x8288 : Shape := ⟨2, ![2048, 8288]⟩
abbrev S8192x2048 : Shape := ⟨2, ![8192, 2048]⟩
abbrev S4x1x2048 : Shape := ⟨3, ![4, 1, 2048]⟩
abbrev S8288x2048 : Shape := ⟨2, ![8288, 2048]⟩
abbrev S1024x2048 : Shape := ⟨2, ![1024, 2048]⟩
abbrev S512x2048 : Shape := ⟨2, ![512, 2048]⟩
abbrev S64x2048 : Shape := ⟨2, ![64, 2048]⟩
abbrev S_ : Shape := ⟨0, ![]⟩
abbrev S16x2048 : Shape := ⟨2, ![16, 2048]⟩
abbrev S112x2048 : Shape := ⟨2, ![112, 2048]⟩
abbrev S128x2048 : Shape := ⟨2, ![128, 2048]⟩
abbrev S8704x2048 : Shape := ⟨2, ![8704, 2048]⟩
abbrev S1x8704x2048 : Shape := ⟨3, ![1, 8704, 2048]⟩
abbrev S1x2048 : Shape := ⟨2, ![1, 2048]⟩
abbrev S8192x4096 : Shape := ⟨2, ![8192, 4096]⟩
abbrev S8192x4608 : Shape := ⟨2, ![8192, 4608]⟩
abbrev S1x1x2048 : Shape := ⟨3, ![1, 1, 2048]⟩
abbrev S1x512x2048 : Shape := ⟨3, ![1, 512, 2048]⟩
abbrev S1024x512 : Shape := ⟨2, ![1024, 512]⟩
abbrev S512 : Shape := ⟨1, ![512]⟩
abbrev S512x1 : Shape := ⟨2, ![512, 1]⟩
abbrev S64 : Shape := ⟨1, ![64]⟩
abbrev S64x1 : Shape := ⟨2, ![64, 1]⟩

abbrev nBuf : Space → Nat
  | .hbm => 35
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S2048x8288, .f32⟩
  | .hbm, ⟨5, _⟩ => ⟨S8192x2048, .f32⟩
  | .hbm, ⟨6, _⟩ => ⟨S4x1x2048, .f32⟩
  | .hbm, ⟨7, _⟩ => ⟨S4x1x2048, .f32⟩
  | .hbm, ⟨8, _⟩ => ⟨S8288x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S512x2048, .f32⟩
  | .hbm, ⟨17, _⟩ => ⟨S512x2048, .f32⟩
  | .hbm, ⟨18, _⟩ => ⟨S64x2048, .f32⟩
  | .hbm, ⟨19, _⟩ => ⟨S_, .f32⟩
  | .hbm, ⟨20, _⟩ => ⟨S64x2048, .f32⟩
  | .hbm, ⟨21, _⟩ => ⟨S16x2048, .f32⟩
  | .hbm, ⟨22, _⟩ => ⟨S_, .f32⟩
  | .hbm, ⟨23, _⟩ => ⟨S112x2048, .f32⟩
  | .hbm, ⟨24, _⟩ => ⟨S16x2048, .f32⟩
  | .hbm, ⟨25, _⟩ => ⟨S_, .f32⟩
  | .hbm, ⟨26, _⟩ => ⟨S112x2048, .f32⟩
  | .hbm, ⟨27, _⟩ => ⟨S_, .f32⟩
  | .hbm, ⟨28, _⟩ => ⟨S128x2048, .f32⟩
  | .hbm, ⟨29, _⟩ => ⟨S8704x2048, .f32⟩
  | .hbm, ⟨30, _⟩ => ⟨S8704x2048, .bf16⟩
  | .hbm, ⟨31, _⟩ => ⟨S1x8704x2048, .bf16⟩
  | .hbm, ⟨32, _⟩ => ⟨S1x2048, .f32⟩
  | .hbm, ⟨33, _⟩ => ⟨S8192x4096, .bf16⟩
  | .hbm, ⟨34, _⟩ => ⟨S8192x4608, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x512x2048, .bf16⟩
  | .local _ .vmem, ⟨10, _⟩ => ⟨S1x512x2048, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x2048, .bf16⟩
  | .local _ .vmem, ⟨16, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg0 : BitVec 32 := BitVec.ofNat 32 (i 0).val
  let c2_i32 : BitVec 32 := 2#32
  let c0_i32_2 : BitVec 32 := 0#32
  let v5 : BitVec 1 := Scalar.cmpi .eq c2_i32 c0_i32_2
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_cond3 (i : grid0.Coords) : BitVec 1 :=
  let arg1 : BitVec 32 := BitVec.ofNat 32 (i 1).val
  let c8_i32 : BitVec 32 := 8#32
  let v31 : BitVec 1 := Scalar.cmpi .slt arg1 c8_i32
  let v32 : BitVec 32 := Scalar.extui v31
  let c0_i32_16 : BitVec 32 := 0#32
  let v33 : BitVec 1 := Scalar.cmpi .ne v32 c0_i32_16
  v33

def k0_mult1 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  v42
def k0_mult2 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  v54
def k0_off1 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  let v55 : BitVec 32 := v54
  let v57 : Index := Scalar.indexCast v55
  let c0 : Index := 0#32
  ![v57.toNat, 0]
def k0_off2 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  let v43 : BitVec 32 := v42
  let v89 : Index := Scalar.indexCast v43
  let c0_41 : Index := 0#32
  ![v89.toNat, 0]
def k0_cond4 (i : grid0.Coords) : BitVec 1 :=
  let arg1 : BitVec 32 := BitVec.ofNat 32 (i 1).val
  let c8_i32_17 : BitVec 32 := 8#32
  let v34 : BitVec 1 := Scalar.cmpi .sge arg1 c8_i32_17
  let v35 : BitVec 32 := Scalar.extui v34
  let c0_i32_18 : BitVec 32 := 0#32
  let v36 : BitVec 1 := Scalar.cmpi .ne v35 c0_i32_18
  v36

def k0_mult3 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  v42
def k0_mult4 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  v54
def k0_off3 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  let v55 : BitVec 32 := v54
  let v57 : Index := Scalar.indexCast v55
  let c0 : Index := 0#32
  ![v57.toNat, 0]
def k0_off4 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  let v43 : BitVec 32 := v42
  let v89 : Index := Scalar.indexCast v43
  let c0_41 : Index := 0#32
  ![v89.toNat, 0]
def k0_cond5 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_cond6 (i : grid0.Coords) : BitVec 1 :=
  let arg1 : BitVec 32 := BitVec.ofNat 32 (i 1).val
  let c8_i32 : BitVec 32 := 8#32
  let v31 : BitVec 1 := Scalar.cmpi .slt arg1 c8_i32
  let v32 : BitVec 32 := Scalar.extui v31
  let c0_i32_16 : BitVec 32 := 0#32
  let v33 : BitVec 1 := Scalar.cmpi .ne v32 c0_i32_16
  v33

def k0_mult5 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  v42
def k0_mult6 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  v54
def k0_off5 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  let v55 : BitVec 32 := v54
  let v57 : Index := Scalar.indexCast v55
  let c0 : Index := 0#32
  ![v57.toNat, 0]
def k0_off6 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  let v43 : BitVec 32 := v42
  let v89 : Index := Scalar.indexCast v43
  let c0_41 : Index := 0#32
  ![v89.toNat, 0]
def k0_cond7 (i : grid0.Coords) : BitVec 1 :=
  let arg1 : BitVec 32 := BitVec.ofNat 32 (i 1).val
  let c8_i32_17 : BitVec 32 := 8#32
  let v34 : BitVec 1 := Scalar.cmpi .sge arg1 c8_i32_17
  let v35 : BitVec 32 := Scalar.extui v34
  let c0_i32_18 : BitVec 32 := 0#32
  let v36 : BitVec 1 := Scalar.cmpi .ne v35 c0_i32_18
  v36

def k0_mult7 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  v42
def k0_mult8 (i : grid0.Coords) : BitVec 32 :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  v54
def k0_off7 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c8_i32_21 : BitVec 32 := 8#32
  let c0_i32_22 : BitVec 32 := 0#32
  let v44 : BitVec 1 := Scalar.cmpi .eq c8_i32_21 c0_i32_22
  let c1_i32_23 : BitVec 32 := 1#32
  let v45 : BitVec 32 := Scalar.select v44 c1_i32_23 c8_i32_21
  let v46 : BitVec 32 := Scalar.remsi v41 v45
  let c0_i32_25 : BitVec 32 := 0#32
  let v48 : BitVec 1 := Scalar.cmpi .slt v46 c0_i32_25
  let c0_i32_26 : BitVec 32 := 0#32
  let v49 : BitVec 1 := Scalar.cmpi .slt v45 c0_i32_26
  let v50 : BitVec 1 := Scalar.xori v48 v49
  let c0_i32_24 : BitVec 32 := 0#32
  let v47 : BitVec 1 := Scalar.cmpi .ne v46 c0_i32_24
  let v51 : BitVec 1 := Scalar.andi v50 v47
  let v52 : BitVec 32 := Scalar.addi v46 v45
  let v53 : BitVec 32 := Scalar.select v51 v52 v46
  let c64_i32_27 : BitVec 32 := 64#32
  let v54 : BitVec 32 := Scalar.muli v53 c64_i32_27
  let v55 : BitVec 32 := v54
  let v57 : Index := Scalar.indexCast v55
  let c0 : Index := 0#32
  ![v57.toNat, 0]
def k0_off8 (i : grid0.Coords) : Fin 2 → Nat :=
  let c15_i32 : BitVec 32 := 15#32
  let c0_i32_20 : BitVec 32 := 0#32
  let arg1 : BitVec 32 := BitVec.ofNat 32 (i 1).val
  let arg0 : BitVec 32 := BitVec.ofNat 32 (i 0).val
  let c0_i32_19 : BitVec 32 := 0#32
  let v37 : BitVec 1 := Scalar.cmpi .eq arg0 c0_i32_19
  let v38 : BitVec 32 := Scalar.extui v37
  let v39 : BitVec 32 := Scalar.subi arg1 v38
  let v40 : BitVec 32 := Scalar.maxsi c0_i32_20 v39
  let v41 : BitVec 32 := Scalar.minsi c15_i32 v40
  let c64_i32 : BitVec 32 := 64#32
  let v42 : BitVec 32 := Scalar.muli v41 c64_i32
  let v43 : BitVec 32 := v42
  let v89 : Index := Scalar.indexCast v43
  let c0_41 : Index := 0#32
  ![v89.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c7_i32 : BitVec 32 := 7#32
  let v4 : BitVec 32 := Scalar.minsi v3 c7_i32
  let c0_i32_1 : BitVec 32 := 0#32
  let v5 : BitVec 32 := Scalar.select v2 c0_i32_1 v4
  let c2_i32 : BitVec 32 := 2#32
  let v6 : BitVec 32 := Scalar.muli c2_i32 v5
  let c0_i32_2 : BitVec 32 := 0#32
  let c0_i32_3 : BitVec 32 := 0#32
  ![v6.toNat, c0_i32_2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.addi arg0 c1_i32
  let c7_i32 : BitVec 32 := 7#32
  let v2 : BitVec 32 := Scalar.minsi v1 c7_i32
  let v3 : BitVec 32 := Scalar.select v0 arg0 v2
  let c2_i32 : BitVec 32 := 2#32
  let v4 : BitVec 32 := Scalar.muli c2_i32 v3
  let c1_i32_0 : BitVec 32 := 1#32
  let v5 : BitVec 32 := Scalar.addi v4 c1_i32_0
  let c0_i32 : BitVec 32 := 0#32
  let c0_i32_1 : BitVec 32 := 0#32
  ![v5.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c7_i32 : BitVec 32 := 7#32
  let v4 : BitVec 32 := Scalar.minsi v3 c7_i32
  let c0_i32_1 : BitVec 32 := 0#32
  let v5 : BitVec 32 := Scalar.select v2 c0_i32_1 v4
  let c2_i32 : BitVec 32 := 2#32
  let v6 : BitVec 32 := Scalar.divsi v5 c2_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c1_i32 : BitVec 32 := 1#32
  let v3 : BitVec 32 := Scalar.addi arg0 c1_i32
  let c7_i32 : BitVec 32 := 7#32
  let v4 : BitVec 32 := Scalar.minsi v3 c7_i32
  let c0_i32_1 : BitVec 32 := 0#32
  let v5 : BitVec 32 := Scalar.select v2 c0_i32_1 v4
  let c2_i32 : BitVec 32 := 2#32
  let v6 : BitVec 32 := Scalar.divsi v5 c2_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi v5 c2_i32
  let c0_i32_6 : BitVec 32 := 0#32
  let v19 : BitVec 1 := Scalar.cmpi .ne v18 c0_i32_6
  let v20 : BitVec 1 := Scalar.andi v17 v19
  let c1_i32_7 : BitVec 32 := 1#32
  let v21 : BitVec 32 := Scalar.subi v6 c1_i32_7
  let v22 : BitVec 32 := Scalar.select v20 v21 v6
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x2048x2048 : Shape := ⟨3, ![4, 2048, 2048]⟩
abbrev S4x2048 : Shape := ⟨2, ![4, 2048]⟩
abbrev S2048 : Shape := ⟨1, ![2048]⟩
abbrev S2048x8288 : Shape := ⟨2, ![2048, 8288]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2048x8288 : Shape := ⟨3, ![4, 2048, 8288]⟩
abbrev S8192x8288 : Shape := ⟨2, ![8192, 8288]⟩
abbrev S8192x1024 : Shape := ⟨2, ![8192, 1024]⟩
abbrev S8192x64 : Shape := ⟨2, ![8192, 64]⟩
abbrev S8192x16 : Shape := ⟨2, ![8192, 16]⟩
abbrev S8192x512 : Shape := ⟨2, ![8192, 512]⟩
abbrev S8192x4096 : Shape := ⟨2, ![8192, 4096]⟩
abbrev S8192x128 : Shape := ⟨2, ![8192, 128]⟩
abbrev S8192x112 : Shape := ⟨2, ![8192, 112]⟩
abbrev S8192x240 : Shape := ⟨2, ![8192, 240]⟩
abbrev S8192x256 : Shape := ⟨2, ![8192, 256]⟩
abbrev S8192x4608 : Shape := ⟨2, ![8192, 4608]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S4x2048, .f32⟩
  | .hbm, ⟨3, _⟩ => ⟨S2048, .f32⟩
  | .hbm, ⟨4, _⟩ => ⟨S2048x8288, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S4x2048x8288, .f32⟩
  | .hbm, ⟨31, _⟩ => ⟨S8192x8288, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x64, .f32⟩
  | .hbm, ⟨38, _⟩ => ⟨S8192x16, .f32⟩
  | .hbm, ⟨39, _⟩ => ⟨S8192x512, .f32⟩
  | .hbm, ⟨40, _⟩ => ⟨S8192x512, .f32⟩
  | .hbm, ⟨41, _⟩ => ⟨S8192x1024, .f32⟩
  | .hbm, ⟨42, _⟩ => ⟨S8192x1024, .f32⟩
  | .hbm, ⟨43, _⟩ => ⟨S8192x16, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x4096, .f32⟩
  | .hbm, ⟨48, _⟩ => ⟨S8192x4096, .bf16⟩
  | .hbm, ⟨49, _⟩ => ⟨S_, .f32⟩
  | .hbm, ⟨50, _⟩ => ⟨S8192x64, .f32⟩
  | .hbm, ⟨51, _⟩ => ⟨S8192x128, .f32⟩
  | .hbm, ⟨52, _⟩ => ⟨S_, .f32⟩
  | .hbm, ⟨53, _⟩ => ⟨S8192x112, .f32⟩
  | .hbm, ⟨54, _⟩ => ⟨S8192x128, .f32⟩
  | .hbm, ⟨55, _⟩ => ⟨S_, .f32⟩
  | .hbm, ⟨56, _⟩ => ⟨S8192x240, .f32⟩
  | .hbm, ⟨57, _⟩ => ⟨S8192x256, .f32⟩
  | .hbm, ⟨58, _⟩ => ⟨S8192x4608, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.Trips.lean ====
/-
  The pieces a trip of the kernel's loop stores depend on what it finds in the state it carries, not on what it finds
  in the output block: so the pieces of any number of trips are the same over any contents of the output block.
-/
module

public import proofs.«01_k».proof.Proof.Gen.KernelIdeal.Loops

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

section
variable (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (v55 : IVec S256x256 1) (v58 : FVec F S256x256 .bf16) (v60 : IVec S256x512 32) (v84 : IVec S256x512 32) (c128_i32 : BitVec 32) (v86 : IVec S256x512 32) (v89 : IVec S256x512 32) (v90 : IVec S256x512 32) (v110 : Vec F S16x512 .f32) (v112 : Vec F S1x512 .f32) (v114 : Vec F S1x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)

/-- One trip's pieces are the same over any contents of the output block. -/
theorem trip_any (k : Fin k0_t1_loop.trips) (f f' : BufTy.Contents (Elt F) arg10.view.ty) (g : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 k f g
      = tripL_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 k f' g := by
  unfold tripL_k0_t1 trip_k0_t1
  rfl

/-- The pieces of the trips before `n` are the same over any contents of the output block. -/
theorem pieces_any (f f' : BufTy.Contents (Elt F) arg10.view.ty) (g : BufTy.Contents (Elt F) arg11.view.ty) : ∀ n,
    pb_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 f g n
      = pb_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 f' g n
  | 0 => rfl
  | n + 1 => by
    by_cases h : n < k0_t1_loop.trips
    · have e := pb_k0_t1_succ (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 f g ⟨n, h⟩
      have e' := pb_k0_t1_succ (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 f' g ⟨n, h⟩
      rw [show n + 1 = (⟨n, h⟩ : Fin k0_t1_loop.trips).val + 1 from rfl, e, e', pieces_any f f' g n]
      rw [trip_any (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 ⟨n, h⟩ (arg10.view.writes (Elt F) f _) (arg10.view.writes (Elt F) f' _)]
    · rw [pb_k0_t1.eq_2, pb_k0_t1.eq_2]
      unfold pb_k0_t1Step
      rw [dif_neg h, dif_neg h, pieces_any f f' g n]

end

end Cert.KernelIdeal.Own

end
-- ==== Proof.RunA.lean ====
/-
  The body of the kernel at the first tile of a sequence: the state is zeroed, then the two trips run.
  The pieces its stores leave are stated over a fixed content of the output block, on which they do not depend.
-/
module

public import proofs.«01_k».proof.Proof.Trips
public import proofs.«01_k».proof.Proof.Gen.KernelIdeal.Frame.Runs

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's triple at the first tile of a sequence, with the pieces its stores leave in the output block and in the carried state. -/
noncomputable def kernelRun0_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) :
    Σ' (L8 : List (View.Piece (Elt F) S1x512x1024 .bf16)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_eq_skeleton]; unfold cc0_gla_skel
    simp only [k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    rw [pieces_any _ _ _ _ _ _ _ _ _ _ _ _ _ _ _ _ _ _ _ _ _ _ _ _ _ _ _ _ _ _ _ _ _ _ _ _ _ _ _ _ f8 arg10.view.junk]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Own

end
-- ==== Proof.RunB.lean ====
/-
  The body of the kernel at a later tile of a sequence: the two trips run over the state the tile before left.
  The pieces its stores leave are stated over a fixed content of the output block, on which they do not depend.
-/
module

public import proofs.«01_k».proof.Proof.Trips
public import proofs.«01_k».proof.Proof.RunA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body's triple at a later tile of a sequence, with the pieces its stores leave in the output block and in the carried state. -/
noncomputable def kernelRun0_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : ¬cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (xs0 : Vec F S4x256x128 .f32) :
    Σ' (L8 : List (View.Piece (Elt F) S1x512x1024 .bf16)), { LS0 : List (View.Piece (Elt F) S4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_gla_eq_skeleton]; unfold cc0_gla_skel
    simp only [k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0)
    rw [pieces_any _ _ _ _ _ _ _ _ _ _ _ _ _ _ _ _ _ _ _ _ _ _ _ _ _ _ _ _ _ _ _ _ _ _ _ _ _ _ _ _ f8 arg10.view.junk]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Own

end
-- ==== Proof.Launch.lean ====
/-
  The launch: what the kernel's output block and the state it carries hold after each point of the grid, over the two
  runs of its body, and the launch's triple.
-/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S1x256x256`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (y : S1x512x1024.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S1x256x256.size (by sl_kernel_rfl) y

/-- What case A leaves in output 8's staging buffer: its pieces read back over junk. -/
def out0_A_8 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) : Vec F S1x512x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- Case A's pieces for scratch `arg11`, which the kernel carries between points, cover it: one of them a store of the WHOLE buffer (Lib/Ring.lean `sl_whole_mem`). -/
theorem scover0_A_0 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (y : S4x256x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6 x7).2.1 (by sl_whole_mem) y

/-- What case A leaves in scratch `arg11`: its pieces read back over junk. -/
def sout0_A_0 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) : Vec F S4x256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- Case B's pieces for output 8 tile its block (8 stores of `S1x256x256`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : ¬cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (xs0 : Vec F S4x256x128 .f32) (y : S1x512x1024.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 S1x256x256.size (by sl_kernel_rfl) y

/-- What case B leaves in output 8's staging buffer: its pieces read back over junk. -/
def out0_B_8 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : ¬cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (xs0 : Vec F S4x256x128 .f32) : Vec F S1x512x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).1)

/-- Case B's pieces for scratch `arg11`, which the kernel carries between points, cover it: 8 pieces of `S1x256x128` tiling it (Lib/Ring.lean `Piece.tiledL`). -/
theorem scover0_B_0 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : ¬cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (xs0 : Vec F S4x256x128 .f32) (y : S4x256x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 S1x256x128.size (by sl_kernel_rfl) y

/-- What case B leaves in scratch `arg11`: its pieces read back over junk. -/
def sout0_B_0 (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (hc0 : ¬cond0_0 i)
    (x0 : Vec F S1x512x512 .f32) (x1 : Vec F S1x512x512 .f32) (x2 : Vec F S1x512x1024 .f32) (x3 : Vec F S1x512x1024 .f32) (x4 : Vec F S1x512x128 .f32) (x5 : Vec F S16x512 .f32) (x6 : Vec F S1x512 .f32) (x7 : Vec F S1x256 .f32) (xs0 : Vec F S4x256x128 .f32) : Vec F S4x256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .bf16 × Vec F S4x256x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (X0_2 m c t) (X0_3 m c t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (X0_2 m c t) (X0_3 m c t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (X0_2 m c t) (X0_3 m c t) (iblk m c 4 t) (iblk m c 5 t) (iblk m c 6 t) (iblk m c 7 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (X0_2 m c t) (X0_3 m c t) (iblk m c 4 t) (iblk m c 5 t) (iblk m c 6 t) (iblk m c 7 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases hz : t.val = 0
    · rw [PhiS_castSucc m c t, PhiS_zero m c _ _ hz, PhiA0_eq]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (X0_2 m c t) (X0_3 m c t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (iblk m c 0 t) (iblk m c 1 t) (X0_2 m c t) (X0_3 m c t) (iblk m c 4 t) (iblk m c 5 t) (iblk m c 6 t) (iblk m c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (iblk m c 0 t) (iblk m c 1 t) (X0_2 m c t) (X0_3 m c t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- On the launch's devices, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame over any floats: the run terminates, every argument array and every semaphore counter as it should be. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Own

end
-- ==== Proof.RefRun.lean ====
/-
  The reference's run stated over the standalone step of its scan: a valuation that holds a state (the carried arrays,
  the loop's constants, the number of the trip) holds the next state after one trip, so the run's result is a function
  of the state that thirty-two steps from the initial one reach.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The valuation `V` is that of the loop before trip `n` at state `s`. -/
structure At (V : Valuation τ sig (Elt F)) (s : State F) (n : ℕ) : Prop where
  carried : V (Proc.devRef .tc main_v28_6) = s.main_v28_6
  outs : V (Proc.devRef .tc main_v28_7) = s.main_v28_7
  qs : V (Proc.devRef .tc main_v28_0) = s.main_v28_0
  ks : V (Proc.devRef .tc main_v28_1) = s.main_v28_1
  vs : V (Proc.devRef .tc main_v28_2) = s.main_v28_2
  las : V (Proc.devRef .tc main_v28_3) = s.main_v28_3
  number : V (Proc.devRef .tc main_v28_5) = constantI S_ 32 (BitVec.ofNat 32 n)
  mask : V (Proc.devRef .tc main_v28_4) = Step.K_main_v17 (F := F)

variable {V : Valuation τ sig (Elt F)} {s : State F} {n : ℕ}

/-- Chunk `n` of the queries is the step's. -/
theorem q_eq (h : At V s n) : res_main_while0b_v48 V = Step.b5 n s := by
  unfold res_main_while0b_v48; rw [h.qs, h.number]; rfl

/-- Chunk `n` of the keys is the step's. -/
theorem k_eq (h : At V s n) : res_main_while0b_v49 V = Step.b11 n s := by
  unfold res_main_while0b_v49; rw [h.ks, h.number]; rfl

/-- Chunk `n` of the values is the step's. -/
theorem v_eq (h : At V s n) : res_main_while0b_v50 V = Step.b17 n s := by
  unfold res_main_while0b_v50; rw [h.vs, h.number]; rfl

/-- The running sum of the log decays of chunk `n` is the step's. -/
theorem cum_eq (h : At V s n) : res_main_while0b_v52 V = Step.b26 n s := by
  unfold res_main_while0b_v52; rw [h.las, h.number]; rfl

/-- Its last row is the step's. -/
theorem last_eq (h : At V s n) : res_main_while0b_v54 V = Step.b28 n s := by
  unfold res_main_while0b_v54; rw [cum_eq h]; rfl

/-- The carried state after the trip is the step's. -/
theorem carried_eq (h : At V s n) : step_main_v28_6 V = Step.b64 n s := by
  unfold step_main_v28_6; rw [last_eq h, cum_eq h, k_eq h, v_eq h, h.carried]; rfl

/-- The array of outputs after the trip is the step's. -/
theorem outs_eq (h : At V s n) : step_main_v28_7 V = Step.b71 n s := by
  unfold step_main_v28_7; rw [cum_eq h, q_eq h, k_eq h, v_eq h, h.carried, h.outs, h.number, h.mask]; rfl

/-- One trip. -/
theorem at_succ (h : At V s n) : At (STEP V) (step n s) (n + 1) where
  carried := (STEP_main_v28_6 V).trans (carried_eq h)
  outs := (STEP_main_v28_7 V).trans (outs_eq h)
  qs := (STEP_main_v28_0 V).trans h.qs
  ks := (STEP_main_v28_1 V).trans h.ks
  vs := (STEP_main_v28_2 V).trans h.vs
  las := (STEP_main_v28_3 V).trans h.las
  number := by
    rw [STEP_main_v28_5 V]; unfold step_main_v28_5; rw [h.number]
    funext i
    show BitVec.ofNat 32 n + 1#32 = BitVec.ofNat 32 (n + 1)
    simp only [BitVec.ofNat_add]
  mask := (STEP_main_v28_4 V).trans h.mask

/-- The states of the scan: the initial one, then one step per chunk. -/
def states (a0 a1 : (⟨S4x2048x512, .f32⟩ : BufTy).Contents (Elt F)) (a2 : (⟨S4x2048x1024, .f32⟩ : BufTy).Contents (Elt F))
    (a4 : (⟨S4x2048x16, .f32⟩ : BufTy).Contents (Elt F)) (a5 : (⟨S16x512, .f32⟩ : BufTy).Contents (Elt F))
    (a6 : (⟨S512, .f32⟩ : BufTy).Contents (Elt F)) : ℕ → State F
  | 0 => init a0 a1 a2 a4 a5 a6
  | n + 1 => step n (states a0 a1 a2 a4 a5 a6 n)

variable (m : (ℓ : Loc nD τ sig) → Buf (Elt F) ℓ) (c : Dev nD)

/-- The states of the scan on the memory's arguments. -/
abbrev statesOf : ℕ → State F :=
  states (m ((c.tc : Thread nD τ).loc main_arg0)) (m ((c.tc : Thread nD τ).loc main_arg1))
    (m ((c.tc : Thread nD τ).loc main_arg2)) (m ((c.tc : Thread nD τ).loc main_arg4))
    (m ((c.tc : Thread nD τ).loc main_arg5)) (m ((c.tc : Thread nD τ).loc main_arg6))

set_option maxRecDepth 65536 in
set_option maxHeartbeats 400000 in
/-- What precedes the loop leaves the initial state. -/
theorem at_zero : At (entryContents preI m c) (statesOf m c 0) 0 := by
  constructor <;> (simp only [entryContents, afterL_cons, afterL_nil]; after_reads_simp) <;> rfl

/-- Before trip `k` the loop is at state `k`. -/
theorem at_iter : ∀ k, At (STEP^[k] (entryContents preI m c)) (statesOf m c k) k
  | 0 => at_zero m c
  | k + 1 => by rw [Function.iterate_succ_apply']; exact at_succ (at_iter k)

/-- The operations after the loop, at a valuation of the loop's end. -/
theorem result_eq (h : At V s n) {g : (⟨S4x2048x1024, .f32⟩ : BufTy).Contents (Elt F)}
    (hg : V (Proc.devRef .tc main_arg3) = g) {w : (⟨S256, .f32⟩ : BufTy).Contents (Elt F)}
    (hw : V (Proc.devRef .tc main_arg7) = w) : out_main_v47 V = Step.R_main_v47 s g w := by
  unfold out_main_v47 Step.R_main_v47; rw [h.outs, hg, hw]; rfl

/-- The reference terminates with its result the function `R_main_v47` of state 32, every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v47)
          = Step.R_main_v47 (statesOf m c 32) (m ((c.tc : Thread nD τ).loc main_arg3)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans (result_eq (at_iter m c 32) (iter_main_arg3 m c 32) (iter_main_arg7 m c 32)), (h c).2⟩)
    (Value.run m ρ)

end Cert.Proof.RefRun

end
-- ==== Proof.Frames.lean ====
/-
  The frames. The idealized kernel is the kernel's own text read over another type of floats, so its run over any floats
  is the kernel's.
-/
module

public import proofs.«01_k».proof.Defs
public import proofs.«01_k».proof.Proof.Launch
public import proofs.«01_k».proof.Proof.RefRun
public import proofs.«01_k».proof.Proof.Gen.Kernel
public import Idealize.ShloMosaic.Lib.Ring

@[expose] public section

set_option maxRecDepth 100000

noncomputable section

namespace Cert.Proof

open Idealize.ShloMosaic Idealize.SL.Sem

variable {F : FTy → Type} [FloatOps F]

/-- The kernel and its idealization have the same bodies. -/
theorem defs_eq : (Kernel.defs (F := F)) = KernelIdeal.defs (F := F) := by sl_kernel_rfl

/-- The kernel and its idealization have the same main program. -/
theorem main_eq : (Kernel.main (F := F)) = KernelIdeal.main (F := F) := rfl

/-- The kernel terminates, its arguments unchanged. -/
theorem frame_kernel : Cert.quiescent_Kernel := by
  intro m ρ _
  rw [defs_eq, main_eq]
  exact KernelIdeal.Own.frame m ρ

/-- The idealized kernel terminates, its arguments unchanged. -/
theorem frame_ideal : Cert.quiescent_KernelIdeal := fun m ρ _ => KernelIdeal.Own.frame m ρ

/-- The reference terminates, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (RefRun.run (F := Ideal) m ρ)

end Cert.Proof

end
-- ==== Proof.Chunk.lean ====
/-
  Gated linear attention over one chunk of 64 time steps, in the extended reals: what the chunk adds to its outputs and
  how it renews the state, in the form that writes the decay from step `s` to step `t` as one factor
  `exp (b t - b s)`; and the equations that factor it into `exp (b t)` and `exp (- b s)`.
-/
module

public import Idealize.ShloMosaic.Lib.Pointwise

@[expose] public section

noncomputable section

namespace Cert.Proof.Chunk

open Idealize.ShloMosaic

/-! ### The log decay -/

/-- `log σ(x) / 16`, in the form with one exponential of a number that is not positive. -/
def logDecay (x : EReal) : EReal :=
  (min x 0 - Ideal.log1p (Ideal.exp (-max x (-x)))) * ((1 / 16 : ℝ) : EReal)

theorem log_one_add_zero : Ideal.log ((1 : EReal) + 0) = ((0 : ℝ) : EReal) := by
  rw [add_zero]
  show (if (1 : ℝ) ≤ 0 then (⊥ : EReal) else ((Real.log 1 : ℝ) : EReal)) = _
  rw [if_neg (by norm_num), Real.log_one]

/-- The exponential of minus the absolute value, plus one, has a logarithm that is a nonnegative real. -/
theorem log1p_exp_neg_abs (x : EReal) : ∃ r : ℝ, 0 ≤ r ∧ Ideal.log1p (Ideal.exp (-max x (-x))) = (r : EReal) := by
  induction x using EReal.rec with
  | bot =>
    refine ⟨0, le_refl _, ?_⟩
    rw [EReal.neg_bot, max_eq_right bot_le, EReal.neg_top]
    exact log_one_add_zero
  | top =>
    refine ⟨0, le_refl _, ?_⟩
    rw [EReal.neg_top, max_eq_left bot_le, EReal.neg_top]
    exact log_one_add_zero
  | coe r =>
    have e : -max (r : EReal) (-(r : EReal)) = ((-max r (-r) : ℝ) : EReal) := by
      rw [EReal.coe_neg, ← EReal.coe_neg r, EReal.coe_strictMono.monotone.map_max]
    have p : 0 < Real.exp (-max r (-r)) := Real.exp_pos _
    refine ⟨Real.log (1 + Real.exp (-max r (-r))), Real.log_nonneg (by linarith), ?_⟩
    rw [e]
    show Ideal.log (1 + ((Real.exp (-max r (-r)) : ℝ) : EReal)) = _
    have e1 : (1 : EReal) + ((Real.exp (-max r (-r)) : ℝ) : EReal) = ((1 + Real.exp (-max r (-r)) : ℝ) : EReal) := by
      rw [EReal.coe_add]; rfl
    rw [e1]
    show (if 1 + Real.exp (-max r (-r)) ≤ 0 then (⊥ : EReal) else _) = _
    rw [if_neg (by linarith)]

/-- The log decay is not positive. -/
theorem logDecay_nonpos (x : EReal) : logDecay x ≤ 0 := by
  obtain ⟨r, hr, e⟩ := log1p_exp_neg_abs x
  unfold logDecay
  rw [e]
  have h1 : min x 0 - (r : EReal) ≤ 0 := by
    rw [EReal.sub_nonpos]
    exact (min_le_right _ _).trans (by exact_mod_cast hr)
  have h2 : (0 : EReal) ≤ ((1 / 16 : ℝ) : EReal) := by exact_mod_cast (by norm_num : (0 : ℝ) ≤ 1 / 16)
  exact EReal.mul_nonpos_iff.2 (Or.inr ⟨h1, h2⟩)

/-- The log decay from the softplus of minus the argument, divided by 16. -/
theorem logDecay_of_softplus (x : EReal) :
    Ideal.div (-(max (-x) 0 + Ideal.log1p (Ideal.exp (-max (-x) (- -x))))) ((16 : ℝ) : EReal) = logDecay x := by
  obtain ⟨r, hr, e⟩ := log1p_exp_neg_abs x
  have e' : Ideal.log1p (Ideal.exp (-max (-x) (- -x))) = (r : EReal) := by rw [neg_neg, max_comm]; exact e
  unfold logDecay
  rw [e, e', Ideal.div_coe, EReal.neg_add (Or.inr (EReal.coe_ne_top r)) (Or.inr (EReal.coe_ne_bot r))]
  · congr 2
    rcases le_total x 0 with h | h
    · rw [min_eq_left h, max_eq_left (EReal.neg_nonneg.2 h), neg_neg]
    · rw [min_eq_right h, max_eq_right (EReal.neg_le_zero.2 h), neg_zero]
  · norm_num

/-! ### Running sums of the log decay -/

/-- The sum of the entries up to and with `t`. -/
def cum {n : ℕ} (a : Fin n → EReal) (t : Fin n) : EReal := ∑ s, if s ≤ t then a s else 0

theorem cum_nonpos {n : ℕ} {a : Fin n → EReal} (ha : ∀ s, a s ≤ 0) (t : Fin n) : cum a t ≤ 0 :=
  Finset.sum_nonpos fun s _ => by split_ifs; exacts [ha s, le_refl _]

theorem cum_anti {n : ℕ} {a : Fin n → EReal} (ha : ∀ s, a s ≤ 0) {s t : Fin n} (h : s ≤ t) : cum a t ≤ cum a s :=
  Finset.sum_le_sum fun u _ => by
    by_cases h1 : u ≤ s
    · rw [if_pos h1, if_pos (h1.trans h)]
    · rw [if_neg h1]; split_ifs; exacts [ha u, le_refl _]

/-- Between two running sums the decay is one exponential: the two factors `exp B` and `exp (0 - b)` make `exp (B - b)`. -/
theorem factor (q k B b : EReal) (h : B ≤ b) (hb : b ≤ 0) :
    (q * Ideal.exp B) * (k * Ideal.exp (0 - b)) = q * k * Ideal.exp (B - b) := by
  induction B using EReal.rec with
  | bot =>
    have e : (⊥ : EReal) - b = ⊥ := by rw [sub_eq_add_neg]; exact EReal.bot_add _
    rw [e]
    show (q * 0) * _ = q * k * 0
    rw [mul_zero, zero_mul, mul_zero]
  | top => exact absurd (lt_of_lt_of_le EReal.zero_lt_top (h.trans hb)) (lt_irrefl _)
  | coe B =>
    induction b using EReal.rec with
    | bot => exact absurd (lt_of_lt_of_le (EReal.bot_lt_coe B) h) (lt_irrefl _)
    | top => exact absurd (lt_of_lt_of_le EReal.zero_lt_top hb) (lt_irrefl _)
    | coe b =>
      have e1 : (0 : EReal) - (b : EReal) = ((-b : ℝ) : EReal) := by rw [zero_sub, EReal.coe_neg]
      have e2 : (B : EReal) - (b : EReal) = ((B + -b : ℝ) : EReal) := by rw [← EReal.coe_sub]; rfl
      rw [e1, e2]
      show (q * ((Real.exp B : ℝ) : EReal)) * (k * ((Real.exp (-b) : ℝ) : EReal)) = q * k * ((Real.exp (B + -b) : ℝ) : EReal)
      rw [Real.exp_add, EReal.coe_mul]
      ac_rfl

/-- A sum with a term that is minus infinity is minus infinity. -/
theorem sum_eq_bot {ι : Type} [Fintype ι] [DecidableEq ι] {f : ι → EReal} (i : ι) (h : f i = ⊥) : ∑ j, f j = ⊥ := by
  rw [← Finset.add_sum_erase _ _ (Finset.mem_univ i), h, EReal.bot_add]

/-- A masked sum taken as the sum of the entries and of their differences to themselves. -/
theorem two_part_sum {ι : Type} [Fintype ι] [DecidableEq ι] (p : ι → Prop) [DecidablePred p] (a : ι → EReal)
    (ha : ∀ i, a i ≤ 0) :
    (∑ i, (if p i then (1 : EReal) else 0) * a i) + (∑ i, (if p i then (1 : EReal) else 0) * (a i - a i))
      = ∑ i, if p i then a i else 0 := by
  have e : ∀ i, (if p i then (1 : EReal) else 0) * a i = if p i then a i else 0 := fun i => by
    split_ifs; exacts [one_mul _, zero_mul _]
  simp only [e]
  by_cases hb : ∃ i, p i ∧ a i = ⊥
  · obtain ⟨i, hp, hi⟩ := hb
    rw [sum_eq_bot (f := fun i => if p i then a i else 0) i (by rw [if_pos hp, hi]), EReal.bot_add]
  · have z : ∀ i, (if p i then (1 : EReal) else 0) * (a i - a i) = 0 := fun i => by
      split_ifs with hp
      · rw [one_mul]
        refine EReal.sub_self (fun h => ?_) (fun h => hb ⟨i, hp, h⟩)
        have := ha i; rw [h] at this; exact absurd (lt_of_lt_of_le EReal.zero_lt_top this) (lt_irrefl _)
      · exact zero_mul _
    rw [Finset.sum_congr rfl fun i _ => z i, Finset.sum_const_zero, add_zero]

/-! ### One chunk -/

/-- What a chunk's step `t` attends of step `s`: the queries and keys under the decay from `s` to `t`. -/
def attn (q k b : Fin 64 → Fin 128 → EReal) (t s : Fin 64) : EReal :=
  ∑ d, q t d * k s d * (if s ≤ t then Ideal.exp (b t d - b s d) else 0)

/-- The chunk's outputs, of the state `S` it starts from and the running sums `b` of its log decays. -/
def out (q k b : Fin 64 → Fin 128 → EReal) (v : Fin 64 → Fin 256 → EReal) (S : Fin 128 → Fin 256 → EReal)
    (t : Fin 64) (e : Fin 256) : EReal :=
  (∑ d, S d e * (q t d * Ideal.exp (b t d))) + ∑ s, v s e * attn q k b t s

/-- The state the chunk leaves. -/
def next (k b : Fin 64 → Fin 128 → EReal) (v : Fin 64 → Fin 256 → EReal) (S : Fin 128 → Fin 256 → EReal)
    (d : Fin 128) (e : Fin 256) : EReal :=
  Ideal.exp (b 63 d) * S d e + ∑ s, (k s d * Ideal.exp (b 63 d - b s d)) * v s e

/-- The running sums of the log decays, column by column. -/
def cums (a : Fin 64 → Fin 128 → EReal) (t : Fin 64) (d : Fin 128) : EReal := cum (fun s => a s d) t

/-- The attention from the factored decay, masked after the product. -/
theorem attn_factored {a : Fin 64 → Fin 128 → EReal} (ha : ∀ s d, a s d ≤ 0) (q k : Fin 64 → Fin 128 → EReal)
    (t s : Fin 64) :
    (if s ≤ t then ∑ d, (q t d * Ideal.exp (cums a t d)) * (k s d * Ideal.exp (0 - cums a s d)) else 0)
      = attn q k (cums a) t s := by
  unfold attn
  by_cases h : s ≤ t
  · rw [if_pos h]
    refine Finset.sum_congr rfl fun d _ => ?_
    rw [if_pos h]
    exact factor _ _ _ _ (cum_anti (fun u => ha u d) h) (cum_nonpos (fun u => ha u d) s)
  · rw [if_neg h]
    refine (Finset.sum_eq_zero fun d _ => ?_).symm
    rw [if_neg h, mul_zero]

/-! ### The chunks of a sequence -/

/-- The state before chunk `n`, of the keys, values and log decays of every chunk. -/
def state (K A : ℕ → Fin 64 → Fin 128 → EReal) (V : ℕ → Fin 64 → Fin 256 → EReal) : ℕ → Fin 128 → Fin 256 → EReal
  | 0 => fun _ _ => 0
  | n + 1 => next (K n) (cums (A n)) (V n) (state K A V n)

/-- The outputs of chunk `n`. -/
def outs (Q K A : ℕ → Fin 64 → Fin 128 → EReal) (V : ℕ → Fin 64 → Fin 256 → EReal) (n : ℕ) : Fin 64 → Fin 256 → EReal :=
  out (Q n) (K n) (cums (A n)) (V n) (state K A V n)

/-! ### Rows of a block of 256 as four chunks of 64 -/

/-- Row `i` of chunk `c`. -/
def row (c : Fin 4) (i : Fin 64) : Fin 256 := ⟨64 * c.val + i.val, by omega⟩

/-- A sum over 256 rows, chunk by chunk. -/
theorem sum_rows (f : Fin 256 → EReal) : ∑ r, f r = ∑ c, ∑ i, f (row c i) := by
  rw [← Fintype.sum_prod_type', ← Equiv.sum_comp (finProdFinEquiv (m := 4) (n := 64)) f]
  refine Finset.sum_congr rfl fun x _ => congrArg f (Fin.ext ?_)
  show x.2.val + 64 * x.1.val = 64 * x.1.val + x.2.val
  omega

/-- A sum over 256 rows of a function that vanishes off one chunk is the sum over that chunk. -/
theorem sum_rows_own (f : Fin 256 → EReal) (c : Fin 4) (h : ∀ c' i, c' ≠ c → f (row c' i) = 0) :
    ∑ r, f r = ∑ i, f (row c i) := by
  rw [sum_rows, Finset.sum_eq_single c (fun c' _ hc => Finset.sum_eq_zero fun i _ => h c' i hc)
    (fun hc => absurd (Finset.mem_univ c) hc)]

/-- Column `d` of the copy `c` of 128 columns among four. -/
def col (c : Fin 4) (d : Fin 128) : Fin 512 := ⟨128 * c.val + d.val, by omega⟩

/-- A sum over 512 columns of a function that vanishes off one copy is the sum over that copy. -/
theorem sum_cols_own (f : Fin 512 → EReal) (c : Fin 4) (h : ∀ c' d, c' ≠ c → f (col c' d) = 0) :
    ∑ r, f r = ∑ d, f (col c d) := by
  have e : ∑ r, f r = ∑ c, ∑ d, f (col c d) := by
    rw [← Fintype.sum_prod_type', ← Equiv.sum_comp (finProdFinEquiv (m := 4) (n := 128)) f]
    refine Finset.sum_congr rfl fun x _ => congrArg f (Fin.ext ?_)
    show x.2.val + 128 * x.1.val = 128 * x.1.val + x.2.val
    omega
  rw [e, Finset.sum_eq_single c (fun c' _ hc => Finset.sum_eq_zero fun i _ => h c' i hc)
    (fun hc => absurd (Finset.mem_univ c) hc)]

end Cert.Proof.Chunk

end
-- ==== Proof.Head.lean ====
/-
  One head of one trip of the kernel's loop, as functions of the arrays the trip reads: 256 rows of the head's queries,
  keys, values and gates, the running sums of its log decays, and its state. The four heads of a trip are the same
  functions of their own columns.
-/
module

public import proofs.«01_k».proof.Proof.Gen.KernelIdeal.Loops

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ### One head -/

/-- The running sums of the log decays of 256 rows, of their low-rank coefficients. -/
def cumRows (tri : FVec F S256x256 .bf16) (w : Vec F S16x512 .f32) (p : Vec F S1x512 .f32) (x : Vec F S1x256x128 .f32) :
    FVec F S256x512 .f32 :=
  let pre := addf (matmul dot_S256x16_S16x512_S256x512_1_0_0_1_n_n none
      (truncf .bf16 (extractStridedSlice S256x16 ![0, 0] (shapeCast S256x128 x shapeCasts_S1x256x128_S256x128) slices_S256x128_o0_0_S256x16) bitsLt_bf16_f32)
      (truncf .bf16 w bitsLt_bf16_f32) (constant S256x512 .f32 0x00000000#32))
    (broadcastTo S256x512 (shapeCast S1x512 p shapeCasts_S1x512_S1x512) broadcasts_S1x512_S256x512)
  let a := mulf (subf (minimumf pre (broadcast S256x512 (Scalar.ofBits .f32 0x00000000#32)))
      (log1p (exp (subf (broadcast S256x512 (Scalar.ofBits .f32 0x00000000#32)) (absf pre)))))
    (broadcast S256x512 (Scalar.ofBits .f32 0x3D800000#32))
  addf (matmul dot_S256x256_S256x512_S256x512_1_0_0_1_n_n none tri (truncf .bf16 a bitsLt_bf16_f32) (constant S256x512 .f32 0x00000000#32))
    (matmul dot_S256x256_S256x512_S256x512_1_0_0_1_n_n none tri
      (truncf .bf16 (subf a (extf .f32 (truncf .bf16 a bitsLt_bf16_f32) bitsLt_bf16_f32)) bitsLt_bf16_f32)
      (constant S256x512 .f32 0x00000000#32))

/-- The running sums at the last row of each of the four chunks. -/
def lastRows (b : FVec F S256x128 .f32) : FVec F S4x1x128 .f32 :=
  extractStridedSlice S4x1x128 ![0, 63, 0] (shapeCast S4x64x128 b shapeCasts_S256x128_S4x64x128) slices_S4x64x128_o0_63_0_S4x1x128

/-- The same, at every row of its chunk. -/
def lastAtRows (b : FVec F S256x128 .f32) : FVec F S256x128 .f32 :=
  shapeCast S256x128 (broadcastTo S4x64x128 (shapeCast S4x1x128 (lastRows b) shapeCasts_S4x1x128_S4x1x128)
    broadcasts_S4x1x128_S4x64x128) shapeCasts_S4x64x128_S256x128

/-- The scaled queries under the decay from the chunk's start. -/
def qDecayed (b : FVec F S256x128 .f32) (q : Vec F S1x256x128 .f32) : FVec F S256x128 .bf16 :=
  truncf .bf16 (mulf (mulf (shapeCast S256x128 q shapeCasts_S1x256x128_S256x128) (broadcast S256x128 (Scalar.ofBits .f32 0x3DB504F3#32))) (exp b))
    bitsLt_bf16_f32

/-- The keys under the inverse of that decay. -/
def kInverse (b : FVec F S256x128 .f32) (k : Vec F S1x256x128 .f32) : FVec F S256x128 .bf16 :=
  truncf .bf16 (mulf (shapeCast S256x128 k shapeCasts_S1x256x128_S256x128) (exp (subf (broadcast S256x128 (Scalar.ofBits .f32 0x00000000#32)) b)))
    bitsLt_bf16_f32

/-- The keys under the decay to the chunk's end. -/
def kToEnd (b : FVec F S256x128 .f32) (k : Vec F S1x256x128 .f32) : FVec F S256x128 .bf16 :=
  truncf .bf16 (mulf (shapeCast S256x128 k shapeCasts_S1x256x128_S256x128) (exp (subf (lastAtRows b) b))) bitsLt_bf16_f32

/-- The values. -/
def vRows (v : Vec F S1x256x256 .f32) : FVec F S256x256 .bf16 :=
  truncf .bf16 (shapeCast S256x256 v shapeCasts_S1x256x256_S256x256) bitsLt_bf16_f32

/-- What each row attends of the rows of its own chunk. -/
def within (tri : IVec S256x256 1) (b : FVec F S256x128 .f32) (q k : Vec F S1x256x128 .f32) (v : Vec F S1x256x256 .f32) :
    FVec F S256x256 .f32 :=
  matmul dot_S256x256_S256x256_S256x256_1_0_0_1_n_n none
    (truncf .bf16 (select tri (matmul dot_S256x128_S256x128_S256x256_1_1_0_0_n_n none (qDecayed b q) (kInverse b k)
      (constant S256x256 .f32 0x00000000#32)) (broadcast S256x256 (Scalar.ofBits .f32 0x00000000#32))) bitsLt_bf16_f32)
    (vRows v) (constant S256x256 .f32 0x00000000#32)

/-- Four copies side by side, each row kept in its own chunk's copy. -/
def spread (own : IVec S256x512 1) (x : FVec F S256x128 .bf16) : FVec F S256x512 .bf16 :=
  select own (concatenate S256x512 1 [⟨S256x128, x⟩, ⟨S256x128, x⟩, ⟨S256x128, x⟩, ⟨S256x128, x⟩]
    concatenates_S256x128_S256x128_S256x128_S256x128_S256x512_d1) (broadcast S256x512 (Scalar.ofBits .bf16 0x0000#16))

/-- What each chunk adds to the state, the four side by side. -/
def added (own : IVec S256x512 1) (b : FVec F S256x128 .f32) (k : Vec F S1x256x128 .f32) (v : Vec F S1x256x256 .f32) :
    FVec F S256x512 .f32 :=
  matmul dot_S256x256_S256x512_S256x512_0_0_1_1_n_n none (vRows v) (spread own (kToEnd b k)) (constant S256x512 .f32 0x00000000#32)

/-- The state a trip starts from, without its leading axis. -/
def state0 (st : Vec F S1x256x128 .f32) : FVec F S256x128 .f32 := shapeCast S256x128 st shapeCasts_S1x256x128_S256x128

/-- The state after chunk 0. -/
def state1 (b : FVec F S256x128 .f32) (u : FVec F S256x512 .f32) (s : FVec F S256x128 .f32) : FVec F S256x128 .f32 :=
  addf (mulf s (broadcastTo S256x128 (shapeCast S1x128 (extractStridedSlice S1x1x128 ![0, 0, 0] (exp (lastRows b))
    slices_S4x1x128_o0_0_0_S1x1x128) shapeCasts_S1x1x128_S1x128) broadcasts_S1x128_S256x128))
    (extractStridedSlice S256x128 ![0, 0] u slices_S256x512_o0_0_S256x128)

/-- The state after chunk 1, of the one after chunk 0. -/
def state2 (b : FVec F S256x128 .f32) (u : FVec F S256x512 .f32) (s : FVec F S256x128 .f32) : FVec F S256x128 .f32 :=
  addf (mulf s (broadcastTo S256x128 (shapeCast S1x128 (extractStridedSlice S1x1x128 ![1, 0, 0] (exp (lastRows b))
    slices_S4x1x128_o1_0_0_S1x1x128) shapeCasts_S1x1x128_S1x128) broadcasts_S1x128_S256x128))
    (extractStridedSlice S256x128 ![0, 128] u slices_S256x512_o0_128_S256x128)

/-- The state after chunk 2, of the one after chunk 1. -/
def state3 (b : FVec F S256x128 .f32) (u : FVec F S256x512 .f32) (s : FVec F S256x128 .f32) : FVec F S256x128 .f32 :=
  addf (mulf s (broadcastTo S256x128 (shapeCast S1x128 (extractStridedSlice S1x1x128 ![2, 0, 0] (exp (lastRows b))
    slices_S4x1x128_o2_0_0_S1x1x128) shapeCasts_S1x1x128_S1x128) broadcasts_S1x128_S256x128))
    (extractStridedSlice S256x128 ![0, 256] u slices_S256x512_o0_256_S256x128)

/-- The state after chunk 3, of the one after chunk 2. -/
def state4 (b : FVec F S256x128 .f32) (u : FVec F S256x512 .f32) (s : FVec F S256x128 .f32) : FVec F S256x128 .f32 :=
  addf (mulf s (broadcastTo S256x128 (shapeCast S1x128 (extractStridedSlice S1x1x128 ![3, 0, 0] (exp (lastRows b))
    slices_S4x1x128_o3_0_0_S1x1x128) shapeCasts_S1x1x128_S1x128) broadcasts_S1x128_S256x128))
    (extractStridedSlice S256x128 ![0, 384] u slices_S256x512_o0_384_S256x128)

/-- The state a trip leaves, with its leading axis. -/
def stateAfter (b : FVec F S256x128 .f32) (u : FVec F S256x512 .f32) (st : Vec F S1x256x128 .f32) : FVec F S1x256x128 .f32 :=
  shapeCast S1x256x128 (state4 b u (state3 b u (state2 b u (state1 b u (state0 st))))) shapeCasts_S256x128_S1x256x128

/-- What each row reads of the state its chunk starts from. -/
def across (own : IVec S256x512 1) (b : FVec F S256x128 .f32) (q : Vec F S1x256x128 .f32) (u : FVec F S256x512 .f32)
    (st : Vec F S1x256x128 .f32) : FVec F S256x256 .f32 :=
  matmul dot_S256x512_S256x512_S256x256_1_1_0_0_n_n none (spread own (qDecayed b q))
    (concatenate S256x512 1 [⟨S256x128, truncf .bf16 (state0 st) bitsLt_bf16_f32⟩,
      ⟨S256x128, truncf .bf16 (state1 b u (state0 st)) bitsLt_bf16_f32⟩,
      ⟨S256x128, truncf .bf16 (state2 b u (state1 b u (state0 st))) bitsLt_bf16_f32⟩,
      ⟨S256x128, truncf .bf16 (state3 b u (state2 b u (state1 b u (state0 st)))) bitsLt_bf16_f32⟩]
      concatenates_S256x128_S256x128_S256x128_S256x128_S256x512_d1) (constant S256x256 .f32 0x00000000#32)

/-- The head's outputs before the normalization. -/
def mixed (tri : IVec S256x256 1) (own : IVec S256x512 1) (b : FVec F S256x128 .f32) (q k : Vec F S1x256x128 .f32)
    (v : Vec F S1x256x256 .f32) (st : Vec F S1x256x128 .f32) : FVec F S256x256 .f32 :=
  addf (within tri b q k v) (across own b q (added own b k v) st)

/-- The outputs normalized, scaled by the gain and gated. -/
def gated (o : FVec F S256x256 .f32) (gain : Vec F S1x256 .f32) (g : Vec F S1x256x256 .f32) : FVec F S1x256x256 .bf16 :=
  shapeCast S1x256x256 (truncf .bf16 (mulf
    (mulf (mulf o (broadcastTo S256x256 (rsqrt (addf (divf (shapeCast S256x1 (multiReduction .add [1] S256 (mulf o o) 0x00000000#32
        reduces_S256x256_S256 (.inl rfl) rfl) shapeCasts_S256_S256x1) (broadcast S256x1 (Scalar.ofBits .f32 0x43800000#32)))
        (broadcast S256x1 (Scalar.ofBits .f32 0x358637BD#32)))) broadcasts_S256x1_S256x256))
      (broadcastTo S256x256 (shapeCast S1x256 gain shapeCasts_S1x256_S1x256) broadcasts_S1x256_S256x256))
    (mulf (shapeCast S256x256 g shapeCasts_S1x256x256_S256x256) (logistic (shapeCast S256x256 g shapeCasts_S1x256x256_S256x256))))
    bitsLt_bf16_f32) shapeCasts_S256x256_S1x256x256

/-! ### The kernel's own text of a head -/

/-- The running sums, in the kernel's text. -/
theorem cum_eq (v58 : FVec F S256x256 .bf16) (w : Vec F S16x512 .f32) (p : Vec F S1x512 .f32) (x : Vec F S1x256x128 .f32) :
    k0_pay6 v58 (k0_pay2 w) (k0_pay3 p) x = cumRows v58 w p x := rfl

/-- What head 0 attends within the chunks, in the kernel's text. -/
theorem within0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay42 tri (k0_pay11 v58 w p x q) (k0_pay12 (k0_pay7 v58 w p x) (k0_pay10 y) (Scalar.ofBits .f32 0x00000000#32)) (k0_pay15 v) = within tri (extractStridedSlice S256x128 ![0, 0] (k0_pay6 v58 w p x) slices_S256x512_o0_0_S256x128) q y v := rfl

/-- What head 0's chunks add to its state, in the kernel's text. -/
theorem added0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay46 own (k0_pay13 (k0_pay7 v58 w p x) (k0_pay9 v58 w p x) (k0_pay10 y)) (k0_pay15 v) = added own (extractStridedSlice S256x128 ![0, 0] (k0_pay6 v58 w p x) slices_S256x512_o0_0_S256x128) y v := rfl

/-- What head 0 reads of its state, in the kernel's text. -/
theorem across0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay57 own (k0_pay11 v58 w p x q) (k0_pay14 (k0_pay8 v58 w p x)) u st = across own (extractStridedSlice S256x128 ![0, 0] (k0_pay6 v58 w p x) slices_S256x512_o0_0_S256x128) q u st := rfl

/-- The gating of head 0, in the kernel's text. -/
theorem gated0_eq (o o' : FVec F S256x256 .f32) (g : Vec F S1x256x256 .f32) (gain : Vec F S1x256 .f32) :
    k0_pay84 (k0_pay4 gain) o o' g = gated (addf o o') gain g := rfl

/-- The outputs of head 0 as the kernel's text gives them. -/
theorem out0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay84 (k0_pay4 gain) (k0_pay42 tri (k0_pay11 v58 w p x q) (k0_pay12 (k0_pay7 v58 w p x) (k0_pay10 y) (Scalar.ofBits .f32 0x00000000#32)) (k0_pay15 v)) (k0_pay57 own (k0_pay11 v58 w p x q) (k0_pay14 (k0_pay8 v58 w p x)) (k0_pay46 own (k0_pay13 (k0_pay7 v58 w p x) (k0_pay9 v58 w p x) (k0_pay10 y)) (k0_pay15 v)) st) g
      = gated (mixed tri own (extractStridedSlice S256x128 ![0, 0] (k0_pay6 v58 w p x) slices_S256x512_o0_0_S256x128) q y v st) gain g := by
  rw [added0_eq tri own v58 w p x q y v g st gain, across0_eq tri own v58 w p x q y v g st gain,
    within0_eq tri own v58 w p x q y v g st gain, gated0_eq]
  rfl

/-- The state of head 0, of what its chunks add, in the kernel's text. -/
theorem after0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay56 (k0_pay14 (k0_pay8 v58 w p x)) u st = stateAfter (extractStridedSlice S256x128 ![0, 0] (k0_pay6 v58 w p x) slices_S256x512_o0_0_S256x128) u st := rfl

/-- The state of head 0 as the kernel's text gives it. -/
theorem state_head0_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay56 (k0_pay14 (k0_pay8 v58 w p x)) (k0_pay46 own (k0_pay13 (k0_pay7 v58 w p x) (k0_pay9 v58 w p x) (k0_pay10 y)) (k0_pay15 v)) st
      = stateAfter (extractStridedSlice S256x128 ![0, 0] (k0_pay6 v58 w p x) slices_S256x512_o0_0_S256x128) (added own (extractStridedSlice S256x128 ![0, 0] (k0_pay6 v58 w p x) slices_S256x512_o0_0_S256x128) y v) st := by
  rw [added0_eq tri own v58 w p x q y v g st gain, after0_eq tri own v58 w p x q y v g st gain]

/-- What head 1 attends within the chunks, in the kernel's text. -/
theorem within1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay43 tri (k0_pay19 (k0_pay6 v58 w p x) q) (k0_pay20 (k0_pay6 v58 w p x) y) (k0_pay23 v) = within tri (extractStridedSlice S256x128 ![0, 128] (k0_pay6 v58 w p x) slices_S256x512_o0_128_S256x128) q y v := rfl

/-- What head 1's chunks add to its state, in the kernel's text. -/
theorem added1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay47 own (k0_pay21 (k0_pay6 v58 w p x) y) (k0_pay23 v) = added own (extractStridedSlice S256x128 ![0, 128] (k0_pay6 v58 w p x) slices_S256x512_o0_128_S256x128) y v := rfl

/-- What head 1 reads of its state, in the kernel's text. -/
theorem across1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay63 own (k0_pay19 (k0_pay6 v58 w p x) q) (k0_pay22 (k0_pay6 v58 w p x)) u st = across own (extractStridedSlice S256x128 ![0, 128] (k0_pay6 v58 w p x) slices_S256x512_o0_128_S256x128) q u st := rfl

/-- The gating of head 1, in the kernel's text. -/
theorem gated1_eq (o o' : FVec F S256x256 .f32) (g : Vec F S1x256x256 .f32) (gain : Vec F S1x256 .f32) :
    k0_pay87 (k0_pay4 gain) (k0_pay85 o o') (k0_pay86 o o') g = gated (addf o o') gain g := rfl

/-- The outputs of head 1 as the kernel's text gives them. -/
theorem out1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay87 (k0_pay4 gain) (k0_pay85 (k0_pay43 tri (k0_pay19 (k0_pay6 v58 w p x) q) (k0_pay20 (k0_pay6 v58 w p x) y) (k0_pay23 v)) (k0_pay63 own (k0_pay19 (k0_pay6 v58 w p x) q) (k0_pay22 (k0_pay6 v58 w p x)) (k0_pay47 own (k0_pay21 (k0_pay6 v58 w p x) y) (k0_pay23 v)) st)) (k0_pay86 (k0_pay43 tri (k0_pay19 (k0_pay6 v58 w p x) q) (k0_pay20 (k0_pay6 v58 w p x) y) (k0_pay23 v)) (k0_pay63 own (k0_pay19 (k0_pay6 v58 w p x) q) (k0_pay22 (k0_pay6 v58 w p x)) (k0_pay47 own (k0_pay21 (k0_pay6 v58 w p x) y) (k0_pay23 v)) st)) g
      = gated (mixed tri own (extractStridedSlice S256x128 ![0, 128] (k0_pay6 v58 w p x) slices_S256x512_o0_128_S256x128) q y v st) gain g := by
  rw [added1_eq tri own v58 w p x q y v g st gain, across1_eq tri own v58 w p x q y v g st gain,
    within1_eq tri own v58 w p x q y v g st gain, gated1_eq]
  rfl

/-- The state of head 1, of what its chunks add, in the kernel's text. -/
theorem after1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay62 (k0_pay22 (k0_pay6 v58 w p x)) u st = stateAfter (extractStridedSlice S256x128 ![0, 128] (k0_pay6 v58 w p x) slices_S256x512_o0_128_S256x128) u st := rfl

/-- The state of head 1 as the kernel's text gives it. -/
theorem state_head1_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay62 (k0_pay22 (k0_pay6 v58 w p x)) (k0_pay47 own (k0_pay21 (k0_pay6 v58 w p x) y) (k0_pay23 v)) st
      = stateAfter (extractStridedSlice S256x128 ![0, 128] (k0_pay6 v58 w p x) slices_S256x512_o0_128_S256x128) (added own (extractStridedSlice S256x128 ![0, 128] (k0_pay6 v58 w p x) slices_S256x512_o0_128_S256x128) y v) st := by
  rw [added1_eq tri own v58 w p x q y v g st gain, after1_eq tri own v58 w p x q y v g st gain]

/-- What head 2 attends within the chunks, in the kernel's text. -/
theorem within2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay44 tri (k0_pay28 (k0_pay24 (k0_pay6 v58 w p x)) q) (k0_pay29 (k0_pay24 (k0_pay6 v58 w p x)) y) (k0_pay32 v) = within tri (extractStridedSlice S256x128 ![0, 256] (k0_pay6 v58 w p x) slices_S256x512_o0_256_S256x128) q y v := rfl

/-- What head 2's chunks add to its state, in the kernel's text. -/
theorem added2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay50 own (k0_pay32 v) (k0_pay48 (k0_pay30 (k0_pay24 (k0_pay6 v58 w p x)) (k0_pay26 (k0_pay6 v58 w p x)) y)) k0_pay49 = added own (extractStridedSlice S256x128 ![0, 256] (k0_pay6 v58 w p x) slices_S256x512_o0_256_S256x128) y v := rfl

/-- What head 2 reads of its state, in the kernel's text. -/
theorem across2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay72 own (k0_pay28 (k0_pay24 (k0_pay6 v58 w p x)) q) (k0_pay31 (k0_pay25 (k0_pay6 v58 w p x))) u (k0_pay65 st) (k0_pay67 (k0_pay31 (k0_pay25 (k0_pay6 v58 w p x))) u st) (k0_pay68 (k0_pay31 (k0_pay25 (k0_pay6 v58 w p x))) u st) = across own (extractStridedSlice S256x128 ![0, 256] (k0_pay6 v58 w p x) slices_S256x512_o0_256_S256x128) q u st := rfl

/-- The gating of head 2, in the kernel's text. -/
theorem gated2_eq (o o' : FVec F S256x256 .f32) (g : Vec F S1x256x256 .f32) (gain : Vec F S1x256 .f32) :
    k0_pay88 (k0_pay4 gain) o o' g = gated (addf o o') gain g := rfl

/-- The outputs of head 2 as the kernel's text gives them. -/
theorem out2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay88 (k0_pay4 gain) (k0_pay44 tri (k0_pay28 (k0_pay24 (k0_pay6 v58 w p x)) q) (k0_pay29 (k0_pay24 (k0_pay6 v58 w p x)) y) (k0_pay32 v)) (k0_pay72 own (k0_pay28 (k0_pay24 (k0_pay6 v58 w p x)) q) (k0_pay31 (k0_pay25 (k0_pay6 v58 w p x))) (k0_pay50 own (k0_pay32 v) (k0_pay48 (k0_pay30 (k0_pay24 (k0_pay6 v58 w p x)) (k0_pay26 (k0_pay6 v58 w p x)) y)) k0_pay49) (k0_pay65 st) (k0_pay67 (k0_pay31 (k0_pay25 (k0_pay6 v58 w p x))) (k0_pay50 own (k0_pay32 v) (k0_pay48 (k0_pay30 (k0_pay24 (k0_pay6 v58 w p x)) (k0_pay26 (k0_pay6 v58 w p x)) y)) k0_pay49) st) (k0_pay68 (k0_pay31 (k0_pay25 (k0_pay6 v58 w p x))) (k0_pay50 own (k0_pay32 v) (k0_pay48 (k0_pay30 (k0_pay24 (k0_pay6 v58 w p x)) (k0_pay26 (k0_pay6 v58 w p x)) y)) k0_pay49) st)) g
      = gated (mixed tri own (extractStridedSlice S256x128 ![0, 256] (k0_pay6 v58 w p x) slices_S256x512_o0_256_S256x128) q y v st) gain g := by
  rw [added2_eq tri own v58 w p x q y v g st gain, across2_eq tri own v58 w p x q y v g st gain,
    within2_eq tri own v58 w p x q y v g st gain, gated2_eq]
  rfl

/-- The state of head 2, of what its chunks add, in the kernel's text. -/
theorem after2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay71 (k0_pay31 (k0_pay25 (k0_pay6 v58 w p x))) u (k0_pay68 (k0_pay31 (k0_pay25 (k0_pay6 v58 w p x))) u st) = stateAfter (extractStridedSlice S256x128 ![0, 256] (k0_pay6 v58 w p x) slices_S256x512_o0_256_S256x128) u st := rfl

/-- The state of head 2 as the kernel's text gives it. -/
theorem state_head2_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay71 (k0_pay31 (k0_pay25 (k0_pay6 v58 w p x))) (k0_pay50 own (k0_pay32 v) (k0_pay48 (k0_pay30 (k0_pay24 (k0_pay6 v58 w p x)) (k0_pay26 (k0_pay6 v58 w p x)) y)) k0_pay49) (k0_pay68 (k0_pay31 (k0_pay25 (k0_pay6 v58 w p x))) (k0_pay50 own (k0_pay32 v) (k0_pay48 (k0_pay30 (k0_pay24 (k0_pay6 v58 w p x)) (k0_pay26 (k0_pay6 v58 w p x)) y)) k0_pay49) st)
      = stateAfter (extractStridedSlice S256x128 ![0, 256] (k0_pay6 v58 w p x) slices_S256x512_o0_256_S256x128) (added own (extractStridedSlice S256x128 ![0, 256] (k0_pay6 v58 w p x) slices_S256x512_o0_256_S256x128) y v) st := by
  rw [added2_eq tri own v58 w p x q y v g st gain, after2_eq tri own v58 w p x q y v g st gain]

/-- What head 3 attends within the chunks, in the kernel's text. -/
theorem within3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay45 tri (k0_pay36 y) (k0_pay37 (k0_pay6 v58 w p x) q) (k0_pay38 (k0_pay6 v58 w p x)) v = within tri (extractStridedSlice S256x128 ![0, 384] (k0_pay6 v58 w p x) slices_S256x512_o0_384_S256x128) q y v := rfl

/-- What head 3's chunks add to its state, in the kernel's text. -/
theorem added3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay51 own (k0_pay39 (k0_pay33 (k0_pay6 v58 w p x)) (k0_pay35 (k0_pay6 v58 w p x)) (k0_pay36 y)) (k0_pay41 v) = added own (extractStridedSlice S256x128 ![0, 384] (k0_pay6 v58 w p x) slices_S256x512_o0_384_S256x128) y v := rfl

/-- What head 3 reads of its state, in the kernel's text. -/
theorem across3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay83 own (k0_pay37 (k0_pay6 v58 w p x) q) (k0_pay74 st) (k0_pay76 (k0_pay40 (k0_pay34 (k0_pay6 v58 w p x))) u st) (k0_pay78 (k0_pay40 (k0_pay34 (k0_pay6 v58 w p x))) u st) (k0_pay80 (k0_pay40 (k0_pay34 (k0_pay6 v58 w p x))) u st) = across own (extractStridedSlice S256x128 ![0, 384] (k0_pay6 v58 w p x) slices_S256x512_o0_384_S256x128) q u st := rfl

/-- The gating of head 3, in the kernel's text. -/
theorem gated3_eq (o o' : FVec F S256x256 .f32) (g : Vec F S1x256x256 .f32) (gain : Vec F S1x256 .f32) :
    k0_pay5 gain (k0_pay89 o o') (k0_pay90 o o') k0_pay91 g = gated (addf o o') gain g := rfl

/-- The outputs of head 3 as the kernel's text gives them. -/
theorem out3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay5 gain (k0_pay89 (k0_pay45 tri (k0_pay36 y) (k0_pay37 (k0_pay6 v58 w p x) q) (k0_pay38 (k0_pay6 v58 w p x)) v) (k0_pay83 own (k0_pay37 (k0_pay6 v58 w p x) q) (k0_pay74 st) (k0_pay76 (k0_pay40 (k0_pay34 (k0_pay6 v58 w p x))) (k0_pay51 own (k0_pay39 (k0_pay33 (k0_pay6 v58 w p x)) (k0_pay35 (k0_pay6 v58 w p x)) (k0_pay36 y)) (k0_pay41 v)) st) (k0_pay78 (k0_pay40 (k0_pay34 (k0_pay6 v58 w p x))) (k0_pay51 own (k0_pay39 (k0_pay33 (k0_pay6 v58 w p x)) (k0_pay35 (k0_pay6 v58 w p x)) (k0_pay36 y)) (k0_pay41 v)) st) (k0_pay80 (k0_pay40 (k0_pay34 (k0_pay6 v58 w p x))) (k0_pay51 own (k0_pay39 (k0_pay33 (k0_pay6 v58 w p x)) (k0_pay35 (k0_pay6 v58 w p x)) (k0_pay36 y)) (k0_pay41 v)) st))) (k0_pay90 (k0_pay45 tri (k0_pay36 y) (k0_pay37 (k0_pay6 v58 w p x) q) (k0_pay38 (k0_pay6 v58 w p x)) v) (k0_pay83 own (k0_pay37 (k0_pay6 v58 w p x) q) (k0_pay74 st) (k0_pay76 (k0_pay40 (k0_pay34 (k0_pay6 v58 w p x))) (k0_pay51 own (k0_pay39 (k0_pay33 (k0_pay6 v58 w p x)) (k0_pay35 (k0_pay6 v58 w p x)) (k0_pay36 y)) (k0_pay41 v)) st) (k0_pay78 (k0_pay40 (k0_pay34 (k0_pay6 v58 w p x))) (k0_pay51 own (k0_pay39 (k0_pay33 (k0_pay6 v58 w p x)) (k0_pay35 (k0_pay6 v58 w p x)) (k0_pay36 y)) (k0_pay41 v)) st) (k0_pay80 (k0_pay40 (k0_pay34 (k0_pay6 v58 w p x))) (k0_pay51 own (k0_pay39 (k0_pay33 (k0_pay6 v58 w p x)) (k0_pay35 (k0_pay6 v58 w p x)) (k0_pay36 y)) (k0_pay41 v)) st))) k0_pay91 g
      = gated (mixed tri own (extractStridedSlice S256x128 ![0, 384] (k0_pay6 v58 w p x) slices_S256x512_o0_384_S256x128) q y v st) gain g := by
  rw [added3_eq tri own v58 w p x q y v g st gain, across3_eq tri own v58 w p x q y v g st gain,
    within3_eq tri own v58 w p x q y v g st gain, gated3_eq]
  rfl

/-- The state of head 3, of what its chunks add, in the kernel's text. -/
theorem after3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) (u : FVec F S256x512 .f32) :
    k0_pay82 u (k0_pay79 (k0_pay40 (k0_pay34 (k0_pay6 v58 w p x))) u st) (k0_pay81 (k0_pay40 (k0_pay34 (k0_pay6 v58 w p x)))) = stateAfter (extractStridedSlice S256x128 ![0, 384] (k0_pay6 v58 w p x) slices_S256x512_o0_384_S256x128) u st := rfl

/-- The state of head 3 as the kernel's text gives it. -/
theorem state_head3_eq (tri : IVec S256x256 1) (own : IVec S256x512 1) (v58 : FVec F S256x256 .bf16) (w : FVec F S16x512 .bf16) (p : FVec F S1x512 .f32)
    (x : Vec F S1x256x128 .f32) (q y : Vec F S1x256x128 .f32) (v g : Vec F S1x256x256 .f32) (st : Vec F S1x256x128 .f32) (gain : Vec F S1x256 .f32) :
    k0_pay82 (k0_pay51 own (k0_pay39 (k0_pay33 (k0_pay6 v58 w p x)) (k0_pay35 (k0_pay6 v58 w p x)) (k0_pay36 y)) (k0_pay41 v)) (k0_pay79 (k0_pay40 (k0_pay34 (k0_pay6 v58 w p x))) (k0_pay51 own (k0_pay39 (k0_pay33 (k0_pay6 v58 w p x)) (k0_pay35 (k0_pay6 v58 w p x)) (k0_pay36 y)) (k0_pay41 v)) st) (k0_pay81 (k0_pay40 (k0_pay34 (k0_pay6 v58 w p x))))
      = stateAfter (extractStridedSlice S256x128 ![0, 384] (k0_pay6 v58 w p x) slices_S256x512_o0_384_S256x128) (added own (extractStridedSlice S256x128 ![0, 384] (k0_pay6 v58 w p x) slices_S256x512_o0_384_S256x128) y v) st := by
  rw [added3_eq tri own v58 w p x q y v g st gain, after3_eq tri own v58 w p x q y v g st gain]

/-! ### One trip -/

/-- Rows of the trip's block of an array, at an offset. -/
abbrev rows128 (a : Memref sig .tc .vmem S1x512x512 .f32) (X : BufTy.Contents (Elt F) a.view.ty) (off : Fin 3 → ℕ)
    (h : ∀ j, off j + S1x256x128.size j ≤ S1x512x512.size j) : Vec F S1x256x128 .f32 :=
  View.readAt (Elt F) a.view (Rect.unit (s := S1x512x512) off S1x256x128.size h).toLoadRect X

/-- The same, of the values and of the gates. -/
abbrev rows256 (a : Memref sig .tc .vmem S1x512x1024 .f32) (X : BufTy.Contents (Elt F) a.view.ty) (off : Fin 3 → ℕ)
    (h : ∀ j, off j + S1x256x256.size j ≤ S1x512x1024.size j) : Vec F S1x256x256 .f32 :=
  View.readAt (Elt F) a.view (Rect.unit (s := S1x512x1024) off S1x256x256.size h).toLoadRect X

/-- A head's state as the trip finds it. -/
abbrev headState (a : Memref sig .tc .vmem S4x256x128 .f32) (g : BufTy.Contents (Elt F) a.view.ty) (off : Fin 3 → ℕ) (h : ∀ j, off j + S1x256x128.size j ≤ S4x256x128.size j) : Vec F S1x256x128 .f32 :=
  View.readAt (Elt F) a.view (Rect.unit (s := S4x256x128) off S1x256x128.size h).toLoadRect g

/-- The low-rank coefficients of the rows of a trip. -/
abbrev tripBa (a : Memref sig .tc .vmem S1x512x128 .f32) (X : BufTy.Contents (Elt F) a.view.ty) (k : Fin k0_t1_loop.trips) :
    Vec F S1x256x128 .f32 :=
  View.readAt (Elt F) a.view (Rect.unit (s := S1x512x128) (k0_off1 k) S1x256x128.size (k0_off1_inb k)).toLoadRect X

/-- The running sums of the rows of a trip. -/
abbrev tripCum (a : Memref sig .tc .vmem S1x512x128 .f32) (v58 : FVec F S256x256 .bf16) (v110 : Vec F S16x512 .f32) (v112 : Vec F S1x512 .f32)
    (X : BufTy.Contents (Elt F) a.view.ty) (k : Fin k0_t1_loop.trips) : FVec F S256x512 .f32 :=
  cumRows v58 v110 v112 (tripBa a X k)

section
variable (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (v55 : IVec S256x256 1) (v58 : FVec F S256x256 .bf16) (v60 : IVec S256x512 32) (v84 : IVec S256x512 32) (c128_i32 : BitVec 32) (v86 : IVec S256x512 32) (v89 : IVec S256x512 32) (v90 : IVec S256x512 32) (v110 : Vec F S16x512 .f32) (v112 : Vec F S1x512 .f32) (v114 : Vec F S1x256 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (g : BufTy.Contents (Elt F) arg11.view.ty)

set_option maxHeartbeats 1000000 in
/-- What a trip stores, in the kernel's own text. -/
theorem trip_text (f : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 k f g
      = ([⟨Rect.unit (k0_off9 k) S1x256x256.size (k0_off9_inb k), k0_pay5 v114 (k0_pay89 (k0_pay45 v55 (k0_pay36 (rows128 arg3 X_arg3 (k0_off8 k) (k0_off8_inb k))) (k0_pay37 (k0_pay6 v58 (k0_pay2 v110) (k0_pay3 v112) (tripBa arg6 X_arg6 k)) (rows128 arg2 X_arg2 (k0_off8 k) (k0_off8_inb k))) (k0_pay38 (k0_pay6 v58 (k0_pay2 v110) (k0_pay3 v112) (tripBa arg6 X_arg6 k))) (rows256 arg4 X_arg4 (k0_off9 k) (k0_off9_inb k))) (k0_pay83 (k0_pay1 v60 v84 c128_i32 v86 v89 v90) (k0_pay37 (k0_pay6 v58 (k0_pay2 v110) (k0_pay3 v112) (tripBa arg6 X_arg6 k)) (rows128 arg2 X_arg2 (k0_off8 k) (k0_off8_inb k))) (k0_pay74 (headState arg11 g ![3, 0, 0] inb_S4x256x128_S1x256x128_3_0_0)) (k0_pay76 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)) (k0_pay78 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)) (k0_pay80 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)))) (k0_pay90 (k0_pay45 v55 (k0_pay36 (rows128 arg3 X_arg3 (k0_off8 k) (k0_off8_inb k))) (k0_pay37 (k0_pay6 v58 (k0_pay2 v110) (k0_pay3 v112) (tripBa arg6 X_arg6 k)) (rows128 arg2 X_arg2 (k0_off8 k) (k0_off8_inb k))) (k0_pay38 (k0_pay6 v58 (k0_pay2 v110) (k0_pay3 v112) (tripBa arg6 X_arg6 k))) (rows256 arg4 X_arg4 (k0_off9 k) (k0_off9_inb k))) (k0_pay83 (k0_pay1 v60 v84 c128_i32 v86 v89 v90) (k0_pay37 (k0_pay6 v58 (k0_pay2 v110) (k0_pay3 v112) (tripBa arg6 X_arg6 k)) (rows128 arg2 X_arg2 (k0_off8 k) (k0_off8_inb k))) (k0_pay74 (headState arg11 g ![3, 0, 0] inb_S4x256x128_S1x256x128_3_0_0)) (k0_pay76 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)) (k0_pay78 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)) (k0_pay80 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)))) k0_pay91 (rows256 arg5 X_arg5 (k0_off9 k) (k0_off9_inb k))⟩,
        ⟨Rect.unit (k0_off7 k) S1x256x256.size (k0_off7_inb k), k0_pay88 (k0_pay4 v114) (k0_pay44 v55 (k0_pay28 (k0_pay24 (k0_pay6 v58 (k0_pay2 v110) (k0_pay3 v112) (tripBa arg6 X_arg6 k))) (rows128 arg2 X_arg2 (k0_off6 k) (k0_off6_inb k))) (k0_pay29 (k0_pay24 (k0_pay6 v58 (k0_pay2 v110) (k0_pay3 v112) (tripBa arg6 X_arg6 k))) (rows128 arg3 X_arg3 (k0_off6 k) (k0_off6_inb k))) (k0_pay32 (rows256 arg4 X_arg4 (k0_off7 k) (k0_off7_inb k)))) (k0_pay72 (k0_pay1 v60 v84 c128_i32 v86 v89 v90) (k0_pay28 (k0_pay24 (k0_pay6 v58 (k0_pay2 v110) (k0_pay3 v112) (tripBa arg6 X_arg6 k))) (rows128 arg2 X_arg2 (k0_off6 k) (k0_off6_inb k))) (k0_pay31 (k0_pay25 (k0_pay6 v58 (k0_pay2 v110) (k0_pay3 v112) (tripBa arg6 X_arg6 k)))) (k0_pay50 (k0_pay1 v60 v84 c128_i32 v86 v89 v90) (k0_pay32 (rows256 arg4 X_arg4 (k0_off7 k) (k0_off7_inb k))) (k0_pay48 (k0_pay30 (k0_pay24 (k0_pay6 v58 (k0_pay2 v110) (k0_pay3 v112) (tripBa arg6 X_arg6 k))) (k0_pay26 (k0_pay6 v58 (k0_pay2 v110) (k0_pay3 v112) (tripBa arg6 X_arg6 k))) (rows128 arg3 X_arg3 (k0_off6 k) (k0_off6_inb k)))) k0_pay49) (k0_pay65 (headState arg11 g ![2, 0, 0] inb_S4x256x128_S1x256x128_2_0_0)) (k0_pay67 (k0_pay31 (k0_pay25 (k0_pay6 v58 (k0_pay2 v110) (k0_pay3 v112) (tripBa arg6 X_arg6 k)))) (k0_pay50 (k0_pay1 v60 v84 c128_i32 v86 v89 v90) (k0_pay32 (rows256 arg4 X_arg4 (k0_off7 k) (k0_off7_inb k))) (k0_pay48 (k0_pay30 (k0_pay24 (k0_pay6 v58 (k0_pay2 v110) (k0_pay3 v112) (tripBa arg6 X_arg6 k))) (k0_pay26 (k0_pay6 v58 (k0_pay2 v110) (k0_pay3 v112) (tripBa arg6 X_arg6 k))) (rows128 arg3 X_arg3 (k0_off6 k) (k0_off6_inb k)))) k0_pay49) (headState arg11 g ![2, 0, 0] inb_S4x256x128_S1x256x128_2_0_0)) (k0_pay68 (k0_pay31 (k0_pay25 (k0_pay6 v58 (k0_pay2 v110) (k0_pay3 v112) (tripBa arg6 X_arg6 k)))) (k0_pay50 (k0_pay1 v60 v84 c128_i32 v86 v89 v90) (k0_pay32 (rows256 arg4 X_arg4 (k0_off7 k) (k0_off7_inb k))) (k0_pay48 (k0_pay30 (k0_pay24 (k0_pay6 v58 (k0_pay2 v110) (k0_pay3 v112) (tripBa arg6 X_arg6 k))) (k0_pay26 (k0_pay6 v58 (k0_pay2 v110) (k0_pay3 v112) (tripBa arg6 X_arg6 k))) (rows128 arg3 X_arg3 (k0_off6 k) (k0_off6_inb k)))) k0_pay49) (headState arg11 g ![2, 0, 0] inb_S4x256x128_S1x256x128_2_0_0))) (rows256 arg5 X_arg5 (k0_off7 k) (k0_off7_inb k))⟩,
        ⟨Rect.unit (k0_off5 k) S1x256x256.size (k0_off5_inb k), k0_pay87 (k0_pay4 v114) (k0_pay85 (k0_pay43 v55 (k0_pay19 (k0_pay6 v58 (k0_pay2 v110) (k0_pay3 v112) (tripBa arg6 X_arg6 k)) (rows128 arg2 X_arg2 (k0_off4 k) (k0_off4_inb k))) (k0_pay20 (k0_pay6 v58 (k0_pay2 v110) (k0_pay3 v112) (tripBa arg6 X_arg6 k)) (rows128 arg3 X_arg3 (k0_off4 k) (k0_off4_inb k))) (k0_pay23 (rows256 arg4 X_arg4 (k0_off5 k) (k0_off5_inb k)))) (k0_pay63 (k0_pay1 v60 v84 c128_i32 v86 v89 v90) (k0_pay19 (k0_pay6 v58 (k0_pay2 v110) (k0_pay3 v112) (tripBa arg6 X_arg6 k)) (rows128 arg2 X_arg2 (k0_off4 k) (k0_off4_inb k))) (k0_pay22 (k0_pay6 v58 (k0_pay2 v110) (k0_pay3 v112) (tripBa arg6 X_arg6 k))) (k0_pay47 (k0_pay1 v60 v84 c128_i32 v86 v89 v90) (k0_pay21 (k0_pay6 v58 (k0_pay2 v110) (k0_pay3 v112) (tripBa arg6 X_arg6 k)) (rows128 arg3 X_arg3 (k0_off4 k) (k0_off4_inb k))) (k0_pay23 (rows256 arg4 X_arg4 (k0_off5 k) (k0_off5_inb k)))) (headState arg11 g ![1, 0, 0] inb_S4x256x128_S1x256x128_1_0_0))) (k0_pay86 (k0_pay43 v55 (k0_pay19 (k0_pay6 v58 (k0_pay2 v110) (k0_pay3 v112) (tripBa arg6 X_arg6 k)) (rows128 arg2 X_arg2 (k0_off4 k) (k0_off4_inb k))) (k0_pay20 (k0_pay6 v58 (k0_pay2 v110) (k0_pay3 v112) (tripBa arg6 X_arg6 k)) (rows128 arg3 X_arg3 (k0_off4 k) (k0_off4_inb k))) (k0_pay23 (rows256 arg4 X_arg4 (k0_off5 k) (k0_off5_inb k)))) (k0_pay63 (k0_pay1 v60 v84 c128_i32 v86 v89 v90) (k0_pay19 (k0_pay6 v58 (k0_pay2 v110) (k0_pay3 v112) (tripBa arg6 X_arg6 k)) (rows128 arg2 X_arg2 (k0_off4 k) (k0_off4_inb k))) (k0_pay22 (k0_pay6 v58 (k0_pay2 v110) (k0_pay3 v112) (tripBa arg6 X_arg6 k))) (k0_pay47 (k0_pay1 v60 v84 c128_i32 v86 v89 v90) (k0_pay21 (k0_pay6 v58 (k0_pay2 v110) (k0_pay3 v112) (tripBa arg6 X_arg6 k)) (rows128 arg3 X_arg3 (k0_off4 k) (k0_off4_inb k))) (k0_pay23 (rows256 arg4 X_arg4 (k0_off5 k) (k0_off5_inb k)))) (headState arg11 g ![1, 0, 0] inb_S4x256x128_S1x256x128_1_0_0))) (rows256 arg5 X_arg5 (k0_off5 k) (k0_off5_inb k))⟩,
        ⟨Rect.unit (k0_off3 k) S1x256x256.size (k0_off3_inb k), k0_pay84 (k0_pay4 v114) (k0_pay42 v55 (k0_pay11 v58 (k0_pay2 v110) (k0_pay3 v112) (tripBa arg6 X_arg6 k) (rows128 arg2 X_arg2 (k0_off2 k) (k0_off2_inb k))) (k0_pay12 (k0_pay7 v58 (k0_pay2 v110) (k0_pay3 v112) (tripBa arg6 X_arg6 k)) (k0_pay10 (rows128 arg3 X_arg3 (k0_off2 k) (k0_off2_inb k))) (Scalar.ofBits .f32 0x00000000#32)) (k0_pay15 (rows256 arg4 X_arg4 (k0_off3 k) (k0_off3_inb k)))) (k0_pay57 (k0_pay1 v60 v84 c128_i32 v86 v89 v90) (k0_pay11 v58 (k0_pay2 v110) (k0_pay3 v112) (tripBa arg6 X_arg6 k) (rows128 arg2 X_arg2 (k0_off2 k) (k0_off2_inb k))) (k0_pay14 (k0_pay8 v58 (k0_pay2 v110) (k0_pay3 v112) (tripBa arg6 X_arg6 k))) (k0_pay46 (k0_pay1 v60 v84 c128_i32 v86 v89 v90) (k0_pay13 (k0_pay7 v58 (k0_pay2 v110) (k0_pay3 v112) (tripBa arg6 X_arg6 k)) (k0_pay9 v58 (k0_pay2 v110) (k0_pay3 v112) (tripBa arg6 X_arg6 k)) (k0_pay10 (rows128 arg3 X_arg3 (k0_off2 k) (k0_off2_inb k)))) (k0_pay15 (rows256 arg4 X_arg4 (k0_off3 k) (k0_off3_inb k)))) (headState arg11 g ![0, 0, 0] inb_S4x256x128_S1x256x128_0_0_0)) (rows256 arg5 X_arg5 (k0_off3 k) (k0_off3_inb k))⟩],
       [⟨Rect.unit ![3, 0, 0] S1x256x128.size inb_S4x256x128_S1x256x128_3_0_0, k0_pay82 (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (k0_pay79 (k0_pay40 (k0_pay34 (k0_pay6 v58 (k0_pay2 v110) (k0_pay3 v112) (tripBa arg6 X_arg6 k)))) (k0_pay51 (k0_pay1 v60 v84 c128_i32 v86 v89 v90) (k0_pay39 (k0_pay33 (k0_pay6 v58 (k0_pay2 v110) (k0_pay3 v112) (tripBa arg6 X_arg6 k))) (k0_pay35 (k0_pay6 v58 (k0_pay2 v110) (k0_pay3 v112) (tripBa arg6 X_arg6 k))) (k0_pay36 (rows128 arg3 X_arg3 (k0_off8 k) (k0_off8_inb k)))) (k0_pay41 (rows256 arg4 X_arg4 (k0_off9 k) (k0_off9_inb k)))) (headState arg11 g ![3, 0, 0] inb_S4x256x128_S1x256x128_3_0_0)) (k0_pay81 (k0_pay40 (k0_pay34 (k0_pay6 v58 (k0_pay2 v110) (k0_pay3 v112) (tripBa arg6 X_arg6 k)))))⟩,
        ⟨Rect.unit ![2, 0, 0] S1x256x128.size inb_S4x256x128_S1x256x128_2_0_0, k0_pay71 (k0_pay31 (k0_pay25 (k0_pay6 v58 (k0_pay2 v110) (k0_pay3 v112) (tripBa arg6 X_arg6 k)))) (k0_pay50 (k0_pay1 v60 v84 c128_i32 v86 v89 v90) (k0_pay32 (rows256 arg4 X_arg4 (k0_off7 k) (k0_off7_inb k))) (k0_pay48 (k0_pay30 (k0_pay24 (k0_pay6 v58 (k0_pay2 v110) (k0_pay3 v112) (tripBa arg6 X_arg6 k))) (k0_pay26 (k0_pay6 v58 (k0_pay2 v110) (k0_pay3 v112) (tripBa arg6 X_arg6 k))) (rows128 arg3 X_arg3 (k0_off6 k) (k0_off6_inb k)))) k0_pay49) (k0_pay68 (k0_pay31 (k0_pay25 (k0_pay6 v58 (k0_pay2 v110) (k0_pay3 v112) (tripBa arg6 X_arg6 k)))) (k0_pay50 (k0_pay1 v60 v84 c128_i32 v86 v89 v90) (k0_pay32 (rows256 arg4 X_arg4 (k0_off7 k) (k0_off7_inb k))) (k0_pay48 (k0_pay30 (k0_pay24 (k0_pay6 v58 (k0_pay2 v110) (k0_pay3 v112) (tripBa arg6 X_arg6 k))) (k0_pay26 (k0_pay6 v58 (k0_pay2 v110) (k0_pay3 v112) (tripBa arg6 X_arg6 k))) (rows128 arg3 X_arg3 (k0_off6 k) (k0_off6_inb k)))) k0_pay49) (headState arg11 g ![2, 0, 0] inb_S4x256x128_S1x256x128_2_0_0))⟩,
        ⟨Rect.unit ![1, 0, 0] S1x256x128.size inb_S4x256x128_S1x256x128_1_0_0, k0_pay62 (k0_pay22 (k0_pay6 v58 (k0_pay2 v110) (k0_pay3 v112) (tripBa arg6 X_arg6 k))) (k0_pay47 (k0_pay1 v60 v84 c128_i32 v86 v89 v90) (k0_pay21 (k0_pay6 v58 (k0_pay2 v110) (k0_pay3 v112) (tripBa arg6 X_arg6 k)) (rows128 arg3 X_arg3 (k0_off4 k) (k0_off4_inb k))) (k0_pay23 (rows256 arg4 X_arg4 (k0_off5 k) (k0_off5_inb k)))) (headState arg11 g ![1, 0, 0] inb_S4x256x128_S1x256x128_1_0_0)⟩,
        ⟨Rect.unit ![0, 0, 0] S1x256x128.size inb_S4x256x128_S1x256x128_0_0_0, k0_pay56 (k0_pay14 (k0_pay8 v58 (k0_pay2 v110) (k0_pay3 v112) (tripBa arg6 X_arg6 k))) (k0_pay46 (k0_pay1 v60 v84 c128_i32 v86 v89 v90) (k0_pay13 (k0_pay7 v58 (k0_pay2 v110) (k0_pay3 v112) (tripBa arg6 X_arg6 k)) (k0_pay9 v58 (k0_pay2 v110) (k0_pay3 v112) (tripBa arg6 X_arg6 k)) (k0_pay10 (rows128 arg3 X_arg3 (k0_off2 k) (k0_off2_inb k)))) (k0_pay15 (rows256 arg4 X_arg4 (k0_off3 k) (k0_off3_inb k)))) (headState arg11 g ![0, 0, 0] inb_S4x256x128_S1x256x128_0_0_0)⟩]) := by
  unfold tripL_k0_t1 trip_k0_t1
  dsimp only
  sl_unfold_words
  rfl

/-- What a trip stores: the outputs of its four heads, and their states. -/
theorem trip_eq (f : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg11 harg11 v55 v58 v60 v84 c128_i32 v86 v89 v90 v110 v112 v114 X_arg2 X_arg3 X_arg4 X_arg5 X_arg6 k f g
      = ([⟨Rect.unit (k0_off9 k) S1x256x256.size (k0_off9_inb k), gated (mixed v55 (k0_pay1 v60 v84 c128_i32 v86 v89 v90) (extractStridedSlice S256x128 ![0, 384] (tripCum (F := F) arg6 v58 v110 v112 X_arg6 k) slices_S256x512_o0_384_S256x128) (rows128 arg2 X_arg2 (k0_off8 k) (k0_off8_inb k))
          (rows128 arg3 X_arg3 (k0_off8 k) (k0_off8_inb k)) (rows256 arg4 X_arg4 (k0_off9 k) (k0_off9_inb k)) (headState arg11 g ![3, 0, 0] inb_S4x256x128_S1x256x128_3_0_0)) v114 (rows256 arg5 X_arg5 (k0_off9 k) (k0_off9_inb k))⟩,
        ⟨Rect.unit (k0_off7 k) S1x256x256.size (k0_off7_inb k), gated (mixed v55 (k0_pay1 v60 v84 c128_i32 v86 v89 v90) (extractStridedSlice S256x128 ![0, 256] (tripCum (F := F) arg6 v58 v110 v112 X_arg6 k) slices_S256x512_o0_256_S256x128) (rows128 arg2 X_arg2 (k0_off6 k) (k0_off6_inb k))
          (rows128 arg3 X_arg3 (k0_off6 k) (k0_off6_inb k)) (rows256 arg4 X_arg4 (k0_off7 k) (k0_off7_inb k)) (headState arg11 g ![2, 0, 0] inb_S4x256x128_S1x256x128_2_0_0)) v114 (rows256 arg5 X_arg5 (k0_off7 k) (k0_off7_inb k))⟩,
        ⟨Rect.unit (k0_off5 k) S1x256x256.size (k0_off5_inb k), gated (mixed v55 (k0_pay1 v60 v84 c128_i32 v86 v89 v90) (extractStridedSlice S256x128 ![0, 128] (tripCum (F := F) arg6 v58 v110 v112 X_arg6 k) slices_S256x512_o0_128_S256x128) (rows128 arg2 X_arg2 (k0_off4 k) (k0_off4_inb k))
          (rows128 arg3 X_arg3 (k0_off4 k) (k0_off4_inb k)) (rows256 arg4 X_arg4 (k0_off5 k) (k0_off5_inb k)) (headState arg11 g ![1, 0, 0] inb_S4x256x128_S1x256x128_1_0_0)) v114 (rows256 arg5 X_arg5 (k0_off5 k) (k0_off5_inb k))⟩,
        ⟨Rect.unit (k0_off3 k) S1x256x256.size (k0_off3_inb k), gated (mixed v55 (k0_pay1 v60 v84 c128_i32 v86 v89 v90) (extractStridedSlice S256x128 ![0, 0] (tripCum (F := F) arg6 v58 v110 v112 X_arg6 k) slices_S256x512_o0_0_S256x128) (rows128 arg2 X_arg2 (k0_off2 k) (k0_off2_inb k))
          (rows128 arg3 X_arg3 (k0_off2 k) (k0_off2_inb k)) (rows256 arg4 X_arg4 (k0_off3 k) (k0_off3_inb k)) (headState arg11 g ![0, 0, 0] inb_S4x256x128_S1x256x128_0_0_0)) v114 (rows256 arg5 X_arg5 (k0_off3 k) (k0_off3_inb k))⟩],
       [⟨Rect.unit ![3, 0, 0] S1x256x128.size inb_S4x256x128_S1x256x128_3_0_0, stateAfter (extractStridedSlice S256x128 ![0, 384] (tripCum (F := F) arg6 v58 v110 v112 X_arg6 k) slices_S256x512_o0_384_S256x128) (added (k0_pay1 v60 v84 c128_i32 v86 v89 v90) (extractStridedSlice S256x128 ![0, 384] (tripCum (F := F) arg6 v58 v110 v112 X_arg6 k) slices_S256x512_o0_384_S256x128)
          (rows128 arg3 X_arg3 (k0_off8 k) (k0_off8_inb k)) (rows256 arg4 X_arg4 (k0_off9 k) (k0_off9_inb k))) (headState arg11 g ![3, 0, 0] inb_S4x256x128_S1x256x128_3_0_0)⟩,
        ⟨Rect.unit ![2, 0, 0] S1x256x128.size inb_S4x256x128_S1x256x128_2_0_0, stateAfter (extractStridedSlice S256x128 ![0, 256] (tripCum (F := F) arg6 v58 v110 v112 X_arg6 k) slices_S256x512_o0_256_S256x128) (added (k0_pay1 v60 v84 c128_i32 v86 v89 v90) (extractStridedSlice S256x128 ![0, 256] (tripCum (F := F) arg6 v58 v110 v112 X_arg6 k) slices_S256x512_o0_256_S256x128)
          (rows128 arg3 X_arg3 (k0_off6 k) (k0_off6_inb k)) (rows256 arg4 X_arg4 (k0_off7 k) (k0_off7_inb k))) (headState arg11 g ![2, 0, 0] inb_S4x256x128_S1x256x128_2_0_0)⟩,
        ⟨Rect.unit ![1, 0, 0] S1x256x128.size inb_S4x256x128_S1x256x128_1_0_0, stateAfter (extractStridedSlice S256x128 ![0, 128] (tripCum (F := F) arg6 v58 v110 v112 X_arg6 k) slices_S256x512_o0_128_S256x128) (added (k0_pay1 v60 v84 c128_i32 v86 v89 v90) (extractStridedSlice S256x128 ![0, 128] (tripCum (F := F) arg6 v58 v110 v112 X_arg6 k) slices_S256x512_o0_128_S256x128)
          (rows128 arg3 X_arg3 (k0_off4 k) (k0_off4_inb k)) (rows256 arg4 X_arg4 (k0_off5 k) (k0_off5_inb k))) (headState arg11 g ![1, 0, 0] inb_S4x256x128_S1x256x128_1_0_0)⟩,
        ⟨Rect.unit ![0, 0, 0] S1x256x128.size inb_S4x256x128_S1x256x128_0_0_0, stateAfter (extractStridedSlice S256x128 ![0, 0] (tripCum (F := F) arg6 v58 v110 v112 X_arg6 k) slices_S256x512_o0_0_S256x128) (added (k0_pay1 v60 v84 c128_i32 v86 v89 v90) (extractStridedSlice S256x128 ![0, 0] (tripCum (F := F) arg6 v58 v110 v112 X_arg6 k) slices_S256x512_o0_0_S256x128)
          (rows128 arg3 X_arg3 (k0_off2 k) (k0_off2_inb k)) (rows256 arg4 X_arg4 (k0_off3 k) (k0_off3_inb k))) (headState arg11 g ![0, 0, 0] inb_S4x256x128_S1x256x128_0_0_0)⟩]) := by
  rw [trip_text]
  rw [out0_eq v55 (k0_pay1 v60 v84 c128_i32 v86 v89 v90) v58 _ _ _ _ (rows128 arg3 X_arg3 (k0_off2 k) (k0_off2_inb k)) (rows256 arg4 X_arg4 (k0_off3 k) (k0_off3_inb k)) (rows256 arg5 X_arg5 (k0_off3 k) (k0_off3_inb k)) _ v114, state_head0_eq v55 (k0_pay1 v60 v84 c128_i32 v86 v89 v90) v58 _ _ _ (rows128 arg2 X_arg2 (k0_off2 k) (k0_off2_inb k)) _ _ (rows256 arg5 X_arg5 (k0_off3 k) (k0_off3_inb k)) _ v114]
  rw [out1_eq v55 (k0_pay1 v60 v84 c128_i32 v86 v89 v90) v58 _ _ _ _ (rows128 arg3 X_arg3 (k0_off4 k) (k0_off4_inb k)) (rows256 arg4 X_arg4 (k0_off5 k) (k0_off5_inb k)) (rows256 arg5 X_arg5 (k0_off5 k) (k0_off5_inb k)) _ v114, state_head1_eq v55 (k0_pay1 v60 v84 c128_i32 v86 v89 v90) v58 _ _ _ (rows128 arg2 X_arg2 (k0_off4 k) (k0_off4_inb k)) _ _ (rows256 arg5 X_arg5 (k0_off5 k) (k0_off5_inb k)) _ v114]
  rw [out2_eq v55 (k0_pay1 v60 v84 c128_i32 v86 v89 v90) v58 _ _ _ _ (rows128 arg3 X_arg3 (k0_off6 k) (k0_off6_inb k)) (rows256 arg4 X_arg4 (k0_off7 k) (k0_off7_inb k)) (rows256 arg5 X_arg5 (k0_off7 k) (k0_off7_inb k)) _ v114, state_head2_eq v55 (k0_pay1 v60 v84 c128_i32 v86 v89 v90) v58 _ _ _ (rows128 arg2 X_arg2 (k0_off6 k) (k0_off6_inb k)) _ _ (rows256 arg5 X_arg5 (k0_off7 k) (k0_off7_inb k)) _ v114]
  rw [out3_eq v55 (k0_pay1 v60 v84 c128_i32 v86 v89 v90) v58 _ _ _ _ (rows128 arg3 X_arg3 (k0_off8 k) (k0_off8_inb k)) (rows256 arg4 X_arg4 (k0_off9 k) (k0_off9_inb k)) (rows256 arg5 X_arg5 (k0_off9 k) (k0_off9_inb k)) _ v114, state_head3_eq v55 (k0_pay1 v60 v84 c128_i32 v86 v89 v90) v58 _ _ _ (rows128 arg2 X_arg2 (k0_off8 k) (k0_off8_inb k)) _ _ (rows256 arg5 X_arg5 (k0_off9 k) (k0_off9_inb k)) _ v114]
  rw [cum_eq]

end

end Cert.KernelIdeal.Own

end
-- ==== Proof.Masks.lean ====
/-
  The masks of the kernel, at an index: row against row within a chunk, and row against the chunk's own copy.
-/
module

public import proofs.«01_k».proof.Proof.Chunk
public import proofs.«01_k».proof.Proof.Head
public import Idealize.ShloMosaic.Lib.Pointwise

@[expose] public section

set_option maxRecDepth 16384

noncomputable section

namespace Cert.KernelIdeal.Own

open Idealize.ShloMosaic Idealize.ShloMosaic.TcCoe
open Cert.KernelIdeal.Gen
open Cert.Proof.Chunk (row col)

/-- The mask of the rows a row attends: earlier rows of its chunk, and itself. -/
def triMask : IVec S256x256 1 :=
  k0_pay97 (iota .tc S256x256 32 [1] iota_S256x256_d1_w32) k0_pay93 k0_pay94 64#32 k0_pay95 k0_pay96 1#32 0#32

/-- The same mask as a matrix of ones and zeros. -/
def triOnes {F : FTy → Type} [FloatOps F] : FVec F S256x256 .bf16 :=
  k0_pay98 (iota .tc S256x256 32 [1] iota_S256x256_d1_w32) k0_pay93 k0_pay94 64#32 k0_pay95 k0_pay96 1#32 0#32

/-- The mask of the copy of a row's own chunk. -/
def ownMask : IVec S256x512 1 :=
  k0_pay1 (iota .tc S256x512 32 [1] iota_S256x512_d1_w32) k0_pay99 128#32 k0_pay100 k0_pay101 k0_pay102

/-- The chunk of a row, as the kernel computes it. -/
theorem rowChunk_at (i j : Fin 256) : k0_pay94 (ix2 i j) = BitVec.ofNat 32 (i.val / 64) := by
  unfold k0_pay94
  pointwise
  revert i; decide +kernel

theorem rowChunk512_at (i : Fin 256) (j : Fin 512) : k0_pay99 (ix2 i j) = BitVec.ofNat 32 (i.val / 64) := by
  unfold k0_pay99
  pointwise
  revert i; decide +kernel

theorem order_at (i j : Fin 256) : k0_pay93 (ix2 i j) = if j ≤ i then 1#1 else 0#1 := by
  unfold k0_pay93
  pointwise
  have e : ∀ i : Fin 256, (BitVec.ofNat 32 i.val).toInt = i.val := by decide +kernel
  by_cases h : j ≤ i
  · rw [if_pos h]
    have h' : j.val ≤ i.val := h
    simp [IntOp.cmpi, BitVec.sle, e, h']
  · rw [if_neg h]
    have h' : ¬ j.val ≤ i.val := h
    simp [IntOp.cmpi, BitVec.sle, e, h']

theorem triMask_at (i j : Fin 256) : triMask (ix2 i j) = if j ≤ i ∧ i.val / 64 = j.val / 64 then 1#1 else 0#1 := by
  unfold triMask k0_pay97 k0_pay95 k0_pay96
  pointwise
  rw [rowChunk_at, order_at]
  obtain ⟨c, hc⟩ : ∃ c : Fin 4, i.val / 64 = c.val := ⟨⟨i.val / 64, by omega⟩, rfl⟩
  rw [hc]
  by_cases h : j ≤ i
  · simp only [if_pos h, h, true_and]
    clear h hc
    revert j c; decide +kernel
  · simp only [if_neg h, h, false_and, if_false]
    clear h hc
    revert j c; decide +kernel

theorem ownMask_at (i : Fin 256) (j : Fin 512) : ownMask (ix2 i j) = if i.val / 64 = j.val / 128 then 1#1 else 0#1 := by
  unfold ownMask k0_pay1 k0_pay100 k0_pay101 k0_pay102
  pointwise
  rw [rowChunk512_at]
  obtain ⟨c, hc⟩ : ∃ c : Fin 4, i.val / 64 = c.val := ⟨⟨i.val / 64, by omega⟩, rfl⟩
  rw [hc]
  clear hc
  revert j c; decide +kernel

theorem triOnes_at (i j : Fin 256) : triOnes (F := Ideal) (ix2 i j) = if j ≤ i ∧ i.val / 64 = j.val / 64 then (1 : EReal) else 0 := by
  unfold triOnes k0_pay98
  pointwise
  have e := triMask_at i j
  unfold triMask at e
  rw [e]
  split_ifs
  · show (((BitVec.setWidth 32 1#1).toInt : ℝ) : EReal) = 1
    norm_num
  · show (((BitVec.setWidth 32 0#1).toInt : ℝ) : EReal) = 0
    norm_num

/-- The masks in terms of chunks. -/
theorem triMask_row (c c' : Fin 4) (i j : Fin 64) :
    triMask (ix2 (row c i) (row c' j)) = if c' = c ∧ j ≤ i then 1#1 else 0#1 := by
  rw [triMask_at]
  refine if_congr ?_ rfl rfl
  simp only [row, Fin.le_def, Fin.ext_iff]
  omega

theorem triOnes_row (c c' : Fin 4) (i j : Fin 64) :
    triOnes (F := Ideal) (ix2 (row c i) (row c' j)) = if c' = c ∧ j ≤ i then (1 : EReal) else 0 := by
  rw [triOnes_at]
  refine if_congr ?_ rfl rfl
  simp only [row, Fin.le_def, Fin.ext_iff]
  omega

theorem ownMask_row (c c' : Fin 4) (i : Fin 64) (d : Fin 128) :
    ownMask (ix2 (row c i) (col c' d)) = if c' = c then 1#1 else 0#1 := by
  rw [ownMask_at]
  refine if_congr ?_ rfl rfl
  simp only [row, col, Fin.ext_iff]
  omega

end Cert.KernelIdeal.Own
-- ==== Proof.HeadAt.lean ====
/-
  One head of one trip at an index: the vectors of `Head` read as the functions of `Chunk`, chunk by chunk.
-/
module

public import proofs.«01_k».proof.Proof.Masks

@[expose] public section

set_option maxRecDepth 16384

noncomputable section

namespace Cert.KernelIdeal.Own

open Idealize.ShloMosaic Idealize.ShloMosaic.TcCoe
open Cert.KernelIdeal.Gen
open Cert.Proof.Chunk (row col logDecay cum cums attn out next two_part_sum sum_rows sum_rows_own sum_cols_own)

/-- The word of the kernel's 1/16 is 1/16. -/
theorem ofBits_sixteenth : (Ideal.ofBits .f32 0x3D800000#32 : EReal) = ((1 / 16 : ℝ) : EReal) := by
  simp [Ideal.ofBits, Ideal.ieee, -EReal.coe_mul]; norm_num

/-- The log decay's argument at a row and a column, of the low-rank coefficients. -/
def preAt (w : Vec Ideal S16x512 .f32) (p : Vec Ideal S1x512 .f32) (x : Vec Ideal S1x256x128 .f32) (r : Fin 256) (n : Fin 512) : EReal :=
  (∑ l : Fin 16, (x (ix3 0 r ⟨l.val, by omega⟩) : EReal) * w (ix2 l n)) + p (ix2 0 n)

theorem select_if (p : Prop) [Decidable p] {α : Type} (a b : α) : Scalar.select (if p then 1#1 else 0#1) a b = if p then a else b := by
  split_ifs <;> rfl

/-- The kernel's running sums are those of the log decays within the row's chunk. -/
theorem cum_at (w : Vec Ideal S16x512 .f32) (p : Vec Ideal S1x512 .f32) (x : Vec Ideal S1x256x128 .f32) (c : Fin 4) (i : Fin 64)
    (n : Fin 512) :
    cumRows (F := Ideal) triOnes w p x (ix2 (row c i) n) = cum (fun s => logDecay (preAt w p x (row c s) n)) i := by
  unfold cumRows
  pointwise
  have e : ∀ z : EReal, (min z 0 - Ideal.log1p (Ideal.exp (0 - (FloatOps.absf (F := Ideal) (φ := .f32) z)))) * Ideal.ofBits .f32 1031798784#32
      = logDecay z := fun z => by
    rw [ofBits_sixteenth, zero_sub]; rfl
  have e' : ∀ r : Fin 256, (∑ l : Fin 16, (x (ix3 0 r ⟨l.val, by omega⟩) : EReal) * w (ix2 l n)) + p (ix2 0 n) = preAt w p x r n := fun r => rfl
  simp only [e, e', triOnes_at]
  rw [two_part_sum (fun r' : Fin 256 => r' ≤ row c i ∧ (row c i).val / 64 = r'.val / 64) (fun r' => logDecay (preAt w p x r' n))
    (fun r' => Cert.Proof.Chunk.logDecay_nonpos _)]
  rw [sum_rows_own _ c]
  · unfold cum
    refine Finset.sum_congr rfl fun j _ => if_congr ?_ rfl rfl
    simp only [row, Fin.le_def]
    omega
  · intro c' j hc
    rw [if_neg]
    simp only [row, Fin.le_def]
    intro h
    exact hc (Fin.ext (by omega))

/-! ### One head -/

section
variable (b : FVec Ideal S256x128 .f32) (q y : Vec Ideal S1x256x128 .f32) (v : Vec Ideal S1x256x256 .f32) (st : Vec Ideal S1x256x128 .f32)
  (u : FVec Ideal S256x512 .f32)

/-- The scaled queries of a chunk. -/
def qAt (c : Fin 4) (i : Fin 64) (d : Fin 128) : EReal := q (ix3 0 (row c i) d) * Ideal.ofBits .f32 0x3DB504F3#32

/-- The keys of a chunk. -/
def kAt (c : Fin 4) (i : Fin 64) (d : Fin 128) : EReal := y (ix3 0 (row c i) d)

/-- The values of a chunk. -/
def vAt (c : Fin 4) (i : Fin 64) (e : Fin 256) : EReal := v (ix3 0 (row c i) e)

/-- A state's entries, the key's axis first. -/
def sAt (s : FVec Ideal S256x128 .f32) (d : Fin 128) (e : Fin 256) : EReal := s (ix2 e d)

theorem lastRows_at (c : Fin 4) (d : Fin 128) : lastRows b (ix3 c 0 d) = b (ix2 (row c 63) d) := by
  unfold lastRows
  pointwise
  exact congrArg (fun r => b (ix2 r d)) (Fin.ext (by simp only [row]; omega))

theorem lastAtRows_at (c : Fin 4) (i : Fin 64) (d : Fin 128) : lastAtRows b (ix2 (row c i) d) = b (ix2 (row c 63) d) := by
  unfold lastAtRows
  pointwise
  refine Eq.trans (congrArg (fun r => lastRows b (ix3 r 0 d)) (Fin.ext ?_)) (lastRows_at b c d)
  simp only [row]; omega

theorem qDecayed_at (c : Fin 4) (i : Fin 64) (d : Fin 128) :
    qDecayed b q (ix2 (row c i) d) = qAt q c i d * Ideal.exp (b (ix2 (row c i) d)) := by
  unfold qDecayed
  pointwise
  rfl

theorem kInverse_at (c : Fin 4) (i : Fin 64) (d : Fin 128) :
    kInverse b y (ix2 (row c i) d) = kAt y c i d * Ideal.exp (0 - b (ix2 (row c i) d)) := by
  unfold kInverse
  pointwise
  rfl

theorem kToEnd_at (c : Fin 4) (i : Fin 64) (d : Fin 128) :
    kToEnd b y (ix2 (row c i) d) = kAt y c i d * Ideal.exp (b (ix2 (row c 63) d) - b (ix2 (row c i) d)) := by
  rw [← lastAtRows_at b c i d]
  unfold kToEnd
  pointwise
  rfl

/-- A spread array: the row's own copy, zero in the others. -/
theorem spread_at (x : FVec Ideal S256x128 .bf16) (c c' : Fin 4) (i : Fin 64) (d : Fin 128) :
    spread ownMask x (ix2 (row c i) (col c' d)) = if c' = c then (x (ix2 (row c i) d) : EReal) else 0 := by
  unfold spread
  pointwise
  rw [ownMask_row, select_if]
  refine if_congr Iff.rfl ?_ rfl
  have e : ∀ (r : ℕ) (h : r < 128), r = d.val → x (ix2 (row c i) ⟨r, h⟩) = x (ix2 (row c i) d) := fun r h e => by
    subst e; rfl
  have hc : c'.val < 4 := c'.2
  have hd : d.val < 128 := d.2
  have hv : (col c' d).val = 128 * c'.val + d.val := rfl
  by_cases g1 : (col c' d).val < 128
  · rw [dif_pos g1]; exact e _ _ (by omega)
  rw [dif_neg g1]
  by_cases g2 : (col c' d).val - 128 < 128
  · rw [dif_pos g2]; exact e _ _ (by omega)
  rw [dif_neg g2]
  by_cases g3 : (col c' d).val - 128 - 128 < 128
  · rw [dif_pos g3]; exact e _ _ (by omega)
  rw [dif_neg g3]; exact e _ _ (by omega)

variable {A : Fin 4 → Fin 64 → Fin 128 → EReal} (hb : ∀ c i d, b (ix2 (row c i) d) = cums (A c) i d) (hA : ∀ c i d, A c i d ≤ 0)

include hb

/-- What a chunk adds to the state. -/
theorem added_at (c : Fin 4) (d : Fin 128) (e : Fin 256) :
    added ownMask b y v (ix2 e (col c d))
      = ∑ i, (kAt y c i d * Ideal.exp (cums (A c) 63 d - cums (A c) i d)) * vAt v c i e := by
  unfold added vRows
  pointwise
  rw [sum_rows_own _ c]
  · refine Finset.sum_congr rfl fun i _ => ?_
    rw [spread_at, if_pos rfl, kToEnd_at, hb, hb, mul_comm]
    rfl
  · intro c' i hc
    rw [spread_at, if_neg hc.symm, mul_zero]

/-- What the rows of a chunk attend within it. -/
theorem within_at (hA : ∀ c i d, A c i d ≤ 0) (c : Fin 4) (i : Fin 64) (e : Fin 256) :
    within triMask b q y v (ix2 (row c i) e) = ∑ s, vAt v c s e * attn (qAt q c) (kAt y c) (cums (A c)) i s := by
  unfold within vRows
  pointwise
  rw [sum_rows_own _ c]
  · refine Finset.sum_congr rfl fun s _ => ?_
    rw [triMask_row, select_if, ← Cert.Proof.Chunk.attn_factored (hA c)]
    simp only [true_and, qDecayed_at, kInverse_at, hb]
    by_cases h : s ≤ i
    · simp only [if_pos h]; rw [mul_comm]; rfl
    · simp only [if_neg h]; rw [mul_zero]
  · intro c' s hc
    rw [triMask_row, select_if, if_neg (fun h => hc h.1)]

theorem state1_at (s : FVec Ideal S256x128 .f32) :
    sAt (state1 b (added ownMask b y v) s) = next (kAt y 0) (cums (A 0)) (vAt v 0) (sAt s) := by
  funext d e
  have h := added_at b y v hb 0 d e
  unfold sAt state1
  pointwise
  rw [lastRows_at, hb, mul_comm]
  refine congrArg₂ _ rfl (Eq.trans (congrArg (fun r => added ownMask b y v (ix2 e r)) (Fin.ext ?_)) h)
  simp [col]

theorem state2_at (s : FVec Ideal S256x128 .f32) :
    sAt (state2 b (added ownMask b y v) s) = next (kAt y 1) (cums (A 1)) (vAt v 1) (sAt s) := by
  funext d e
  have h := added_at b y v hb 1 d e
  unfold sAt state2
  pointwise
  rw [lastRows_at, hb, mul_comm]
  refine congrArg₂ _ rfl (Eq.trans (congrArg (fun r => added ownMask b y v (ix2 e r)) (Fin.ext ?_)) h)
  simp [col]

theorem state3_at (s : FVec Ideal S256x128 .f32) :
    sAt (state3 b (added ownMask b y v) s) = next (kAt y 2) (cums (A 2)) (vAt v 2) (sAt s) := by
  funext d e
  have h := added_at b y v hb 2 d e
  unfold sAt state3
  pointwise
  rw [lastRows_at, hb, mul_comm]
  refine congrArg₂ _ rfl (Eq.trans (congrArg (fun r => added ownMask b y v (ix2 e r)) (Fin.ext ?_)) h)
  simp [col]

theorem state4_at (s : FVec Ideal S256x128 .f32) :
    sAt (state4 b (added ownMask b y v) s) = next (kAt y 3) (cums (A 3)) (vAt v 3) (sAt s) := by
  funext d e
  have h := added_at b y v hb 3 d e
  unfold sAt state4
  pointwise
  rw [lastRows_at, hb, mul_comm]
  refine congrArg₂ _ rfl (Eq.trans (congrArg (fun r => added ownMask b y v (ix2 e r)) (Fin.ext ?_)) h)
  simp [col]

omit hb in
/-- The state a trip starts from. -/
theorem state0_at (d : Fin 128) (e : Fin 256) : sAt (state0 st) d e = st (ix3 0 e d) := by
  unfold sAt state0
  pointwise

/-- The state before chunk `c` of a trip that starts from `S`. -/
def stateIn (K A : Fin 4 → Fin 64 → Fin 128 → EReal) (V : Fin 4 → Fin 64 → Fin 256 → EReal) (S : Fin 128 → Fin 256 → EReal) :
    ℕ → Fin 128 → Fin 256 → EReal
  | 0 => S
  | n + 1 => if h : n < 4 then next (K ⟨n, h⟩) (cums (A ⟨n, h⟩)) (V ⟨n, h⟩) (stateIn K A V S n) else stateIn K A V S n

/-- The state a trip leaves. -/
theorem stateAfter_at (d : Fin 128) (e : Fin 256) :
    stateAfter b (added ownMask b y v) st (ix3 0 e d) = stateIn (kAt y) A (vAt v) (fun d e => st (ix3 0 e d)) 4 d e := by
  have h : stateIn (kAt y) A (vAt v) (fun d e => st (ix3 0 e d)) 4
      = sAt (state4 b (added ownMask b y v) (state3 b (added ownMask b y v) (state2 b (added ownMask b y v) (state1 b (added ownMask b y v) (state0 st))))) := by
    rw [state4_at b y v hb, state3_at b y v hb, state2_at b y v hb, state1_at b y v hb, show sAt (state0 st) = fun d e => st (ix3 0 e d) from funext fun d => funext fun e => state0_at st d e]
    rfl
  rw [h]
  unfold stateAfter
  pointwise
  rfl

/-- What the rows of a chunk read of the state before it. -/
theorem across_at (c : Fin 4) (i : Fin 64) (e : Fin 256) :
    across ownMask b q (added ownMask b y v) st (ix2 (row c i) e)
      = ∑ d, stateIn (kAt y) A (vAt v) (fun d e => st (ix3 0 e d)) c.val d e * (qAt q c i d * Ideal.exp (cums (A c) i d)) := by
  have h0 : stateIn (kAt y) A (vAt v) (fun d e => st (ix3 0 e d)) 0 = sAt (state0 st) :=
    (show sAt (state0 st) = fun d e => st (ix3 0 e d) from funext fun d => funext fun e => state0_at st d e).symm
  have h1 : stateIn (kAt y) A (vAt v) (fun d e => st (ix3 0 e d)) 1 = sAt (state1 b (added ownMask b y v) (state0 st)) := by
    rw [state1_at b y v hb, ← h0]; rfl
  have h2 : stateIn (kAt y) A (vAt v) (fun d e => st (ix3 0 e d)) 2
      = sAt (state2 b (added ownMask b y v) (state1 b (added ownMask b y v) (state0 st))) := by
    rw [state2_at b y v hb, ← h1]; rfl
  have h3 : stateIn (kAt y) A (vAt v) (fun d e => st (ix3 0 e d)) 3
      = sAt (state3 b (added ownMask b y v) (state2 b (added ownMask b y v) (state1 b (added ownMask b y v) (state0 st)))) := by
    rw [state3_at b y v hb, ← h2]; rfl
  unfold across
  pointwise
  rw [sum_cols_own _ c]
  · refine Finset.sum_congr rfl fun d _ => ?_
    rw [spread_at, if_pos rfl, qDecayed_at, hb, mul_comm]
    refine congrArg₂ _ ?_ rfl
    have hv : (col c d).val = 128 * c.val + d.val := rfl
    have hd : d.val < 128 := d.2
    have hc4 : c.val < 4 := c.2
    have key : ∀ (s : FVec Ideal S256x128 .f32) (r : ℕ) (h : r < 128), r = d.val → s (ix2 e ⟨r, h⟩) = sAt s d e := fun s r h e' => by
      subst e'; rfl
    by_cases g1 : (col c d).val < 128
    · rw [dif_pos g1, show c.val = 0 by omega, h0]
      exact key _ _ _ (by omega)
    rw [dif_neg g1]
    by_cases g2 : (col c d).val - 128 < 128
    · rw [dif_pos g2, show c.val = 1 by omega, h1]
      exact key _ _ _ (by omega)
    rw [dif_neg g2]
    by_cases g3 : (col c d).val - 128 - 128 < 128
    · rw [dif_pos g3, show c.val = 2 by omega, h2]
      exact key _ _ _ (by omega)
    rw [dif_neg g3, show c.val = 3 by omega, h3]
    exact key _ _ _ (by omega)
  · intro c' d hc
    rw [spread_at, if_neg hc, zero_mul]

/-- The head's outputs before the normalization. -/
theorem mixed_at (hA : ∀ c i d, A c i d ≤ 0) (c : Fin 4) (i : Fin 64) (e : Fin 256) :
    mixed triMask ownMask b q y v st (ix2 (row c i) e)
      = out (qAt q c) (kAt y c) (cums (A c)) (vAt v c) (stateIn (kAt y) A (vAt v) (fun d e => st (ix3 0 e d)) c.val) i e := by
  unfold mixed
  pointwise
  rw [within_at b q y v hb hA, across_at b q y v st hb, add_comm]
  rfl

end

/-- A row normalized, scaled by the gain and gated, at an entry. -/
def gate (o gain g : Fin 256 → EReal) (e : Fin 256) : EReal :=
  o e * Ideal.rsqrt (Ideal.div (∑ x, o x * o x) (Ideal.ofBits .f32 0x43800000#32) + Ideal.ofBits .f32 0x358637BD#32) * gain e
    * (g e * Ideal.logistic (g e))

theorem gated_at (o : FVec Ideal S256x256 .f32) (gain : Vec Ideal S1x256 .f32) (g : Vec Ideal S1x256x256 .f32) (r e : Fin 256) :
    gated o gain g (ix3 0 r e) = gate (fun e => o (ix2 r e)) (fun e => gain (ix2 0 e)) (fun e => g (ix3 0 r e)) e := by
  unfold gated
  pointwise
  rfl

end Cert.KernelIdeal.Own

end
-- ==== Proof.Spec.lean ====
/-
  The layer's gated linear attention as a function of its arrays.
-/
module

public import proofs.«01_k».proof.Proof.HeadAt

@[expose] public section

set_option maxRecDepth 16384

noncomputable section

namespace Cert.Proof.Spec

open Idealize.ShloMosaic
open Cert.Proof.Chunk

/-- Row `i` of chunk `n` of the sequence. -/
def seqRow (n : ℕ) (i : Fin 64) : Fin 2048 := ⟨(64 * n + i.val) % 2048, Nat.mod_lt _ (by norm_num)⟩

/-- Feature `d` of head `h` among the queries' and keys' columns. -/
def keyCol (h : Fin 4) (d : Fin 128) : Fin 512 := ⟨128 * h.val + d.val, by omega⟩

/-- Feature `e` of head `h` among the values' columns. -/
def valCol (h : Fin 4) (e : Fin 256) : Fin 1024 := ⟨256 * h.val + e.val, by omega⟩

variable (bq bk : (⟨3, ![4, 2048, 512]⟩ : Shape).Idx → EReal) (bv bg : (⟨3, ![4, 2048, 1024]⟩ : Shape).Idx → EReal)
  (ba : (⟨3, ![4, 2048, 16]⟩ : Shape).Idx → EReal) (wup : (⟨2, ![16, 512]⟩ : Shape).Idx → EReal)
  (bias : (⟨1, ![512]⟩ : Shape).Idx → EReal) (gain : (⟨1, ![256]⟩ : Shape).Idx → EReal)

/-- The scaled queries of a head of batch entry `B`, chunk by chunk. -/
def queries (B h : Fin 4) (n : ℕ) (i : Fin 64) (d : Fin 128) : EReal :=
  bq (ix3 B (seqRow n i) (keyCol h d)) * Ideal.ofBits .f32 0x3DB504F3#32

/-- The keys of a head, chunk by chunk. -/
def keys (B h : Fin 4) (n : ℕ) (i : Fin 64) (d : Fin 128) : EReal := bk (ix3 B (seqRow n i) (keyCol h d))

/-- The values of a head, chunk by chunk. -/
def values (B h : Fin 4) (n : ℕ) (i : Fin 64) (e : Fin 256) : EReal := bv (ix3 B (seqRow n i) (valCol h e))

/-- The log decays of a head, chunk by chunk. -/
def decays (B h : Fin 4) (n : ℕ) (i : Fin 64) (d : Fin 128) : EReal :=
  logDecay ((∑ l : Fin 16, ba (ix3 B (seqRow n i) l) * wup (ix2 l (keyCol h d))) + bias (ix1 (keyCol h d)))

/-- No log decay is positive. -/
theorem decays_nonpos (B h : Fin 4) (n : ℕ) (i : Fin 64) (d : Fin 128) : decays ba wup bias B h n i d ≤ 0 :=
  logDecay_nonpos _

/-- The state of a head before chunk `n`. -/
def stateAt (B h : Fin 4) (n : ℕ) : Fin 128 → Fin 256 → EReal :=
  state (keys bk B h) (decays ba wup bias B h) (values bv B h) n

/-- The outputs of a head at chunk `n`, before normalization and gating. -/
def outsAt (B h : Fin 4) (n : ℕ) : Fin 64 → Fin 256 → EReal :=
  outs (queries bq B h) (keys bk B h) (decays ba wup bias B h) (values bv B h) n

/-- The layer's entry at row `i` of chunk `n` and feature `e` of head `h`. -/
def entry (B : Fin 4) (n : ℕ) (i : Fin 64) (h : Fin 4) (e : Fin 256) : EReal :=
  Cert.KernelIdeal.Own.gate (fun e => outsAt bq bk bv ba wup bias B h n i e) (fun e => gain (ix1 e))
    (fun e => bg (ix3 B (seqRow n i) (valCol h e))) e

end Cert.Proof.Spec
-- ==== Proof.HeadSpec.lean ====
/-
  The pieces a trip stores, read at an index, and one head of a trip as chunks of the layer.
-/
module

public import proofs.«01_k».proof.Proof.Spec
public import Idealize.ShloMosaic.Lib.WritesUnit
public import Idealize.ShloMosaic.Lib.Pipeline.ValueKit.Tiles

@[expose] public section

set_option maxRecDepth 16384

noncomputable section

namespace Cert.KernelIdeal.Own

open Idealize.ShloMosaic Idealize.ShloMosaic.TcCoe
open Cert.KernelIdeal.Gen
open Cert.Proof.Chunk (row col logDecay cum cums attn out next)
open Cert.Proof.Spec

/-! ### Loads of the trip's rows -/

theorem rows128_at (a : Memref sig .tc .vmem S1x512x512 .f32) (X : BufTy.Contents (Elt Ideal) a.view.ty) (off : Fin 3 → ℕ)
    (hb : ∀ j, off j + S1x256x128.size j ≤ S1x512x512.size j) (k h : ℕ) (hoff : off = ![0, 256 * k, 128 * h])
    (r : Fin 256) (d : Fin 128) (R n : Fin 512) (hR : R.val = 256 * k + r.val) (hn : n.val = 128 * h + d.val) :
    rows128 (F := Ideal) a X off hb (ix3 0 r d) = a.view.read (Elt Ideal) X (ix3 0 R n) := by
  subst hoff
  exact View.ld_unit_apply_of (a.view.read (Elt Ideal) X) _ _ hb (ix3 0 r d) (ix3 0 R n) fun j => by
    fin_cases j
    · rfl
    · exact hR
    · exact hn

theorem rows256_at (a : Memref sig .tc .vmem S1x512x1024 .f32) (X : BufTy.Contents (Elt Ideal) a.view.ty) (off : Fin 3 → ℕ)
    (hb : ∀ j, off j + S1x256x256.size j ≤ S1x512x1024.size j) (k h : ℕ) (hoff : off = ![0, 256 * k, 256 * h])
    (r e : Fin 256) (R : Fin 512) (n : Fin 1024) (hR : R.val = 256 * k + r.val) (hn : n.val = 256 * h + e.val) :
    rows256 (F := Ideal) a X off hb (ix3 0 r e) = a.view.read (Elt Ideal) X (ix3 0 R n) := by
  subst hoff
  exact View.ld_unit_apply_of (a.view.read (Elt Ideal) X) _ _ hb (ix3 0 r e) (ix3 0 R n) fun j => by
    fin_cases j
    · rfl
    · exact hR
    · exact hn

theorem rowsBa_at (a : Memref sig .tc .vmem S1x512x128 .f32) (X : BufTy.Contents (Elt Ideal) a.view.ty) (off : Fin 3 → ℕ)
    (hb : ∀ j, off j + S1x256x128.size j ≤ S1x512x128.size j) (k : ℕ) (hoff : off = ![0, 256 * k, 0])
    (r : Fin 256) (l : Fin 128) (R : Fin 512) (hR : R.val = 256 * k + r.val) :
    View.readAt (Elt Ideal) a.view (Rect.unit (s := S1x512x128) off S1x256x128.size hb).toLoadRect X (ix3 0 r l)
      = a.view.read (Elt Ideal) X (ix3 0 R l) := by
  subst hoff
  exact View.ld_unit_apply_of (a.view.read (Elt Ideal) X) _ _ hb (ix3 0 r l) (ix3 0 R l) fun j => by
    fin_cases j
    · rfl
    · exact hR
    · exact (Nat.zero_add _).symm

theorem tripBa_at (a : Memref sig .tc .vmem S1x512x128 .f32) (X : BufTy.Contents (Elt Ideal) a.view.ty) (k : Fin k0_t1_loop.trips)
    (r : Fin 256) (l : Fin 128) (R : Fin 512) (hR : R.val = 256 * k.val + r.val) :
    tripBa (F := Ideal) a X k (ix3 0 r l) = a.view.read (Elt Ideal) X (ix3 0 R l) :=
  rowsBa_at a X _ (k0_off1_inb k) k.val (k0_off1_eq k) r l R hR

theorem headState_at (a : Memref sig .tc .vmem S4x256x128 .f32) (g : BufTy.Contents (Elt Ideal) a.view.ty) (h : Fin 4)
    (hb : ∀ j, (![h.val, 0, 0] : Fin 3 → ℕ) j + S1x256x128.size j ≤ S4x256x128.size j) (e : Fin 256) (d : Fin 128) :
    headState (F := Ideal) a g ![h.val, 0, 0] hb (ix3 0 e d) = a.view.read (Elt Ideal) g (ix3 h e d) :=
  View.ld_unit_apply_of (a.view.read (Elt Ideal) g) _ _ hb (ix3 0 e d) (ix3 h e d) fun j => by
    fin_cases j
    · rfl
    · exact (Nat.zero_add _).symm
    · exact (Nat.zero_add _).symm

/-! ### Stored pieces -/

section Pieces
variable {κ : Kind} {sp : Space}

/-- The four heads' states, stored one over another, read back. -/
theorem read_states (v : View sig κ sp S4x256x128 .f32) (f : v.ty.Contents (Elt Ideal)) (w3 w2 w1 w0 : Vec Ideal S1x256x128 .f32)
    (L : List (View.Piece (Elt Ideal) S4x256x128 .f32)) (H : Fin 4 → Fin 256 → Fin 128 → EReal)
    (h3 : ∀ e d, w3 (ix3 0 e d) = H 3 e d) (h2 : ∀ e d, w2 (ix3 0 e d) = H 2 e d)
    (h1 : ∀ e d, w1 (ix3 0 e d) = H 1 e d) (h0 : ∀ e d, w0 (ix3 0 e d) = H 0 e d) (h : Fin 4) (e : Fin 256) (d : Fin 128) :
    v.read (Elt Ideal) (v.writes (Elt Ideal) f
      ([⟨Rect.unit ![3, 0, 0] S1x256x128.size inb_S4x256x128_S1x256x128_3_0_0, w3⟩,
        ⟨Rect.unit ![2, 0, 0] S1x256x128.size inb_S4x256x128_S1x256x128_2_0_0, w2⟩,
        ⟨Rect.unit ![1, 0, 0] S1x256x128.size inb_S4x256x128_S1x256x128_1_0_0, w1⟩,
        ⟨Rect.unit ![0, 0, 0] S1x256x128.size inb_S4x256x128_S1x256x128_0_0_0, w0⟩] ++ L)) (ix3 h e d) = H h e d := by
  have at_mem : ∀ (m : ℕ) (hm : h.val = m) (j : Fin 3), ((ix3 h e d : S4x256x128.Idx) j).val = (![m, 0, 0] : Fin 3 → ℕ) j + ((ix3 (0 : Fin 1) e d : S1x256x128.Idx) j).val := by
    intro m hm j
    fin_cases j
    · exact hm
    · exact (Nat.zero_add _).symm
    · exact (Nat.zero_add _).symm
  have off_mem : ∀ (m : ℕ), h.val < m → ((ix3 h e d : S4x256x128.Idx) 0).val < (![m, 0, 0] : Fin 3 → ℕ) 0 ∨ (![m, 0, 0] : Fin 3 → ℕ) 0 + S1x256x128.size 0 ≤ ((ix3 h e d : S4x256x128.Idx) 0).val :=
    fun m hm => Or.inl hm
  by_cases e3 : h.val = 3
  · obtain rfl : h = 3 := Fin.ext e3
    exact (View.read_writes_cons_unit_of_mem (size := S1x256x128.size) v f _ w3 _ _ (ix3 0 e d) rfl (at_mem 3 e3)).trans (h3 e d)
  refine (View.read_writes_cons_unit_of_not_mem (size := S1x256x128.size) v f _ w3 _ _ rfl 0 (off_mem 3 (by omega))).trans ?_
  by_cases e2 : h.val = 2
  · obtain rfl : h = 2 := Fin.ext e2
    exact (View.read_writes_cons_unit_of_mem (size := S1x256x128.size) v f _ w2 _ _ (ix3 0 e d) rfl (at_mem 2 e2)).trans (h2 e d)
  refine (View.read_writes_cons_unit_of_not_mem (size := S1x256x128.size) v f _ w2 _ _ rfl 0 (off_mem 2 (by omega))).trans ?_
  by_cases e1 : h.val = 1
  · obtain rfl : h = 1 := Fin.ext e1
    exact (View.read_writes_cons_unit_of_mem (size := S1x256x128.size) v f _ w1 _ _ (ix3 0 e d) rfl (at_mem 1 e1)).trans (h1 e d)
  refine (View.read_writes_cons_unit_of_not_mem (size := S1x256x128.size) v f _ w1 _ _ rfl 0 (off_mem 1 (by omega))).trans ?_
  obtain rfl : h = 0 := Fin.ext (by show h.val = 0; omega)
  exact (View.read_writes_cons_unit_of_mem (size := S1x256x128.size) v f _ w0 _ _ (ix3 0 e d) rfl (at_mem 0 rfl)).trans (h0 e d)

variable (v : View sig κ sp S1x512x1024 .bf16) (f : v.ty.Contents (Elt Ideal)) (k : Fin k0_t1_loop.trips)
  (w3 w2 w1 w0 : Vec Ideal S1x256x256 .bf16) (L : List (View.Piece (Elt Ideal) S1x512x1024 .bf16))

/-- The four heads' outputs of a trip, read back at the trip's rows. -/
theorem read_outs (H : Fin 4 → Fin 256 → Fin 256 → EReal)
    (h3 : ∀ r e, w3 (ix3 0 r e) = H 3 r e) (h2 : ∀ r e, w2 (ix3 0 r e) = H 2 r e)
    (h1 : ∀ r e, w1 (ix3 0 r e) = H 1 r e) (h0 : ∀ r e, w0 (ix3 0 r e) = H 0 r e) (h : Fin 4) (r e : Fin 256)
    (R : Fin 512) (n : Fin 1024) (hR : R.val = 256 * k.val + r.val) (hn : n.val = 256 * h.val + e.val) :
    v.read (Elt Ideal) (v.writes (Elt Ideal) f
      ([⟨Rect.unit (k0_off9 k) S1x256x256.size (k0_off9_inb k), w3⟩, ⟨Rect.unit (k0_off7 k) S1x256x256.size (k0_off7_inb k), w2⟩,
        ⟨Rect.unit (k0_off5 k) S1x256x256.size (k0_off5_inb k), w1⟩, ⟨Rect.unit (k0_off3 k) S1x256x256.size (k0_off3_inb k), w0⟩] ++ L))
      (ix3 0 R n) = H h r e := by
  have at_mem : ∀ (m : ℕ) (hm : 256 * h.val = m) (j : Fin 3), ((ix3 (0 : Fin 1) R n : S1x512x1024.Idx) j).val = (![0, 256 * k.val, m] : Fin 3 → ℕ) j + ((ix3 (0 : Fin 1) r e : S1x256x256.Idx) j).val := by
    intro m hm j
    fin_cases j
    · rfl
    · exact hR
    · exact hn.trans (by subst hm; rfl)
  have off_mem : ∀ (m : ℕ), 256 * h.val + 256 ≤ m → ((ix3 (0 : Fin 1) R n : S1x512x1024.Idx) 2).val < (![0, 256 * k.val, m] : Fin 3 → ℕ) 2 ∨ (![0, 256 * k.val, m] : Fin 3 → ℕ) 2 + S1x256x256.size 2 ≤ ((ix3 (0 : Fin 1) R n : S1x512x1024.Idx) 2).val :=
    fun m hm => Or.inl (by show n.val < m; omega)
  by_cases e3 : h.val = 3
  · obtain rfl : h = 3 := Fin.ext e3
    exact (View.read_writes_cons_unit_of_mem (size := S1x256x256.size) v f _ w3 _ _ (ix3 0 r e) (k0_off9_eq k) (at_mem 768 rfl)).trans (h3 r e)
  refine (View.read_writes_cons_unit_of_not_mem (size := S1x256x256.size) v f _ w3 _ _ (k0_off9_eq k) 2 (off_mem 768 (by omega))).trans ?_
  by_cases e2 : h.val = 2
  · obtain rfl : h = 2 := Fin.ext e2
    exact (View.read_writes_cons_unit_of_mem (size := S1x256x256.size) v f _ w2 _ _ (ix3 0 r e) (k0_off7_eq k) (at_mem 512 rfl)).trans (h2 r e)
  refine (View.read_writes_cons_unit_of_not_mem (size := S1x256x256.size) v f _ w2 _ _ (k0_off7_eq k) 2 (off_mem 512 (by omega))).trans ?_
  by_cases e1 : h.val = 1
  · obtain rfl : h = 1 := Fin.ext e1
    exact (View.read_writes_cons_unit_of_mem (size := S1x256x256.size) v f _ w1 _ _ (ix3 0 r e) (k0_off5_eq k) (at_mem 256 rfl)).trans (h1 r e)
  refine (View.read_writes_cons_unit_of_not_mem (size := S1x256x256.size) v f _ w1 _ _ (k0_off5_eq k) 2 (off_mem 256 (by omega))).trans ?_
  obtain rfl : h = 0 := Fin.ext (by show h.val = 0; omega)
  exact (View.read_writes_cons_unit_of_mem (size := S1x256x256.size) v f _ w0 _ _ (ix3 0 r e) (k0_off3_eq k) (at_mem 0 rfl)).trans (h0 r e)

/-- At the rows of the other trip nothing changes. -/
theorem read_outs_off (R : Fin 512) (n : Fin 1024) (hR : R.val < 256 * k.val ∨ 256 * k.val + 256 ≤ R.val) :
    v.read (Elt Ideal) (v.writes (Elt Ideal) f
      ([⟨Rect.unit (k0_off9 k) S1x256x256.size (k0_off9_inb k), w3⟩, ⟨Rect.unit (k0_off7 k) S1x256x256.size (k0_off7_inb k), w2⟩,
        ⟨Rect.unit (k0_off5 k) S1x256x256.size (k0_off5_inb k), w1⟩, ⟨Rect.unit (k0_off3 k) S1x256x256.size (k0_off3_inb k), w0⟩] ++ L))
      (ix3 0 R n) = v.read (Elt Ideal) (v.writes (Elt Ideal) f L) (ix3 0 R n) := by
  refine (View.read_writes_cons_unit_of_not_mem (size := S1x256x256.size) v f _ w3 _ _ (k0_off9_eq k) 1 hR).trans ?_
  refine (View.read_writes_cons_unit_of_not_mem (size := S1x256x256.size) v f _ w2 _ _ (k0_off7_eq k) 1 hR).trans ?_
  refine (View.read_writes_cons_unit_of_not_mem (size := S1x256x256.size) v f _ w1 _ _ (k0_off5_eq k) 1 hR).trans ?_
  refine (View.read_writes_cons_unit_of_not_mem (size := S1x256x256.size) v f _ w0 _ _ (k0_off3_eq k) 1 hR).trans ?_
  rfl

end Pieces

/-! ### A head of a trip as chunks of the layer -/

/-- The states inside a trip are the layer's. -/
theorem stateIn_eq (K A : ℕ → Fin 64 → Fin 128 → EReal) (V : ℕ → Fin 64 → Fin 256 → EReal) (n0 : ℕ) : ∀ n, n ≤ 4 →
    stateIn (fun c => K (n0 + c.val)) (fun c => A (n0 + c.val)) (fun c => V (n0 + c.val)) (Cert.Proof.Chunk.state K A V n0) n
      = Cert.Proof.Chunk.state K A V (n0 + n) := by
  intro n
  induction n with
  | zero => intro _; rfl
  | succ n ih =>
    intro hn
    rw [stateIn, dif_pos (by omega), ih (by omega)]
    rfl

section Heads
variable (bq bk : (⟨3, ![4, 2048, 512]⟩ : Shape).Idx → EReal) (bv bg : (⟨3, ![4, 2048, 1024]⟩ : Shape).Idx → EReal)
  (ba : (⟨3, ![4, 2048, 16]⟩ : Shape).Idx → EReal) (wup : (⟨2, ![16, 512]⟩ : Shape).Idx → EReal)
  (bias : (⟨1, ![512]⟩ : Shape).Idx → EReal) (gn : (⟨1, ![256]⟩ : Shape).Idx → EReal) (B h : Fin 4) (n0 : ℕ)
  (b : FVec Ideal S256x128 .f32) (q y : Vec Ideal S1x256x128 .f32) (v g : Vec Ideal S1x256x256 .f32)
  (gain : Vec Ideal S1x256 .f32) (st : Vec Ideal S1x256x128 .f32)
  (hb : ∀ c i d, b (ix2 (row c i) d) = cums (decays ba wup bias B h (n0 + c.val)) i d)
  (hq : ∀ c i d, q (ix3 0 (row c i) d) = bq (ix3 B (seqRow (n0 + c.val) i) (keyCol h d)))
  (hy : ∀ c i d, y (ix3 0 (row c i) d) = keys bk B h (n0 + c.val) i d)
  (hv : ∀ c i e, v (ix3 0 (row c i) e) = values bv B h (n0 + c.val) i e)
  (hg : ∀ c i e, g (ix3 0 (row c i) e) = bg (ix3 B (seqRow (n0 + c.val) i) (valCol h e)))
  (hn : ∀ e, gain (ix2 0 e) = gn (ix1 e))
  (hs : ∀ d e, st (ix3 0 e d) = stateAt bk bv ba wup bias B h n0 d e)

include hy hv hs in
theorem head_states (n : ℕ) (hn4 : n ≤ 4) :
    stateIn (kAt y) (fun c => decays ba wup bias B h (n0 + c.val)) (vAt v) (fun d e => st (ix3 0 e d)) n
      = stateAt bk bv ba wup bias B h (n0 + n) := by
  rw [show kAt y = fun c => keys bk B h (n0 + c.val) from funext fun c => funext fun i => funext fun d => hy c i d,
    show vAt v = fun c => values bv B h (n0 + c.val) from funext fun c => funext fun i => funext fun e => hv c i e,
    show (fun d e => st (ix3 0 e d)) = stateAt bk bv ba wup bias B h n0 from funext fun d => funext fun e => hs d e]
  exact stateIn_eq _ _ _ n0 n hn4

include hb hy hv hs in
/-- The state the head leaves is the layer's four chunks on. -/
theorem head_state (e : Fin 256) (d : Fin 128) :
    stateAfter b (added ownMask b y v) st (ix3 0 e d) = stateAt bk bv ba wup bias B h (n0 + 4) d e := by
  rw [stateAfter_at b y v st hb d e, head_states bk bv ba wup bias B h n0 y v st hy hv hs 4 le_rfl]

include hb hq hy hv hg hn hs in
/-- The outputs the head stores are the layer's. -/
theorem head_out (cc : Fin 4) (i : Fin 64) (e : Fin 256) :
    gated (mixed triMask ownMask b q y v st) gain g (ix3 0 (row cc i) e)
      = entry bq bk bv bg ba wup bias gn B (n0 + cc.val) i h e := by
  rw [gated_at, entry]
  have h1 : (fun e => mixed triMask ownMask b q y v st (ix2 (row cc i) e))
      = fun e => outsAt bq bk bv ba wup bias B h (n0 + cc.val) i e := funext fun e => by
    rw [mixed_at b q y v st hb (fun c i d => decays_nonpos ba wup bias B h _ i d) cc i e,
      head_states bk bv ba wup bias B h n0 y v st hy hv hs cc.val (by omega),
      show kAt y cc = keys bk B h (n0 + cc.val) from funext fun i => funext fun d => hy cc i d,
      show vAt v cc = values bv B h (n0 + cc.val) from funext fun i => funext fun e => hv cc i e,
      show qAt q cc = queries bq B h (n0 + cc.val) from funext fun i => funext fun d => by rw [qAt, hq]; rfl]
    rfl
  rw [h1, funext hn, show (fun e => g (ix3 0 (row cc i) e)) = fun e => bg (ix3 B (seqRow (n0 + cc.val) i) (valCol h e)) from
    funext fun e => hg cc i e]

end Heads

end Cert.KernelIdeal.Own
-- ==== Proof.Tile.lean ====
/-
  A tile of 512 rows: the two trips of the kernel's loop, read as eight chunks of the layer.
-/
module

public import proofs.«01_k».proof.Proof.HeadSpec
public import Idealize.ShloMosaic.Lib.WritesUnit
public import Idealize.ShloMosaic.Lib.Pipeline.ValueKit.Tiles

@[expose] public section

set_option maxRecDepth 16384

noncomputable section

namespace Cert.KernelIdeal.Own

open Idealize.ShloMosaic Idealize.ShloMosaic.TcCoe
open Cert.KernelIdeal.Gen
open Cert.Proof.Chunk (row col logDecay cum cums attn out next)
open Cert.Proof.Spec

/-- The loop makes two trips. -/
theorem trips_eq : k0_t1_loop.trips = 2 := by decide +kernel

/-- A tile's windows hold rows of the layer's arrays: tile `T` of batch entry `B`. -/
structure Holds (bq bk : (⟨3, ![4, 2048, 512]⟩ : Shape).Idx → EReal) (bv bg : (⟨3, ![4, 2048, 1024]⟩ : Shape).Idx → EReal)
    (ba : (⟨3, ![4, 2048, 16]⟩ : Shape).Idx → EReal) (wup : (⟨2, ![16, 512]⟩ : Shape).Idx → EReal)
    (bias : (⟨1, ![512]⟩ : Shape).Idx → EReal) (gn : (⟨1, ![256]⟩ : Shape).Idx → EReal) (B : Fin 4) (T : ℕ)
    (xq xy : Vec Ideal S1x512x512 .f32) (xv xg : Vec Ideal S1x512x1024 .f32) (xa : Vec Ideal S1x512x128 .f32)
    (xw : Vec Ideal S16x512 .f32) (xp : Vec Ideal S1x512 .f32) (xn : Vec Ideal S1x256 .f32) : Prop where
  q : ∀ (m : ℕ) (i : Fin 64) (h : Fin 4) (d : Fin 128) (R : Fin 512), R.val = 64 * m + i.val →
    xq (ix3 0 R (keyCol h d)) = bq (ix3 B (seqRow (8 * T + m) i) (keyCol h d))
  y : ∀ (m : ℕ) (i : Fin 64) (h : Fin 4) (d : Fin 128) (R : Fin 512), R.val = 64 * m + i.val →
    xy (ix3 0 R (keyCol h d)) = bk (ix3 B (seqRow (8 * T + m) i) (keyCol h d))
  v : ∀ (m : ℕ) (i : Fin 64) (h : Fin 4) (e : Fin 256) (R : Fin 512), R.val = 64 * m + i.val →
    xv (ix3 0 R (valCol h e)) = bv (ix3 B (seqRow (8 * T + m) i) (valCol h e))
  g : ∀ (m : ℕ) (i : Fin 64) (h : Fin 4) (e : Fin 256) (R : Fin 512), R.val = 64 * m + i.val →
    xg (ix3 0 R (valCol h e)) = bg (ix3 B (seqRow (8 * T + m) i) (valCol h e))
  a : ∀ (m : ℕ) (i : Fin 64) (l : Fin 16) (R : Fin 512), R.val = 64 * m + i.val →
    xa (ix3 0 R ⟨l.val, by omega⟩) = ba (ix3 B (seqRow (8 * T + m) i) l)
  w : ∀ (l : Fin 16) (n : Fin 512), xw (ix2 l n) = wup (ix2 l n)
  p : ∀ n : Fin 512, xp (ix2 0 n) = bias (ix1 n)
  gn : ∀ e : Fin 256, xn (ix2 0 e) = gn (ix1 e)

/-- Columns of one head among the four heads' running sums. -/
theorem slice_at (X : FVec Ideal S256x512 .f32) (off : Fin 2 → ℕ) (h : Fin 4) (hs : S256x512.Slices off S256x128)
    (hoff : off = ![0, 128 * h.val]) (r : Fin 256) (d : Fin 128) :
    extractStridedSlice S256x128 off X hs (ix2 r d) = X (ix2 r (keyCol h d)) := by
  subst hoff
  unfold keyCol
  pointwise
  try rfl

/-- A row of 256 as a row of one of four chunks. -/
theorem out_row (bq bk : (⟨3, ![4, 2048, 512]⟩ : Shape).Idx → EReal) (bv bg : (⟨3, ![4, 2048, 1024]⟩ : Shape).Idx → EReal)
    (ba : (⟨3, ![4, 2048, 16]⟩ : Shape).Idx → EReal) (wup : (⟨2, ![16, 512]⟩ : Shape).Idx → EReal)
    (bias : (⟨1, ![512]⟩ : Shape).Idx → EReal) (gn : (⟨1, ![256]⟩ : Shape).Idx → EReal) (B h : Fin 4) (n0 : ℕ)
    (o : Vec Ideal S1x256x256 .bf16)
    (ho : ∀ cc i e, o (ix3 0 (row cc i) e) = entry bq bk bv bg ba wup bias gn B (n0 + cc.val) i h e) (r e : Fin 256) :
    o (ix3 0 r e) = entry bq bk bv bg ba wup bias gn B (n0 + r.val / 64) ⟨r.val % 64, Nat.mod_lt _ (by norm_num)⟩ h e := by
  have hr : r = row ⟨r.val / 64, by omega⟩ ⟨r.val % 64, Nat.mod_lt _ (by norm_num)⟩ :=
    Fin.ext (by show r.val = 64 * (r.val / 64) + r.val % 64; omega)
  conv_lhs => rw [hr]
  exact ho _ _ e

section Tile
variable (bq bk : (⟨3, ![4, 2048, 512]⟩ : Shape).Idx → EReal) (bv bg : (⟨3, ![4, 2048, 1024]⟩ : Shape).Idx → EReal)
  (ba : (⟨3, ![4, 2048, 16]⟩ : Shape).Idx → EReal) (wup : (⟨2, ![16, 512]⟩ : Shape).Idx → EReal)
  (bias : (⟨1, ![512]⟩ : Shape).Idx → EReal) (gn : (⟨1, ![256]⟩ : Shape).Idx → EReal) (B : Fin 4) (T : ℕ)

section Loads
variable (arg2 : Memref sig .tc .vmem S1x512x512 .f32) (arg3 : Memref sig .tc .vmem S1x512x512 .f32) (arg4 : Memref sig .tc .vmem S1x512x1024 .f32) (arg5 : Memref sig .tc .vmem S1x512x1024 .f32) (arg6 : Memref sig .tc .vmem S1x512x128 .f32)
  (v110 : Vec Ideal S16x512 .f32) (v112 : Vec Ideal S1x512 .f32) (v114 : Vec Ideal S1x256 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (H : Holds bq bk bv bg ba wup bias gn B T (arg2.view.read (Elt Ideal) X_arg2) (arg3.view.read (Elt Ideal) X_arg3) (arg4.view.read (Elt Ideal) X_arg4)
    (arg5.view.read (Elt Ideal) X_arg5) (arg6.view.read (Elt Ideal) X_arg6) v110 v112 v114) (k : Fin k0_t1_loop.trips)

include H
/-- The trip's running sums are the layer's. -/
theorem tripCum_at (h : Fin 4) (c' : Fin 4) (i' : Fin 64) (d : Fin 128) :
    tripCum (F := Ideal) arg6 triOnes v110 v112 X_arg6 k (ix2 (row c' i') (keyCol h d))
      = cums (decays ba wup bias B h (8 * T + 4 * k.val + c'.val)) i' d := by
  have hk : k.val < 2 := lt_of_lt_of_eq k.isLt trips_eq
  refine (cum_at v110 v112 (tripBa (F := Ideal) arg6 X_arg6 k) c' i' (keyCol h d)).trans ?_
  rw [Nat.add_assoc (8 * T)]
  refine congrArg (fun a => cum a i') (funext fun s => ?_)
  have hR : (⟨256 * k.val + (64 * c'.val + s.val), by omega⟩ : Fin 512).val = 64 * (4 * k.val + c'.val) + s.val := by
    show 256 * k.val + (64 * c'.val + s.val) = 64 * (4 * k.val + c'.val) + s.val; omega
  unfold decays preAt
  exact congrArg logDecay (congrArg₂ (· + ·) (Finset.sum_congr rfl fun l _ => congrArg₂ (· * ·)
    ((tripBa_at arg6 X_arg6 k (row c' s) ⟨l.val, by omega⟩ ⟨256 * k.val + (64 * c'.val + s.val), by omega⟩ rfl).trans
      (H.a (4 * k.val + c'.val) s l _ hR)) (H.w l (keyCol h d))) (H.p (keyCol h d)))

theorem rows_q (h : Fin 4) (off : Fin 3 → ℕ) (hb : ∀ j, off j + S1x256x128.size j ≤ S1x512x512.size j) (hoff : off = ![0, 256 * k.val, 128 * h.val])
    (c' : Fin 4) (i' : Fin 64) (d : Fin 128) :
    rows128 (F := Ideal) arg2 X_arg2 off hb (ix3 0 (row c' i') d) = bq (ix3 B (seqRow (8 * T + 4 * k.val + c'.val) i') (keyCol h d)) := by
  have hk : k.val < 2 := lt_of_lt_of_eq k.isLt trips_eq
  refine (rows128_at arg2 X_arg2 off hb k.val h.val hoff (row c' i') d ⟨256 * k.val + (64 * c'.val + i'.val), by omega⟩ (keyCol h d) rfl rfl).trans ?_
  rw [Nat.add_assoc]
  exact H.q (4 * k.val + c'.val) i' h d _ (by show 256 * k.val + (64 * c'.val + i'.val) = 64 * (4 * k.val + c'.val) + i'.val; omega)

theorem rows_y (h : Fin 4) (off : Fin 3 → ℕ) (hb : ∀ j, off j + S1x256x128.size j ≤ S1x512x512.size j) (hoff : off = ![0, 256 * k.val, 128 * h.val])
    (c' : Fin 4) (i' : Fin 64) (d : Fin 128) :
    rows128 (F := Ideal) arg3 X_arg3 off hb (ix3 0 (row c' i') d) = keys bk B h (8 * T + 4 * k.val + c'.val) i' d := by
  have hk : k.val < 2 := lt_of_lt_of_eq k.isLt trips_eq
  refine (rows128_at arg3 X_arg3 off hb k.val h.val hoff (row c' i') d ⟨256 * k.val + (64 * c'.val + i'.val), by omega⟩ (keyCol h d) rfl rfl).trans ?_
  rw [Nat.add_assoc]
  exact H.y (4 * k.val + c'.val) i' h d _ (by show 256 * k.val + (64 * c'.val + i'.val) = 64 * (4 * k.val + c'.val) + i'.val; omega)

theorem rows_v (h : Fin 4) (off : Fin 3 → ℕ) (hb : ∀ j, off j + S1x256x256.size j ≤ S1x512x1024.size j) (hoff : off = ![0, 256 * k.val, 256 * h.val])
    (c' : Fin 4) (i' : Fin 64) (d : Fin 256) :
    rows256 (F := Ideal) arg4 X_arg4 off hb (ix3 0 (row c' i') d) = values bv B h (8 * T + 4 * k.val + c'.val) i' d := by
  have hk : k.val < 2 := lt_of_lt_of_eq k.isLt trips_eq
  refine (rows256_at arg4 X_arg4 off hb k.val h.val hoff (row c' i') d ⟨256 * k.val + (64 * c'.val + i'.val), by omega⟩ (valCol h d) rfl rfl).trans ?_
  rw [Nat.add_assoc]
  exact H.v (4 * k.val + c'.val) i' h d _ (by show 256 * k.val + (64 * c'.val + i'.val) = 64 * (4 * k.val + c'.val) + i'.val; omega)

theorem rows_g (h : Fin 4) (off : Fin 3 → ℕ) (hb : ∀ j, off j + S1x256x256.size j ≤ S1x512x1024.size j) (hoff : off = ![0, 256 * k.val, 256 * h.val])
    (c' : Fin 4) (i' : Fin 64) (d : Fin 256) :
    rows256 (F := Ideal) arg5 X_arg5 off hb (ix3 0 (row c' i') d) = bg (ix3 B (seqRow (8 * T + 4 * k.val + c'.val) i') (valCol h d)) := by
  have hk : k.val < 2 := lt_of_lt_of_eq k.isLt trips_eq
  refine (rows256_at arg5 X_arg5 off hb k.val h.val hoff (row c' i') d ⟨256 * k.val + (64 * c'.val + i'.val), by omega⟩ (valCol h d) rfl rfl).trans ?_
  rw [Nat.add_assoc]
  exact H.g (4 * k.val + c'.val) i' h d _ (by show 256 * k.val + (64 * c'.val + i'.val) = 64 * (4 * k.val + c'.val) + i'.val; omega)

/-- Head 0 of a trip meets the hypotheses of `head_state` and `head_out`. -/
theorem hb_0 (c' : Fin 4) (i' : Fin 64) (d : Fin 128) :
    (extractStridedSlice S256x128 ![0, 0] (tripCum (F := Ideal) arg6 triOnes v110 v112 X_arg6 k) slices_S256x512_o0_0_S256x128) (ix2 (row c' i') d)
      = cums (decays ba wup bias B 0 (8 * T + 4 * k.val + c'.val)) i' d :=
  (slice_at _ _ 0 _ rfl (row c' i') d).trans (tripCum_at bq bk bv bg ba wup bias gn B T arg2 arg3 arg4 arg5 arg6 v110 v112 v114 X_arg2 X_arg3 X_arg4 X_arg5 X_arg6 H k 0 c' i' d)

/-- Head 1 of a trip meets the hypotheses of `head_state` and `head_out`. -/
theorem hb_1 (c' : Fin 4) (i' : Fin 64) (d : Fin 128) :
    (extractStridedSlice S256x128 ![0, 128] (tripCum (F := Ideal) arg6 triOnes v110 v112 X_arg6 k) slices_S256x512_o0_128_S256x128) (ix2 (row c' i') d)
      = cums (decays ba wup bias B 1 (8 * T + 4 * k.val + c'.val)) i' d :=
  (slice_at _ _ 1 _ rfl (row c' i') d).trans (tripCum_at bq bk bv bg ba wup bias gn B T arg2 arg3 arg4 arg5 arg6 v110 v112 v114 X_arg2 X_arg3 X_arg4 X_arg5 X_arg6 H k 1 c' i' d)

/-- Head 2 of a trip meets the hypotheses of `head_state` and `head_out`. -/
theorem hb_2 (c' : Fin 4) (i' : Fin 64) (d : Fin 128) :
    (extractStridedSlice S256x128 ![0, 256] (tripCum (F := Ideal) arg6 triOnes v110 v112 X_arg6 k) slices_S256x512_o0_256_S256x128) (ix2 (row c' i') d)
      = cums (decays ba wup bias B 2 (8 * T + 4 * k.val + c'.val)) i' d :=
  (slice_at _ _ 2 _ rfl (row c' i') d).trans (tripCum_at bq bk bv bg ba wup bias gn B T arg2 arg3 arg4 arg5 arg6 v110 v112 v114 X_arg2 X_arg3 X_arg4 X_arg5 X_arg6 H k 2 c' i' d)

/-- Head 3 of a trip meets the hypotheses of `head_state` and `head_out`. -/
theorem hb_3 (c' : Fin 4) (i' : Fin 64) (d : Fin 128) :
    (extractStridedSlice S256x128 ![0, 384] (tripCum (F := Ideal) arg6 triOnes v110 v112 X_arg6 k) slices_S256x512_o0_384_S256x128) (ix2 (row c' i') d)
      = cums (decays ba wup bias B 3 (8 * T + 4 * k.val + c'.val)) i' d :=
  (slice_at _ _ 3 _ rfl (row c' i') d).trans (tripCum_at bq bk bv bg ba wup bias gn B T arg2 arg3 arg4 arg5 arg6 v110 v112 v114 X_arg2 X_arg3 X_arg4 X_arg5 X_arg6 H k 3 c' i' d)

end Loads

variable (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole) (v110 : Vec Ideal S16x512 .f32) (v112 : Vec Ideal S1x512 .f32) (v114 : Vec Ideal S1x256 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (H : Holds bq bk bv bg ba wup bias gn B T (arg2.view.read (Elt Ideal) X_arg2) (arg3.view.read (Elt Ideal) X_arg3) (arg4.view.read (Elt Ideal) X_arg4)
    (arg5.view.read (Elt Ideal) X_arg5) (arg6.view.read (Elt Ideal) X_arg6) v110 v112 v114)

section Trip
variable (k : Fin k0_t1_loop.trips) (f : BufTy.Contents (Elt Ideal) arg10.view.ty) (g : BufTy.Contents (Elt Ideal) arg11.view.ty)
  (hs : ∀ (h : Fin 4) (d : Fin 128) (e : Fin 256), arg11.view.read (Elt Ideal) g (ix3 h e d) = stateAt bk bv ba wup bias B h (8 * T + 4 * k.val) d e)

include H hs

/-- The states a trip leaves. -/
theorem trip_state {κ : Kind} {sp : Space} (v : View sig κ sp S4x256x128 .f32) (f0 : v.ty.Contents (Elt Ideal))
    (L : List (View.Piece (Elt Ideal) S4x256x128 .f32)) (h : Fin 4) (e : Fin 256) (d : Fin 128) :
    v.read (Elt Ideal) (v.writes (Elt Ideal) f0 ((tripL_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 k f g).2 ++ L)) (ix3 h e d)
      = stateAt bk bv ba wup bias B h (8 * T + 4 * k.val + 4) d e := by
  rw [trip_eq]
  exact read_states v f0 _ _ _ _ L (fun h e d => stateAt bk bv ba wup bias B h (8 * T + 4 * k.val + 4) d e)
    (head_state bk bv ba wup bias B 3 (8 * T + 4 * k.val) _ _ _ _ (hb_3 bq bk bv bg ba wup bias gn B T arg2 arg3 arg4 arg5 arg6 v110 v112 v114 X_arg2 X_arg3 X_arg4 X_arg5 X_arg6 H k) (rows_y bq bk bv bg ba wup bias gn B T arg2 arg3 arg4 arg5 arg6 v110 v112 v114 X_arg2 X_arg3 X_arg4 X_arg5 X_arg6 H k 3 _ _ (k0_off8_eq k)) (rows_v bq bk bv bg ba wup bias gn B T arg2 arg3 arg4 arg5 arg6 v110 v112 v114 X_arg2 X_arg3 X_arg4 X_arg5 X_arg6 H k 3 _ _ (k0_off9_eq k)) (fun d e => (headState_at arg11 g 3 inb_S4x256x128_S1x256x128_3_0_0 e d).trans (hs 3 d e)))
    (head_state bk bv ba wup bias B 2 (8 * T + 4 * k.val) _ _ _ _ (hb_2 bq bk bv bg ba wup bias gn B T arg2 arg3 arg4 arg5 arg6 v110 v112 v114 X_arg2 X_arg3 X_arg4 X_arg5 X_arg6 H k) (rows_y bq bk bv bg ba wup bias gn B T arg2 arg3 arg4 arg5 arg6 v110 v112 v114 X_arg2 X_arg3 X_arg4 X_arg5 X_arg6 H k 2 _ _ (k0_off6_eq k)) (rows_v bq bk bv bg ba wup bias gn B T arg2 arg3 arg4 arg5 arg6 v110 v112 v114 X_arg2 X_arg3 X_arg4 X_arg5 X_arg6 H k 2 _ _ (k0_off7_eq k)) (fun d e => (headState_at arg11 g 2 inb_S4x256x128_S1x256x128_2_0_0 e d).trans (hs 2 d e)))
    (head_state bk bv ba wup bias B 1 (8 * T + 4 * k.val) _ _ _ _ (hb_1 bq bk bv bg ba wup bias gn B T arg2 arg3 arg4 arg5 arg6 v110 v112 v114 X_arg2 X_arg3 X_arg4 X_arg5 X_arg6 H k) (rows_y bq bk bv bg ba wup bias gn B T arg2 arg3 arg4 arg5 arg6 v110 v112 v114 X_arg2 X_arg3 X_arg4 X_arg5 X_arg6 H k 1 _ _ (k0_off4_eq k)) (rows_v bq bk bv bg ba wup bias gn B T arg2 arg3 arg4 arg5 arg6 v110 v112 v114 X_arg2 X_arg3 X_arg4 X_arg5 X_arg6 H k 1 _ _ (k0_off5_eq k)) (fun d e => (headState_at arg11 g 1 inb_S4x256x128_S1x256x128_1_0_0 e d).trans (hs 1 d e)))
    (head_state bk bv ba wup bias B 0 (8 * T + 4 * k.val) _ _ _ _ (hb_0 bq bk bv bg ba wup bias gn B T arg2 arg3 arg4 arg5 arg6 v110 v112 v114 X_arg2 X_arg3 X_arg4 X_arg5 X_arg6 H k) (rows_y bq bk bv bg ba wup bias gn B T arg2 arg3 arg4 arg5 arg6 v110 v112 v114 X_arg2 X_arg3 X_arg4 X_arg5 X_arg6 H k 0 _ _ (k0_off2_eq k)) (rows_v bq bk bv bg ba wup bias gn B T arg2 arg3 arg4 arg5 arg6 v110 v112 v114 X_arg2 X_arg3 X_arg4 X_arg5 X_arg6 H k 0 _ _ (k0_off3_eq k)) (fun d e => (headState_at arg11 g 0 inb_S4x256x128_S1x256x128_0_0_0 e d).trans (hs 0 d e))) h e d

/-- The outputs a trip stores. -/
theorem trip_out {κ : Kind} {sp : Space} (v : View sig κ sp S1x512x1024 .bf16) (f0 : v.ty.Contents (Elt Ideal))
    (L : List (View.Piece (Elt Ideal) S1x512x1024 .bf16)) (h : Fin 4) (r e : Fin 256) (R : Fin 512) (hR : R.val = 256 * k.val + r.val) :
    v.read (Elt Ideal) (v.writes (Elt Ideal) f0 ((tripL_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 k f g).1 ++ L)) (ix3 0 R (valCol h e))
      = entry bq bk bv bg ba wup bias gn B (8 * T + 4 * k.val + r.val / 64) ⟨r.val % 64, Nat.mod_lt _ (by norm_num)⟩ h e := by
  rw [trip_eq]
  exact read_outs v f0 k _ _ _ _ L (fun h r e => entry bq bk bv bg ba wup bias gn B (8 * T + 4 * k.val + r.val / 64) ⟨r.val % 64, Nat.mod_lt _ (by norm_num)⟩ h e)
    (out_row bq bk bv bg ba wup bias gn B 3 (8 * T + 4 * k.val) _ (head_out bq bk bv bg ba wup bias gn B 3 (8 * T + 4 * k.val) _ _ _ _ _ _ _ (hb_3 bq bk bv bg ba wup bias gn B T arg2 arg3 arg4 arg5 arg6 v110 v112 v114 X_arg2 X_arg3 X_arg4 X_arg5 X_arg6 H k) (rows_q bq bk bv bg ba wup bias gn B T arg2 arg3 arg4 arg5 arg6 v110 v112 v114 X_arg2 X_arg3 X_arg4 X_arg5 X_arg6 H k 3 _ _ (k0_off8_eq k)) (rows_y bq bk bv bg ba wup bias gn B T arg2 arg3 arg4 arg5 arg6 v110 v112 v114 X_arg2 X_arg3 X_arg4 X_arg5 X_arg6 H k 3 _ _ (k0_off8_eq k)) (rows_v bq bk bv bg ba wup bias gn B T arg2 arg3 arg4 arg5 arg6 v110 v112 v114 X_arg2 X_arg3 X_arg4 X_arg5 X_arg6 H k 3 _ _ (k0_off9_eq k)) (rows_g bq bk bv bg ba wup bias gn B T arg2 arg3 arg4 arg5 arg6 v110 v112 v114 X_arg2 X_arg3 X_arg4 X_arg5 X_arg6 H k 3 _ _ (k0_off9_eq k)) H.gn (fun d e => (headState_at arg11 g 3 inb_S4x256x128_S1x256x128_3_0_0 e d).trans (hs 3 d e))))
    (out_row bq bk bv bg ba wup bias gn B 2 (8 * T + 4 * k.val) _ (head_out bq bk bv bg ba wup bias gn B 2 (8 * T + 4 * k.val) _ _ _ _ _ _ _ (hb_2 bq bk bv bg ba wup bias gn B T arg2 arg3 arg4 arg5 arg6 v110 v112 v114 X_arg2 X_arg3 X_arg4 X_arg5 X_arg6 H k) (rows_q bq bk bv bg ba wup bias gn B T arg2 arg3 arg4 arg5 arg6 v110 v112 v114 X_arg2 X_arg3 X_arg4 X_arg5 X_arg6 H k 2 _ _ (k0_off6_eq k)) (rows_y bq bk bv bg ba wup bias gn B T arg2 arg3 arg4 arg5 arg6 v110 v112 v114 X_arg2 X_arg3 X_arg4 X_arg5 X_arg6 H k 2 _ _ (k0_off6_eq k)) (rows_v bq bk bv bg ba wup bias gn B T arg2 arg3 arg4 arg5 arg6 v110 v112 v114 X_arg2 X_arg3 X_arg4 X_arg5 X_arg6 H k 2 _ _ (k0_off7_eq k)) (rows_g bq bk bv bg ba wup bias gn B T arg2 arg3 arg4 arg5 arg6 v110 v112 v114 X_arg2 X_arg3 X_arg4 X_arg5 X_arg6 H k 2 _ _ (k0_off7_eq k)) H.gn (fun d e => (headState_at arg11 g 2 inb_S4x256x128_S1x256x128_2_0_0 e d).trans (hs 2 d e))))
    (out_row bq bk bv bg ba wup bias gn B 1 (8 * T + 4 * k.val) _ (head_out bq bk bv bg ba wup bias gn B 1 (8 * T + 4 * k.val) _ _ _ _ _ _ _ (hb_1 bq bk bv bg ba wup bias gn B T arg2 arg3 arg4 arg5 arg6 v110 v112 v114 X_arg2 X_arg3 X_arg4 X_arg5 X_arg6 H k) (rows_q bq bk bv bg ba wup bias gn B T arg2 arg3 arg4 arg5 arg6 v110 v112 v114 X_arg2 X_arg3 X_arg4 X_arg5 X_arg6 H k 1 _ _ (k0_off4_eq k)) (rows_y bq bk bv bg ba wup bias gn B T arg2 arg3 arg4 arg5 arg6 v110 v112 v114 X_arg2 X_arg3 X_arg4 X_arg5 X_arg6 H k 1 _ _ (k0_off4_eq k)) (rows_v bq bk bv bg ba wup bias gn B T arg2 arg3 arg4 arg5 arg6 v110 v112 v114 X_arg2 X_arg3 X_arg4 X_arg5 X_arg6 H k 1 _ _ (k0_off5_eq k)) (rows_g bq bk bv bg ba wup bias gn B T arg2 arg3 arg4 arg5 arg6 v110 v112 v114 X_arg2 X_arg3 X_arg4 X_arg5 X_arg6 H k 1 _ _ (k0_off5_eq k)) H.gn (fun d e => (headState_at arg11 g 1 inb_S4x256x128_S1x256x128_1_0_0 e d).trans (hs 1 d e))))
    (out_row bq bk bv bg ba wup bias gn B 0 (8 * T + 4 * k.val) _ (head_out bq bk bv bg ba wup bias gn B 0 (8 * T + 4 * k.val) _ _ _ _ _ _ _ (hb_0 bq bk bv bg ba wup bias gn B T arg2 arg3 arg4 arg5 arg6 v110 v112 v114 X_arg2 X_arg3 X_arg4 X_arg5 X_arg6 H k) (rows_q bq bk bv bg ba wup bias gn B T arg2 arg3 arg4 arg5 arg6 v110 v112 v114 X_arg2 X_arg3 X_arg4 X_arg5 X_arg6 H k 0 _ _ (k0_off2_eq k)) (rows_y bq bk bv bg ba wup bias gn B T arg2 arg3 arg4 arg5 arg6 v110 v112 v114 X_arg2 X_arg3 X_arg4 X_arg5 X_arg6 H k 0 _ _ (k0_off2_eq k)) (rows_v bq bk bv bg ba wup bias gn B T arg2 arg3 arg4 arg5 arg6 v110 v112 v114 X_arg2 X_arg3 X_arg4 X_arg5 X_arg6 H k 0 _ _ (k0_off3_eq k)) (rows_g bq bk bv bg ba wup bias gn B T arg2 arg3 arg4 arg5 arg6 v110 v112 v114 X_arg2 X_arg3 X_arg4 X_arg5 X_arg6 H k 0 _ _ (k0_off3_eq k)) H.gn (fun d e => (headState_at arg11 g 0 inb_S4x256x128_S1x256x128_0_0_0 e d).trans (hs 0 d e)))) h r e R (valCol h e) hR rfl

omit H hs in
/-- A trip leaves the other trip's rows. -/
theorem trip_off {κ : Kind} {sp : Space} (v : View sig κ sp S1x512x1024 .bf16) (f0 : v.ty.Contents (Elt Ideal))
    (L : List (View.Piece (Elt Ideal) S1x512x1024 .bf16)) (R : Fin 512) (n : Fin 1024) (hR : R.val < 256 * k.val ∨ 256 * k.val + 256 ≤ R.val) :
    v.read (Elt Ideal) (v.writes (Elt Ideal) f0 ((tripL_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 k f g).1 ++ L)) (ix3 0 R n)
      = v.read (Elt Ideal) (v.writes (Elt Ideal) f0 L) (ix3 0 R n) := by
  rw [trip_eq]
  exact read_outs_off v f0 k _ _ _ _ L R n hR

end Trip

variable (G10 : BufTy.Contents (Elt Ideal) arg10.view.ty) (G11 : BufTy.Contents (Elt Ideal) arg11.view.ty)
  (hs : ∀ (h : Fin 4) (d : Fin 128) (e : Fin 256), arg11.view.read (Elt Ideal) G11 (ix3 h e d) = stateAt bk bv ba wup bias B h (8 * T) d e)

include H hs

/-- The states after the first trips of the loop. -/
theorem loop_state : ∀ n, n ≤ 2 → ∀ (h : Fin 4) (d : Fin 128) (e : Fin 256),
    arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 n).2) (ix3 h e d)
      = stateAt bk bv ba wup bias B h (8 * T + 4 * n) d e := by
  intro n
  induction n with
  | zero => intro _; exact hs
  | succ n ih =>
    intro hn h d e
    have hk : n < k0_t1_loop.trips := by rw [trips_eq]; omega
    rw [pb_k0_t1_succ (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 ⟨n, hk⟩]
    exact trip_state bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H ⟨n, hk⟩ _ _ (ih (by omega)) arg11.view G11 _ h e d

/-- The states the tile leaves, over any contents. -/
theorem tile_state {κ : Kind} {sp : Space} (v : View sig κ sp S4x256x128 .f32) (f0 : v.ty.Contents (Elt Ideal))
    (L : List (View.Piece (Elt Ideal) S4x256x128 .f32)) (h : Fin 4) (e : Fin 256) (d : Fin 128) :
    v.read (Elt Ideal) (v.writes (Elt Ideal) f0 ((pb_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 2).2 ++ L)) (ix3 h e d)
      = stateAt bk bv ba wup bias B h (8 * (T + 1)) d e := by
  have hk : 1 < k0_t1_loop.trips := by rw [trips_eq]; omega
  have hT : 8 * T + 4 * 1 + 4 = 8 * (T + 1) := by omega
  rw [pb_k0_t1_succ (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 ⟨1, hk⟩, List.append_assoc, ← hT]
  exact trip_state bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H ⟨1, hk⟩ _ _
    (loop_state bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H G10 G11 hs 1 (by omega)) v f0 _ h e d

/-- The outputs the tile stores. -/
theorem tile_out {κ : Kind} {sp : Space} (v : View sig κ sp S1x512x1024 .bf16) (f0 : v.ty.Contents (Elt Ideal))
    (h : Fin 4) (e : Fin 256) (m : Fin 8) (t : Fin 64) (R : Fin 512) (hR : R.val = 64 * m.val + t.val) :
    v.read (Elt Ideal) (v.writes (Elt Ideal) f0 (pb_k0_t1 (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 2).1) (ix3 0 R (valCol h e))
      = entry bq bk bv bg ba wup bias gn B (8 * T + m.val) t h e := by
  have hk : 1 < k0_t1_loop.trips := by rw [trips_eq]; omega
  have hk0 : 0 < k0_t1_loop.trips := by rw [trips_eq]; omega
  rw [pb_k0_t1_succ (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 ⟨1, hk⟩]
  by_cases hm : 4 ≤ m.val
  · refine (trip_out bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H ⟨1, hk⟩ _ _
      (loop_state bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H G10 G11 hs 1 (by omega)) v f0 _ h ⟨R.val - 256, by omega⟩ e R
      (by show R.val = 256 * 1 + (R.val - 256); omega)).trans ?_
    have e1 : 8 * T + 4 * 1 + (R.val - 256) / 64 = 8 * T + m.val := by omega
    have e2 : ∀ p, (⟨(R.val - 256) % 64, p⟩ : Fin 64) = t := fun p => Fin.ext (by show (R.val - 256) % 64 = t.val; omega)
    show entry bq bk bv bg ba wup bias gn B (8 * T + 4 * 1 + (R.val - 256) / 64) ⟨(R.val - 256) % 64, _⟩ h e = _
    rw [e1, e2]
  · refine (trip_off 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 ⟨1, hk⟩ _ _ v f0 _ R (valCol h e)
      (Or.inl (by show R.val < 256 * 1; omega))).trans ?_
    rw [pb_k0_t1_succ (F := Ideal) 𝒱 c bd i arg2 harg2 arg3 harg3 arg4 harg4 arg5 harg5 arg6 harg6 arg7 harg7 arg8 harg8 arg9 harg9 arg10 harg10 arg11 harg11 triMask triOnes (iota .tc S256x512 32 [1] iota_S256x512_d1_w32) k0_pay99 128#32 k0_pay100 k0_pay101 k0_pay102 v110 v112 v114 X_arg2 X_arg3 X_arg4 X_arg5 X_arg6 G10 G11 ⟨0, hk0⟩]
    refine (trip_out bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H ⟨0, hk0⟩ _ _
      (loop_state bq bk bv bg ba wup bias gn B T 𝒱 c bd i arg2 harg2 arg3 harg3 arg4 harg4 arg5 harg5 arg6 harg6 arg7 harg7 arg8 harg8 arg9 harg9 arg10 harg10 arg11 harg11 v110 v112 v114 X_arg2 X_arg3 X_arg4 X_arg5 X_arg6 H G10 G11 hs 0 (by omega)) v f0 _ h ⟨R.val, by omega⟩ e R
      (by show R.val = 256 * 0 + R.val; omega)).trans ?_
    have e1 : 8 * T + 4 * 0 + R.val / 64 = 8 * T + m.val := by omega
    have e2 : ∀ p, (⟨R.val % 64, p⟩ : Fin 64) = t := fun p => Fin.ext (by show R.val % 64 = t.val; omega)
    show entry bq bk bv bg ba wup bias gn B (8 * T + 4 * 0 + R.val / 64) ⟨R.val % 64, _⟩ h e = _
    rw [e1, e2]

end Tile

end Cert.KernelIdeal.Own
-- ==== Proof.Layout.lean ====
/-
  The array the launch reads, assembled from the queries, keys, values, gates and decay activations, read at an index.
-/
module

public import proofs.«01_k».proof.Proof.Tile
public import proofs.«01_k».proof.Proof.Launch
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem

variable (m : (ℓ : Loc nD τ sig) → Buf (Elt Ideal) ℓ)

/-- The nine column groups side by side. -/
def packed (z : (⟨S4x2048x1024, .f32⟩ : BufTy).Contents (Elt Ideal)) (v g : (⟨S4x2048x1024, .f32⟩ : BufTy).Contents (Elt Ideal))
    (q y : (⟨S4x2048x512, .f32⟩ : BufTy).Contents (Elt Ideal)) (z1 z2 a z3 : (⟨S4x2048x128, .f32⟩ : BufTy).Contents (Elt Ideal)) :
    (⟨S4x2048x4608, .f32⟩ : BufTy).Contents (Elt Ideal) :=
  concatenate S4x2048x4608 2 [⟨S4x2048x1024, z⟩, ⟨S4x2048x1024, v⟩, ⟨S4x2048x1024, g⟩, ⟨S4x2048x512, q⟩, ⟨S4x2048x512, y⟩,
    ⟨S4x2048x128, z1⟩, ⟨S4x2048x128, z2⟩, ⟨S4x2048x128, a⟩, ⟨S4x2048x128, z3⟩]
    concatenates_S4x2048x1024_S4x2048x1024_S4x2048x1024_S4x2048x512_S4x2048x512_S4x2048x128_S4x2048x128_S4x2048x128_S4x2048x128_S4x2048x4608_d2

section
variable (z v g : (⟨S4x2048x1024, .f32⟩ : BufTy).Contents (Elt Ideal)) (q y : (⟨S4x2048x512, .f32⟩ : BufTy).Contents (Elt Ideal))
  (z1 z2 a z3 : (⟨S4x2048x128, .f32⟩ : BufTy).Contents (Elt Ideal)) (B : Fin 4) (r : Fin 2048)

/-- The second group of columns holds the values. -/
theorem packed_v (n : Fin 1024) (k : Fin 4608) (hk : k.val = 1024 + n.val) :
    packed z v g q y z1 z2 a z3 (ix3 B r k) = v (ix3 B r n) := by
  unfold packed
  pointwise
  have := n.isLt
  rw [dif_neg (by omega), dif_pos (by omega)]
  refine congrArg (fun w : Fin 1024 => v (ix3 B r w)) (Fin.ext ?_)
  show k.val - 1024 = n.val
  omega

/-- The third group of columns holds the output gates. -/
theorem packed_g (n : Fin 1024) (k : Fin 4608) (hk : k.val = 2048 + n.val) :
    packed z v g q y z1 z2 a z3 (ix3 B r k) = g (ix3 B r n) := by
  unfold packed
  pointwise
  have := n.isLt
  rw [dif_neg (by omega), dif_neg (by omega), dif_pos (by omega)]
  refine congrArg (fun w : Fin 1024 => g (ix3 B r w)) (Fin.ext ?_)
  show k.val - 1024 - 1024 = n.val
  omega

/-- The fourth group of columns holds the queries. -/
theorem packed_q (n : Fin 512) (k : Fin 4608) (hk : k.val = 3072 + n.val) :
    packed z v g q y z1 z2 a z3 (ix3 B r k) = q (ix3 B r n) := by
  unfold packed
  pointwise
  have := n.isLt
  rw [dif_neg (by omega), dif_neg (by omega), dif_neg (by omega), dif_pos (by omega)]
  refine congrArg (fun w : Fin 512 => q (ix3 B r w)) (Fin.ext ?_)
  show k.val - 1024 - 1024 - 1024 = n.val
  omega

/-- The fifth group of columns holds the keys. -/
theorem packed_y (n : Fin 512) (k : Fin 4608) (hk : k.val = 3584 + n.val) :
    packed z v g q y z1 z2 a z3 (ix3 B r k) = y (ix3 B r n) := by
  unfold packed
  pointwise
  have := n.isLt
  rw [dif_neg (by omega), dif_neg (by omega), dif_neg (by omega), dif_neg (by omega), dif_pos (by omega)]
  refine congrArg (fun w : Fin 512 => y (ix3 B r w)) (Fin.ext ?_)
  show k.val - 1024 - 1024 - 1024 - 512 = n.val
  omega

set_option maxRecDepth 65536 in
/-- The eighth group of columns holds the decay activations. -/
theorem packed_a (n : Fin 128) (k : Fin 4608) (hk : k.val = 4352 + n.val) :
    packed z v g q y z1 z2 a z3 (ix3 B r k) = a (ix3 B r n) := by
  unfold packed
  pointwise
  have := n.isLt
  rw [dif_neg (by omega), dif_neg (by omega), dif_neg (by omega), dif_neg (by omega), dif_neg (by omega), dif_neg (by omega), dif_neg (by omega), dif_pos (by omega)]
  refine congrArg (fun w : Fin 128 => a (ix3 B r w)) (Fin.ext ?_)
  show k.val - 1024 - 1024 - 1024 - 512 - 512 - 128 - 128 = n.val
  omega

end

/-- The decay activations padded with zero columns. -/
def padded (x : (⟨S4x2048x16, .f32⟩ : BufTy).Contents (Elt Ideal)) (z : (⟨S_, .f32⟩ : BufTy).Contents (Elt Ideal)) :
    (⟨S4x2048x128, .f32⟩ : BufTy).Contents (Elt Ideal) :=
  pad S4x2048x128 ![0, 0, 0] ![0, 0, 112] ![0, 0, 0] x z pads_S4x2048x16_S4x2048x128_000_000_01120 h_S_

/-- The first sixteen columns of the padded activations are the activations. -/
theorem padded_at (x : (⟨S4x2048x16, .f32⟩ : BufTy).Contents (Elt Ideal)) (z : (⟨S_, .f32⟩ : BufTy).Contents (Elt Ideal))
    (B : Fin 4) (r : Fin 2048) (l : Fin 16) (n : Fin 128) (hn : n.val = l.val) :
    padded x z (ix3 B r n) = x (ix3 B r l) := by
  unfold padded
  pointwise
  have := l.isLt
  split_ifs with h
  · congr 2 <;> exact Fin.ext (by simp [hn])
  · exact absurd (by omega) h

/-- What the launch finds in the assembled array. -/
theorem entry_packed (c : Dev nD) : ∃ z z1 z2 z3 zz, V m c main_v5 =
    packed z (m ((c : Thread nD τ).loc main_arg2)) (m ((c : Thread nD τ).loc main_arg3)) (m ((c : Thread nD τ).loc main_arg0))
      (m ((c : Thread nD τ).loc main_arg1)) z1 z2 (padded (m ((c : Thread nD τ).loc main_arg4)) zz) z3 := by
  show ∃ z z1 z2 z3 zz, StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append,
      List.nil_append]
  refine ⟨?z, ?z1, ?z2, ?z3, ?zz, ?h⟩
  case h =>
    after_results
    rfl

/-- What the launch finds in the row of biases. -/
theorem entry_bias (c : Dev nD) : V m c main_v6 = shapeCast S1x512 (m ((c : Thread nD τ).loc main_arg6)) shapeCasts_S512_S1x512 := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append,
      List.nil_append]
  after_results
  rfl

/-- What the launch finds in the row of gains. -/
theorem entry_gain (c : Dev nD) : V m c main_v7 = shapeCast S1x256 (m ((c : Thread nD τ).loc main_arg7)) shapeCasts_S256_S1x256 := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append,
      List.nil_append]
  after_results
  rfl

/-- The row of biases at a column. -/
theorem bias_at (c : Dev nD) (n : Fin 512) : V m c main_v6 (ix2 0 n) = m ((c : Thread nD τ).loc main_arg6) (ix1 n) := by
  rw [entry_bias]; pointwise

/-- The row of gains at a column. -/
theorem gain_at (c : Dev nD) (n : Fin 256) : V m c main_v7 (ix2 0 n) = m ((c : Thread nD τ).loc main_arg7) (ix1 n) := by
  rw [entry_gain]; pointwise

end Cert.KernelIdeal.Own

end
-- ==== Proof.Windows.lean ====
/-
  The blocks a grid point stages, as rows of the layer's arguments.
-/
module

public import proofs.«01_k».proof.Proof.Layout

@[expose] public section

set_option maxRecDepth 16384

noncomputable section

namespace Cert.KernelIdeal.Own

open Cert.KernelIdeal Cert.KernelIdeal.Gen Idealize.ShloMosaic Idealize.ShloMosaic.TcCoe Idealize.SL.Sem
open Cert.Proof.Spec

variable (m : (ℓ : Loc nD τ sig) → Buf (Elt Ideal) ℓ)

/-- The block indices of the windows at every grid point. -/
theorem window_index : ∀ t : Fin cfg0.N,
    win0_0.index t = ![t.val / 4, t.val % 4, 6] ∧ win0_1.index t = ![t.val / 4, t.val % 4, 7] ∧
    win0_2.index t = ![t.val / 4, t.val % 4, 1] ∧ win0_3.index t = ![t.val / 4, t.val % 4, 2] ∧
    win0_4.index t = ![t.val / 4, t.val % 4, 34] ∧ win0_5.index t = ![0, 0] ∧ win0_6.index t = ![0, 0] ∧
    win0_7.index t = ![0, 0] :=
  (by decide +kernel : ∀ t : Fin grid0.N,
    win0_0.index t = ![t.val / 4, t.val % 4, 6] ∧ win0_1.index t = ![t.val / 4, t.val % 4, 7] ∧
    win0_2.index t = ![t.val / 4, t.val % 4, 1] ∧ win0_3.index t = ![t.val / 4, t.val % 4, 2] ∧
    win0_4.index t = ![t.val / 4, t.val % 4, 34] ∧ win0_5.index t = ![0, 0] ∧ win0_6.index t = ![0, 0] ∧
    win0_7.index t = ![0, 0])

/-- The query block at a point: rows of the point's batch and tile, the fourth group of columns. -/
theorem block_q (c : Dev nD) (t : Fin cfg0.N) (R : Fin 512) (n : Fin 512) (B : Fin 4) (r : Fin 2048) (k : Fin 4608)
    (hB : B.val = t.val / 4) (hr : r.val = 512 * (t.val % 4) + R.val) (hk : k.val = 3072 + n.val) :
    (iblk m c 0 t : S1x512x512.Idx → EReal) (ix3 0 R n) = V m c main_v5 (ix3 B r k) := by
  have e := (window_index t).1
  blk_ext [iblk, e]

/-- The key block at a point: the fifth group of columns. -/
theorem block_y (c : Dev nD) (t : Fin cfg0.N) (R : Fin 512) (n : Fin 512) (B : Fin 4) (r : Fin 2048) (k : Fin 4608)
    (hB : B.val = t.val / 4) (hr : r.val = 512 * (t.val % 4) + R.val) (hk : k.val = 3584 + n.val) :
    (iblk m c 1 t : S1x512x512.Idx → EReal) (ix3 0 R n) = V m c main_v5 (ix3 B r k) := by
  have e := (window_index t).2.1
  blk_ext [iblk, e]

/-- The block of decay activations at a point: the eighth group of columns. -/
theorem block_a (c : Dev nD) (t : Fin cfg0.N) (R : Fin 512) (n : Fin 128) (B : Fin 4) (r : Fin 2048) (k : Fin 4608)
    (hB : B.val = t.val / 4) (hr : r.val = 512 * (t.val % 4) + R.val) (hk : k.val = 4352 + n.val) :
    (iblk m c 4 t : S1x512x128.Idx → EReal) (ix3 0 R n) = V m c main_v5 (ix3 B r k) := by
  have e := (window_index t).2.2.2.2.1
  blk_ext [iblk, e]

/-- The value block at a point: the second group of columns. -/
theorem block_v (c : Dev nD) (t : Fin cfg0.N) (R : Fin 512) (n : Fin 1024) (B : Fin 4) (r : Fin 2048) (k : Fin 4608)
    (hB : B.val = t.val / 4) (hr : r.val = 512 * (t.val % 4) + R.val) (hk : k.val = 1024 + n.val) :
    (X0_2 m c t : S1x512x1024.Idx → EReal) (ix3 0 R n) = V m c main_v5 (ix3 B r k) := by
  have e := (window_index t).2.2.1
  unfold X0_2 Pipeline.Window.fill
  rw [dif_pos (moved0_2 t _)]
  blk_ext [iblk, e]

/-- The block of output gates at a point: the third group of columns. -/
theorem block_g (c : Dev nD) (t : Fin cfg0.N) (R : Fin 512) (n : Fin 1024) (B : Fin 4) (r : Fin 2048) (k : Fin 4608)
    (hB : B.val = t.val / 4) (hr : r.val = 512 * (t.val % 4) + R.val) (hk : k.val = 2048 + n.val) :
    (X0_3 m c t : S1x512x1024.Idx → EReal) (ix3 0 R n) = V m c main_v5 (ix3 B r k) := by
  have e := (window_index t).2.2.2.1
  unfold X0_3 Pipeline.Window.fill
  rw [dif_pos (moved0_3 t _)]
  blk_ext [iblk, e]

/-- The decay up-projection's block is the whole matrix. -/
theorem block_w (c : Dev nD) (t : Fin cfg0.N) (l : Fin 16) (n : Fin 512) :
    (iblk m c 5 t : S16x512.Idx → EReal) (ix2 l n) = m ((c : Thread nD τ).loc main_arg5) (ix2 l n) := by
  have e := (window_index t).2.2.2.2.2.1
  rw [← V_main_arg5 m c]
  blk_ext [iblk, e]

/-- The bias's block is the whole bias. -/
theorem block_p (c : Dev nD) (t : Fin cfg0.N) (n : Fin 512) :
    (iblk m c 6 t : S1x512.Idx → EReal) (ix2 0 n) = m ((c : Thread nD τ).loc main_arg6) (ix1 n) := by
  have e := (window_index t).2.2.2.2.2.2.1
  rw [← bias_at m c n]
  blk_ext [iblk, e]

/-- The gain's block is the whole gain. -/
theorem block_gn (c : Dev nD) (t : Fin cfg0.N) (n : Fin 256) :
    (iblk m c 7 t : S1x256.Idx → EReal) (ix2 0 n) = m ((c : Thread nD τ).loc main_arg7) (ix1 n) := by
  have e := (window_index t).2.2.2.2.2.2.2
  rw [← gain_at m c n]
  blk_ext [iblk, e]

/-- A grid point's blocks hold the rows of its tile. -/
theorem holds_at (c : Dev nD) (t : Fin cfg0.N) (B : Fin 4) (hB : B.val = t.val / 4) :
    Holds (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) B (t.val % 4)
      (iblk m c 0 t) (iblk m c 1 t) (X0_2 m c t) (X0_3 m c t) (iblk m c 4 t) (iblk m c 5 t) (iblk m c 6 t) (iblk m c 7 t) := by
  obtain ⟨z, z1, z2, z3, zz, hV⟩ := entry_packed m c
  have hm : ∀ (k : ℕ) (i : Fin 64) (R : Fin 512), R.val = 64 * k + i.val →
      (seqRow (8 * (t.val % 4) + k) i).val = 512 * (t.val % 4) + R.val := by
    intro k i R hR
    have := R.isLt; have := i.isLt
    show (64 * (8 * (t.val % 4) + k) + i.val) % 2048 = _
    omega
  constructor
  · intro k i h d R hR
    have := (keyCol h d).isLt
    rw [block_q m c t R (keyCol h d) B _ ⟨3072 + (keyCol h d).val, by omega⟩ hB (hm k i R hR) rfl, hV]
    exact packed_q _ _ _ _ _ _ _ _ _ B _ _ _ rfl
  · intro k i h d R hR
    have := (keyCol h d).isLt
    rw [block_y m c t R (keyCol h d) B _ ⟨3584 + (keyCol h d).val, by omega⟩ hB (hm k i R hR) rfl, hV]
    exact packed_y _ _ _ _ _ _ _ _ _ B _ _ _ rfl
  · intro k i h e R hR
    have := (valCol h e).isLt
    rw [block_v m c t R (valCol h e) B _ ⟨1024 + (valCol h e).val, by omega⟩ hB (hm k i R hR) rfl, hV]
    exact packed_v _ _ _ _ _ _ _ _ _ B _ _ _ rfl
  · intro k i h e R hR
    have := (valCol h e).isLt
    rw [block_g m c t R (valCol h e) B _ ⟨2048 + (valCol h e).val, by omega⟩ hB (hm k i R hR) rfl, hV]
    exact packed_g _ _ _ _ _ _ _ _ _ B _ _ _ rfl
  · intro k i l R hR
    have hl := l.isLt
    rw [block_a m c t R ⟨l.val, by omega⟩ B _ ⟨4352 + l.val, by omega⟩ hB (hm k i R hR) rfl, hV]
    exact (packed_a _ _ _ _ _ _ _ _ _ B _ _ _ rfl).trans (padded_at _ _ _ _ l ⟨l.val, by omega⟩ rfl)
  · exact fun l n => block_w m c t l n
  · exact fun n => block_p m c t n
  · exact fun e => block_gn m c t e

end Cert.KernelIdeal.Own

end
-- ==== Proof.Cases.lean ====
/-
  What the body leaves at a grid point: the outputs of its tile and the state after it.
-/
module

public import proofs.«01_k».proof.Proof.Windows

@[expose] public section

set_option maxRecDepth 16384

noncomputable section

namespace Cert.KernelIdeal.Own

open Cert.KernelIdeal Cert.KernelIdeal.Gen Idealize.ShloMosaic Idealize.ShloMosaic.TcCoe Idealize.SL.Sem
open Cert.Proof.Spec

/-- Loading the whole of a buffer gives what it holds. -/
theorem load_whole {s : Shape} {T : EltTy} (a : Memref sig .tc .vmem s T) (ha : a.IsWhole) (x : Vec Ideal s T)
    (off : Fin s.rank → ℕ) (hoff : ∀ j, off j = 0) (inb : ∀ j, off j + s.size j ≤ s.size j) :
    View.readAt (Elt Ideal) a.view (Rect.unit off s.size inb).toLoadRect (ha.unread x) = x :=
  funext fun j => (View.ld_unit_apply_of (a.view.read (Elt Ideal) (ha.unread x)) off s.size inb j j fun k => by
    rw [hoff k, Nat.zero_add]).trans (congrFun (ha.read_unread x) j)

/-- The state before the first tile is zero. -/
theorem start_state (a : Memref sig .tc .vmem S4x256x128 .f32) (f : a.view.ty.Contents (Elt Ideal)) (h : Fin 4) (e : Fin 256) (d : Fin 128) :
    a.view.read (Elt Ideal) (a.view.writes (Elt Ideal) f (kernelRun0_A.sl.HS0_1 (F := Ideal))) (ix3 h e d) = 0 := by
  refine (View.read_writes_cons_unit_of_mem (size := S4x256x128.size) a.view f inb_S4x256x128_S4x256x128_0_0_0 (k0_pay92 (F := Ideal)) [] (ix3 h e d) (ix3 h e d)
    (off' := ![0, 0, 0]) rfl (fun a => by fin_cases a <;> exact (Nat.zero_add _).symm)).trans ?_
  unfold k0_pay92
  pointwise

section
variable (bq bk : (⟨3, ![4, 2048, 512]⟩ : Shape).Idx → EReal) (bv bg : (⟨3, ![4, 2048, 1024]⟩ : Shape).Idx → EReal)
  (ba : (⟨3, ![4, 2048, 16]⟩ : Shape).Idx → EReal) (wup : (⟨2, ![16, 512]⟩ : Shape).Idx → EReal)
  (bias : (⟨1, ![512]⟩ : Shape).Idx → EReal) (gn : (⟨1, ![256]⟩ : Shape).Idx → EReal) (B : Fin 4)
  (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x512x128 .f32) (harg6 : arg6.IsWhole) (arg7 : Memref sig .tc .vmem S16x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S1x512x1024 .bf16) (harg10 : arg10.IsWhole) (arg11 : Memref sig .tc .vmem S4x256x128 .f32) (harg11 : arg11.IsWhole)
  (x0 : Vec Ideal S1x512x512 .f32) (x1 : Vec Ideal S1x512x512 .f32) (x2 : Vec Ideal S1x512x1024 .f32) (x3 : Vec Ideal S1x512x1024 .f32) (x4 : Vec Ideal S1x512x128 .f32) (x5 : Vec Ideal S16x512 .f32) (x6 : Vec Ideal S1x512 .f32) (x7 : Vec Ideal S1x256 .f32)

/-- The blocks in their buffers, as the loads find them. -/
theorem held (T : ℕ) (H : Holds bq bk bv bg ba wup bias gn B T x0 x1 x2 x3 x4 x5 x6 x7) :
    Holds bq bk bv bg ba wup bias gn B T (arg2.view.read (Elt Ideal) (harg2.unread x0)) (arg3.view.read (Elt Ideal) (harg3.unread x1))
      (arg4.view.read (Elt Ideal) (harg4.unread x2)) (arg5.view.read (Elt Ideal) (harg5.unread x3)) (arg6.view.read (Elt Ideal) (harg6.unread x4)) x5 x6 x7 := by
  rw [harg2.read_unread, harg3.read_unread, harg4.read_unread, harg5.read_unread, harg6.read_unread]
  exact H

/-- The outputs the first tile of a sequence stores. -/
theorem first_out (hc0 : cond0_0 i) (H : Holds bq bk bv bg ba wup bias gn B 0 x0 x1 x2 x3 x4 x5 x6 x7)
    (h : Fin 4) (e : Fin 256) (m : Fin 8) (t : Fin 64) (R : Fin 512) (hR : R.val = 64 * m.val + t.val) :
    out0_A_8 c i arg2 harg2 arg3 harg3 arg4 harg4 arg5 harg5 arg6 harg6 arg7 harg7 arg8 harg8 arg9 harg9 arg10 harg10 arg11 harg11 hc0 x0 x1 x2 x3 x4 x5 x6 x7 (ix3 0 R (valCol h e))
      = entry bq bk bv bg ba wup bias gn B (8 * 0 + m.val) t h e := by
  unfold out0_A_8 kernelRun0_A
  dsimp only
  have ht : Scf.trips k0_t1_loop.lb k0_t1_loop.ub k0_t1_loop.st = 2 := trips_eq
  rw [ht, load_whole arg7 harg7 x5 _ (by decide) _, load_whole arg8 harg8 x6 _ (by decide) _, load_whole arg9 harg9 x7 _ (by decide) _]
  exact tile_out bq bk bv bg ba wup bias gn B 0 Variants.none c none i arg2 harg2 arg3 harg3 arg4 harg4 arg5 harg5 arg6 harg6 arg7 harg7 arg8 harg8 arg9 harg9 arg10 harg10 arg11 harg11 x5 x6 x7 (harg2.unread x0) (harg3.unread x1) (harg4.unread x2) (harg5.unread x3) (harg6.unread x4)
    (held bq bk bv bg ba wup bias gn B arg2 harg2 arg3 harg3 arg4 harg4 arg5 harg5 arg6 harg6 x0 x1 x2 x3 x4 x5 x6 x7 0 H) arg10.view.junk (arg11.view.writes (Elt Ideal) arg11.view.junk (kernelRun0_A.sl.HS0_1 (F := Ideal)))
    (fun h d e => start_state arg11 arg11.view.junk h e d) VO0_8 _ h e m t R hR

/-- The state after the first tile of a sequence. -/
theorem first_state (hc0 : cond0_0 i) (H : Holds bq bk bv bg ba wup bias gn B 0 x0 x1 x2 x3 x4 x5 x6 x7)
    (h : Fin 4) (e : Fin 256) (d : Fin 128) :
    sout0_A_0 c i arg2 harg2 arg3 harg3 arg4 harg4 arg5 harg5 arg6 harg6 arg7 harg7 arg8 harg8 arg9 harg9 arg10 harg10 arg11 harg11 hc0 x0 x1 x2 x3 x4 x5 x6 x7 (ix3 h e d)
      = stateAt bk bv ba wup bias B h (8 * (0 + 1)) d e := by
  unfold sout0_A_0 kernelRun0_A
  dsimp only
  have ht : Scf.trips k0_t1_loop.lb k0_t1_loop.ub k0_t1_loop.st = 2 := trips_eq
  rw [ht, load_whole arg7 harg7 x5 _ (by decide) _, load_whole arg8 harg8 x6 _ (by decide) _, load_whole arg9 harg9 x7 _ (by decide) _]
  exact tile_state bq bk bv bg ba wup bias gn B 0 Variants.none c none i arg2 harg2 arg3 harg3 arg4 harg4 arg5 harg5 arg6 harg6 arg7 harg7 arg8 harg8 arg9 harg9 arg10 harg10 arg11 harg11 x5 x6 x7 (harg2.unread x0) (harg3.unread x1) (harg4.unread x2) (harg5.unread x3) (harg6.unread x4)
    (held bq bk bv bg ba wup bias gn B arg2 harg2 arg3 harg3 arg4 harg4 arg5 harg5 arg6 harg6 x0 x1 x2 x3 x4 x5 x6 x7 0 H) arg10.view.junk (arg11.view.writes (Elt Ideal) arg11.view.junk (kernelRun0_A.sl.HS0_1 (F := Ideal)))
    (fun h d e => start_state arg11 arg11.view.junk h e d) VS0_0 _ (kernelRun0_A.sl.HS0_1 (F := Ideal)) h e d

/-- The outputs a later tile of a sequence stores. -/
theorem later_out (hc0 : ¬cond0_0 i) (T : ℕ) (H : Holds bq bk bv bg ba wup bias gn B T x0 x1 x2 x3 x4 x5 x6 x7) (xs0 : Vec Ideal S4x256x128 .f32)
    (hs : ∀ h e d, xs0 (ix3 h e d) = stateAt bk bv ba wup bias B h (8 * T) d e)
    (h : Fin 4) (e : Fin 256) (m : Fin 8) (t : Fin 64) (R : Fin 512) (hR : R.val = 64 * m.val + t.val) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 (ix3 0 R (valCol h e))
      = entry bq bk bv bg ba wup bias gn B (8 * T + m.val) t h e := by
  unfold out0_B_8 kernelRun0_B
  dsimp only
  have ht : Scf.trips k0_t1_loop.lb k0_t1_loop.ub k0_t1_loop.st = 2 := trips_eq
  rw [ht, load_whole arg7 harg7 x5 _ (by decide) _, load_whole arg8 harg8 x6 _ (by decide) _, load_whole arg9 harg9 x7 _ (by decide) _]
  exact tile_out bq bk bv bg ba wup bias gn B T Variants.none c none i arg2 harg2 arg3 harg3 arg4 harg4 arg5 harg5 arg6 harg6 arg7 harg7 arg8 harg8 arg9 harg9 arg10 harg10 arg11 harg11 x5 x6 x7 (harg2.unread x0) (harg3.unread x1) (harg4.unread x2) (harg5.unread x3) (harg6.unread x4)
    (held bq bk bv bg ba wup bias gn B arg2 harg2 arg3 harg3 arg4 harg4 arg5 harg5 arg6 harg6 x0 x1 x2 x3 x4 x5 x6 x7 T H) arg10.view.junk (harg11.unread xs0)
    (fun h d e => (congrFun (harg11.read_unread xs0) (ix3 h e d)).trans (hs h e d)) VO0_8 _ h e m t R hR

/-- The state after a later tile of a sequence. -/
theorem later_state (hc0 : ¬cond0_0 i) (T : ℕ) (H : Holds bq bk bv bg ba wup bias gn B T x0 x1 x2 x3 x4 x5 x6 x7) (xs0 : Vec Ideal S4x256x128 .f32)
    (hs : ∀ h e d, xs0 (ix3 h e d) = stateAt bk bv ba wup bias B h (8 * T) d e)
    (h : Fin 4) (e : Fin 256) (d : Fin 128) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 (ix3 h e d)
      = stateAt bk bv ba wup bias B h (8 * (T + 1)) d e := by
  unfold sout0_B_0 kernelRun0_B
  dsimp only
  have ht : Scf.trips k0_t1_loop.lb k0_t1_loop.ub k0_t1_loop.st = 2 := trips_eq
  rw [ht, load_whole arg7 harg7 x5 _ (by decide) _, load_whole arg8 harg8 x6 _ (by decide) _, load_whole arg9 harg9 x7 _ (by decide) _]
  have r := tile_state bq bk bv bg ba wup bias gn B T Variants.none c none i arg2 harg2 arg3 harg3 arg4 harg4 arg5 harg5 arg6 harg6 arg7 harg7 arg8 harg8 arg9 harg9 arg10 harg10 arg11 harg11 x5 x6 x7 (harg2.unread x0) (harg3.unread x1) (harg4.unread x2) (harg5.unread x3) (harg6.unread x4)
    (held bq bk bv bg ba wup bias gn B arg2 harg2 arg3 harg3 arg4 harg4 arg5 harg5 arg6 harg6 x0 x1 x2 x3 x4 x5 x6 x7 T H) arg10.view.junk (harg11.unread xs0)
    (fun h d e => (congrFun (harg11.read_unread xs0) (ix3 h e d)).trans (hs h e d)) VS0_0 VS0_0.junk [] h e d
  rw [List.append_nil] at r
  exact r

end

end Cert.KernelIdeal.Own

end
-- ==== Proof.Blocks.lean ====
/-
  The launch's result as an array: block by block, what the body leaves at the point that writes the block back.
-/
module

public import proofs.«01_k».proof.Proof.Launch
public import Idealize.ShloMosaic.Lib.Pipeline.Value

@[expose] public section

noncomputable section

namespace Cert.KernelIdeal.Value

open Cert.KernelIdeal Cert.KernelIdeal.Own Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`out0_A_8`: the pieces
    its run found, read back) at the point's memrefs and input blocks, and for an output the case reads back what the point before left (`outsAt0` at `t - 1`) — by the frame's rewriting lemma for the case. -/
theorem flushed8_A (c : Dev nD) (t : Fin cfg0.N) (h0 : t.val % 4 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (X0_2 m c t) (X0_3 m c t) (iblk m c 4 t) (iblk m c 5 t) (iblk m c 6 t) (iblk m c 7 t)) := by
  simp only [flushed8, outsAt0_A m c t h0]

/-- … so at a point where case B runs, what its write-back would write is that case's NAMED TERM for the window (`out0_B_8`: the pieces
    its run found, read back) at the point's memrefs and input blocks, and for an output the case reads back what the point before left (`outsAt0` at `t - 1`) — by the frame's rewriting lemma for the case. -/
theorem flushed8_B (c : Dev nD) (t : Fin cfg0.N) (h0 : ¬t.val % 4 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (X0_2 m c t) (X0_3 m c t) (iblk m c 4 t) (iblk m c 5 t) (iblk m c 6 t) (iblk m c 7 t) (outsAt0 m c (t.val - 1) (Nat.lt_of_le_of_lt (Nat.sub_le _ _) t.isLt)).2) := by
  simp only [flushed8, outsAt0_B m c t h0]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x2048x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v8) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v8) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S4x256x128 .f32) : Vec F S4x256x128 .f32 :=
  if h0 : n % 4 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2) 4 (fun n h => scAt0_0 m c n h (VS0_0.read (Elt F) VS0_0.junk)) (scAt0_0 m c)
    (fun n h hn => by
      have hN := lt_of_lt_of_eq h (show cfg0.N = 16 from N_0)
      by_cases h0 : n % 4 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 4 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x512x1024 .bf16 × Vec F S4x256x128 .f32 :=
  ((VO0_8.read (Elt F) VO0_8.junk, VS0_0.read (Elt F) VS0_0.junk) : Vec F S1x512x1024 .bf16 × Vec F S4x256x128 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x512x1024 .bf16 × Vec F S4x256x128 .f32) : Vec F S1x512x1024 .bf16 × Vec F S4x256x128 .f32 :=
  if h0 : n % 4 = 0 then
    (out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)))
  else
    (out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (X0_2 m c (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc.2)

/-- `stAt0` at a point of case A: that case's contents. -/
theorem stAt0_A (c : Dev nD) (t : Fin cfg0.N) (acc : Vec F S1x512x1024 .bf16 × Vec F S4x256x128 .f32) (h0 : t.val % 4 = 0) :
    stAt0 m c t.val t.isLt acc = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (X0_2 m c t) (X0_3 m c t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (X0_2 m c t) (X0_3 m c t) (iblk m c 4 t) (iblk m c 5 t) (iblk m c 6 t) (iblk m c 7 t)) :=
  (dif_pos h0).trans rfl

/-- `stAt0` at a point of case B: that case's contents, over `acc`. -/
theorem stAt0_B (c : Dev nD) (t : Fin cfg0.N) (acc : Vec F S1x512x1024 .bf16 × Vec F S4x256x128 .f32) (h0 : ¬t.val % 4 = 0) :
    stAt0 m c t.val t.isLt acc = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (X0_2 m c t) (X0_3 m c t) (iblk m c 4 t) (iblk m c 5 t) (iblk m c 6 t) (iblk m c 7 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (X0_2 m c t) (X0_3 m c t) (iblk m c 4 t) (iblk m c 5 t) (iblk m c 6 t) (iblk m c 7 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 8 -/

/-- The block of the array that holds index `i`, numbered in the order the points write the blocks back (one per point),
    `i`'s place in it, and the point that writes it back. -/
abbrev run8Of (i : S4x2048x1024.Idx) : ℕ := 4 * ((i 0).val / 1 - 0) + 1 * ((i 1).val / 512 - 0) + 1 * ((i 2).val / 1024 - 0)
set_option backward.proofsInPublic true in
abbrev loc8Of (i : S4x2048x1024.Idx) : S1x512x1024.Idx := fun a => match a with
  | ⟨0, _⟩ => ⟨(i 0).val % 1, Nat.mod_lt _ (by decide)⟩
  | ⟨1, _⟩ => ⟨(i 1).val % 512, Nat.mod_lt _ (by decide)⟩
  | ⟨2, _⟩ => ⟨(i 2).val % 1024, Nat.mod_lt _ (by decide)⟩
abbrev pt8Of (i : S4x2048x1024.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v8) := fun i =>
  if h : pt8Of i < cfg0.N then
    (Pipeline.accAt (fun n h => stAt0 m c n h junk0) (stAt0 m c) 0 (pt8Of i) (by omega)).1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 3) ∧ win0_8.index t (0 : Fin 3) ≤ 3
    ∧ 0 ≤ win0_8.index t (1 : Fin 3) ∧ win0_8.index t (1 : Fin 3) ≤ 3
    ∧ 0 ≤ win0_8.index t (2 : Fin 3) ∧ win0_8.index t (2 : Fin 3) ≤ 0
    ∧ 4 * (win0_8.index t (0 : Fin 3) - 0) + 1 * (win0_8.index t (1 : Fin 3) - 0) + 1 * (win0_8.index t (2 : Fin 3) - 0) = t.val :=
  (by decide +kernel : ∀ t : Fin grid0.N, _)

/-- Every block of the box is SOME flushing point's: `onto8Pt`, the point that writes back the block at place `q` of the box. -/
abbrev onto8Pt (q0 : Fin 4) (q1 : Fin 4) (q2 : Fin 1) : Fin grid0.N :=
  ⟨4 * q0.val + 1 * q1.val + 1 * q2.val, lt_of_lt_of_eq (by omega) N_0.symm⟩
theorem idx_onto8 : ∀ (q0 : Fin 4) (q1 : Fin 4) (q2 : Fin 1), ∃ t : Fin cfg0.N, (cfg0.win 8).flush t = true ∧ win0_8.index t = ![q0.val + 0, q1.val + 0, q2.val + 0] :=
  fun q0 q1 q2 => ⟨onto8Pt q0 q1 q2, (by decide +kernel : ∀ (q0 : Fin 4) (q1 : Fin 4) (q2 : Fin 1), win0_8.flush (onto8Pt q0 q1 q2) = true ∧ win0_8.index (onto8Pt q0 q1 q2) = ![q0.val + 0, q1.val + 0, q2.val + 0]) q0 q1 q2⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2, e3⟩ := idx_facts8 t
  funext y
  have hy0 : (y 0).val < 1 := (y 0).isLt
  have hy1 : (y 1).val < 512 := (y 1).isLt
  have hy2 : (y 2).val < 1024 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 512 + 1 * (y 1).val := rfl
  have hb2 : (((cfg0.win 8).blk t).view.emb y 2).val = win0_8.index t (2 : Fin 3) * 1024 + 1 * (y 2).val := rfl
  have hr : run8Of (((cfg0.win 8).blk t).view.emb y) = t.val := by
    show 4 * ((((cfg0.win 8).blk t).view.emb y 0).val / 1 - 0) + 1 * ((((cfg0.win 8).blk t).view.emb y 1).val / 512 - 0) + 1 * ((((cfg0.win 8).blk t).view.emb y 2).val / 1024 - 0) = _
    rw [hb0, hb1, hb2]
    rw [show (win0_8.index t (0 : Fin 3) * 1 + 1 * (y 0).val) / 1 = win0_8.index t (0 : Fin 3) from by omega]; rw [show (win0_8.index t (1 : Fin 3) * 512 + 1 * (y 1).val) / 512 = win0_8.index t (1 : Fin 3) from by omega]; rw [show (win0_8.index t (2 : Fin 3) * 1024 + 1 * (y 2).val) / 1024 = win0_8.index t (2 : Fin 3) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 512 = (y 1).val; rw [hb1]; omega
    | ⟨2, _⟩ => show (((cfg0.win 8).blk t).view.emb y 2).val % 1024 = (y 2).val; rw [hb2]; omega
  have hp : pt8Of (((cfg0.win 8).blk t).view.emb y) = t.val := by
    exact hr
  show (Pipeline.accAt (fun n h => stAt0 m c n h junk0) (stAt0 m c) 0 t.val _).1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S4x2048x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v8).slice (win0_8.rect t)).set ↔ _
  rw [View.set_slice_whole, Rect.mem_set_unit]
  exact Iff.rfl

/-- THE COVERED INDICES: in some flushing point's block iff inside the box those blocks fill. -/
theorem covered_iff8 (i : S4x2048x1024.Idx) :
    (∃ t : Fin cfg0.N, (cfg0.win 8).flush t = true ∧ i ∈ ((cfg0.win 8).blk t).view.set) ↔ 0 ≤ (i 0).val ∧ (i 0).val < 4 ∧ 0 ≤ (i 1).val ∧ (i 1).val < 2048 ∧ 0 ≤ (i 2).val ∧ (i 2).val < 1024 := by
  constructor
  · rintro ⟨t, -, hi⟩
    rw [mem_blk8] at hi
    have b0 : win0_8.index t (0 : Fin 3) * 1 ≤ (i 0).val ∧ (i 0).val < win0_8.index t (0 : Fin 3) * 1 + 1 := hi 0
    have b1 : win0_8.index t (1 : Fin 3) * 512 ≤ (i 1).val ∧ (i 1).val < win0_8.index t (1 : Fin 3) * 512 + 512 := hi 1
    have b2 : win0_8.index t (2 : Fin 3) * 1024 ≤ (i 2).val ∧ (i 2).val < win0_8.index t (2 : Fin 3) * 1024 + 1024 := hi 2
    obtain ⟨e0, e1, e2, e3⟩ := idx_facts8 t
    omega
  · intro h
    have hi0 : (i 0).val < 4 := (i 0).isLt
    have hi1 : (i 1).val < 2048 := (i 1).isLt
    have hi2 : (i 2).val < 1024 := (i 2).isLt
    obtain ⟨t, hft, ht⟩ := idx_onto8 ⟨(i 0).val / 1 - 0, by omega⟩ ⟨(i 1).val / 512 - 0, by omega⟩ ⟨(i 2).val / 1024 - 0, by omega⟩
    have q0 : win0_8.index t (0 : Fin 3) = (i 0).val / 1 - 0 + 0 := congrFun ht 0
    have q1 : win0_8.index t (1 : Fin 3) = (i 1).val / 512 - 0 + 0 := congrFun ht 1
    have q2 : win0_8.index t (2 : Fin 3) = (i 2).val / 1024 - 0 + 0 := congrFun ht 2
    refine ⟨t, hft, ?_⟩
    rw [mem_blk8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 512 ≤ (i 1).val ∧ (i 1).val < win0_8.index t (1 : Fin 3) * 512 + 512; omega
    | ⟨2, _⟩ => show win0_8.index t (2 : Fin 3) * 1024 ≤ (i 2).val ∧ (i 2).val < win0_8.index t (2 : Fin 3) * 1024 + 1024; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 4 := (i 0).isLt; have h1 : (i 1).val < 2048 := (i 1).isLt; have h2 : (i 2).val < 1024 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v8) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Grid.lean ====
/-
  The sweep over the grid: the state carried from tile to tile, and the result array, against the layer.
-/
module

public import proofs.«01_k».proof.Proof.Cases
public import proofs.«01_k».proof.Proof.Blocks

@[expose] public section

set_option maxRecDepth 16384

noncomputable section

namespace Cert.KernelIdeal.Value

open Cert.KernelIdeal Cert.KernelIdeal.Own Cert.KernelIdeal.Gen Idealize.ShloMosaic Idealize.ShloMosaic.TcCoe Idealize.SL.Sem
open Cert.Proof.Spec

variable (m : (ℓ : Loc nD τ sig) → Buf (Elt Ideal) ℓ)

/-- The batch of a grid point. -/
def batchOf (t : Fin cfg0.N) : Fin 4 := ⟨t.val / 4, by have := lt_of_lt_of_eq t.isLt N_0; omega⟩

/-- What the carried state holds after a grid point: the layer's state after the point's tile. -/
theorem state_after (c : Dev nD) : ∀ (n : ℕ) (hn : n < cfg0.N) (h : Fin 4) (e : Fin 256) (d : Fin 128),
    (outsAt0 m c n hn).2 (ix3 h e d) = stateAt (m ((c : Thread nD τ).loc main_arg1)) (m ((c : Thread nD τ).loc main_arg2)) (m ((c : Thread nD τ).loc main_arg4)) (m ((c : Thread nD τ).loc main_arg5)) (m ((c : Thread nD τ).loc main_arg6)) (batchOf ⟨n, hn⟩) h (8 * (n % 4 + 1)) d e := by
  intro n
  induction n with
  | zero =>
    intro hn h e d
    have H := holds_at m c ⟨0, hn⟩ (batchOf ⟨0, hn⟩) rfl
    rw [outsAt0_A m c ⟨0, hn⟩ rfl]
    exact first_state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) (iblk m c 0 ⟨0, hn⟩) (iblk m c 1 ⟨0, hn⟩) (X0_2 m c ⟨0, hn⟩) (X0_3 m c ⟨0, hn⟩) (iblk m c 4 ⟨0, hn⟩) (iblk m c 5 ⟨0, hn⟩) (iblk m c 6 ⟨0, hn⟩) (iblk m c 7 ⟨0, hn⟩) _ H h e d
  | succ n ih =>
    intro hn h e d
    have H := holds_at m c ⟨n + 1, hn⟩ (batchOf ⟨n + 1, hn⟩) rfl
    by_cases h0 : (n + 1) % 4 = 0
    · rw [outsAt0_A m c ⟨n + 1, hn⟩ h0]
      dsimp only at H
      rw [h0] at H
      refine (first_state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) _ H h e d).trans ?_
      rw [h0]
    · rw [outsAt0_B m c ⟨n + 1, hn⟩ h0]
      refine later_state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (iblk m c 0 ⟨n + 1, hn⟩) (iblk m c 1 ⟨n + 1, hn⟩) (X0_2 m c ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) _ _ H _ (fun h e d => ?_) h e d
      have hb : batchOf ⟨n, Nat.lt_of_succ_lt hn⟩ = batchOf ⟨n + 1, hn⟩ := Fin.ext (by show n / 4 = (n + 1) / 4; omega)
      have hk : n % 4 + 1 = (n + 1) % 4 := by omega
      have r := ih (Nat.lt_of_succ_lt hn) h e d
      rw [hb, hk] at r
      exact r

/-- What a grid point writes back: the layer's entries of its tile. -/
theorem out_after (c : Dev nD) (t : Fin cfg0.N) (h : Fin 4) (e : Fin 256) (k : Fin 8) (i : Fin 64) (R : Fin 512)
    (hR : R.val = 64 * k.val + i.val) :
    (outsAt0 m c t.val t.isLt).1 (ix3 0 R (valCol h e)) = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batchOf t) (8 * (t.val % 4) + k.val) i h e := by
  have H := holds_at m c t (batchOf t) rfl
  by_cases h0 : t.val % 4 = 0
  · rw [outsAt0_A m c t h0]
    rw [h0] at H
    refine (first_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (iblk m c 4 t) (iblk m c 5 t) (iblk m c 6 t) (iblk m c 7 t) _ H h e k i R hR).trans ?_
    rw [h0]
  · rw [outsAt0_B m c t h0]
    refine later_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (X0_2 m c t) (X0_3 m c t) (iblk m c 4 t) (iblk m c 5 t) (iblk m c 6 t) (iblk m c 7 t) _ _ H _ (fun h e d => ?_) h e k i R hR
    have r := state_after m c (t.val - 1) (by omega) h e d
    have hb : batchOf ⟨t.val - 1, by omega⟩ = batchOf t := Fin.ext (by show (t.val - 1) / 4 = t.val / 4; omega)
    have hk : (t.val - 1) % 4 + 1 = t.val % 4 := by omega
    rw [hb, hk] at r
    exact r

/-- The result array at row `i` of chunk `n`, head `h`, feature `e` of batch `B` is the layer's entry. -/
theorem result_at (c : Dev nD) (B : Fin 4) (n : Fin 32) (i : Fin 64) (h : Fin 4) (e : Fin 256) :
    G8 m c (ix3 B (seqRow n.val i) (valCol h e)) = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) B n.val i h e := by
  have hv := (valCol h e).isLt
  have hrow : (seqRow n.val i).val = 64 * n.val + i.val := by show (64 * n.val + i.val) % 2048 = _; omega
  have hp : pt8Of (ix3 B (seqRow n.val i) (valCol h e)) = 4 * B.val + n.val / 8 := by
    show 4 * (B.val / 1 - 0) + 1 * ((seqRow n.val i).val / 512 - 0) + 1 * ((valCol h e).val / 1024 - 0) = _
    rw [hrow]; omega
  have hN : 4 * B.val + n.val / 8 < cfg0.N := by rw [show cfg0.N = 16 from N_0]; omega
  have hl : loc8Of (ix3 B (seqRow n.val i) (valCol h e)) = ix3 0 ⟨(64 * n.val + i.val) % 512, by omega⟩ (valCol h e) := by
    funext a
    fin_cases a
    · exact Fin.ext (by show B.val % 1 = 0; omega)
    · exact Fin.ext (by show (seqRow n.val i).val % 512 = (64 * n.val + i.val) % 512; rw [hrow])
    · exact Fin.ext (by show (valCol h e).val % 1024 = (valCol h e).val; omega)
  unfold G8
  rw [dif_pos (hp.trans_lt hN), hl, fold0_congr m c _ _ _ (by omega) hp, ← outsAt0_sweep m c _ hN]
  refine (out_after m c ⟨4 * B.val + n.val / 8, hN⟩ h e ⟨n.val % 8, by omega⟩ i _ ?_).trans ?_
  · show (64 * n.val + i.val) % 512 = 64 * (n.val % 8) + i.val
    omega
  · have hb : batchOf ⟨4 * B.val + n.val / 8, hN⟩ = B := Fin.ext (by show (4 * B.val + n.val / 8) / 4 = B.val; omega)
    have hc : 8 * ((4 * B.val + n.val / 8) % 4) + n.val % 8 = n.val := by omega
    rw [hb]
    show entry _ _ _ _ _ _ _ _ B (8 * ((4 * B.val + n.val / 8) % 4) + n.val % 8) i h e = _
    rw [hc]

end Cert.KernelIdeal.Value

end
-- ==== Proof.WindowSum.lean ====
/-
  The running sum over the 64 rows of a chunk, as a sum over the window of the rows before and with a row.
-/
module

public import proofs.«01_k».proof.Proof.Chunk
public import proofs.«01_k».proof.Proof.Gen.ReferenceIdeal.Step
public import Idealize.ShloMosaic.Lib.Pointwise

@[expose] public section

set_option maxRecDepth 16384

noncomputable section

namespace Cert.Proof.WindowSum

open Idealize.ShloMosaic
open Cert.Proof.Chunk (cum)
open Cert.ReferenceIdeal

theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- A sum over the window's positions, the rows beyond the chunk counting nothing, is the running sum. -/
theorem sum_shift (a : Fin 64 → EReal) (t : Fin 64) :
    (∑ u : Fin 64, if h : 63 ≤ t.val + u.val then a ⟨t.val + u.val - 63, by omega⟩ else 0) = cum a t := by
  unfold cum
  refine Finset.sum_bij_ne_zero (fun u _ hu => ⟨t.val + u.val - 63, by omega⟩) (fun _ _ _ => Finset.mem_univ _) ?_ ?_ ?_
  · intro u _ hu u' _ hu' e
    have h : 63 ≤ t.val + u.val := by by_contra h; exact hu (dif_neg h)
    have h' : 63 ≤ t.val + u'.val := by by_contra h; exact hu' (dif_neg h)
    have := congrArg Fin.val e
    exact Fin.ext (by simp only at this; omega)
  · intro s _ hs
    have h : s ≤ t := by by_contra h; exact hs (if_neg h)
    have h' : s.val ≤ t.val := h
    have e : (⟨t.val + (s.val + 63 - t.val) - 63, by omega⟩ : Fin 64) = s := Fin.ext (by simp only; omega)
    refine ⟨⟨s.val + 63 - t.val, by omega⟩, Finset.mem_univ _, ?_, e⟩
    rw [dif_pos (by simp only; omega)]
    rw [if_pos h] at hs
    rw [e]; exact hs
  · intro u _ hu
    have h : 63 ≤ t.val + u.val := by by_contra h; exact hu (dif_neg h)
    rw [dif_pos h, if_pos (Fin.le_def.2 (by simp only; omega))]

/-- The running sum over the rows of a chunk. -/
theorem reduceWindow_rows (x : FVec Ideal S4x64x4x128 .f32) (init : FVec Ideal S_ .f32) (h0 : init (Shape.Idx.first Cert.ReferenceIdeal.Gen.h_S_) = (0 : EReal))
    (h : S4x64x4x128.ReduceWindows ![1, 64, 1, 1] ![1, 1, 1, 1] ![0, 63, 0, 0] ![0, 0, 0, 0] S4x64x4x128) (hu : 0 < S_.numel)
    (b : Fin 4) (t : Fin 64) (hd : Fin 4) (d : Fin 128) :
    (Host.reduceWindowAdd ![1, 64, 1, 1] ![1, 1, 1, 1] ![0, 63, 0, 0] ![0, 0, 0, 0] x init h hu (ix4 b t hd d) : EReal)
      = cum (fun s => x (ix4 b s hd d)) t := by
  show Ideal.hostReduceWindowAdd _ _ _ _ h x (init (Shape.Idx.first hu)) (ix4 b t hd d) = _
  rw [h0]
  unfold Ideal.hostReduceWindowAdd Host.reduceWindow
  dsimp only
  rw [foldl_add, zero_add, ← List.ofFn_eq_map, List.sum_ofFn]
  let W : Shape := ⟨4, ![1, 64, 1, 1]⟩
  let G : W.Idx → EReal := fun p =>
    if hin : ∀ a : Fin 4, ![0, 63, 0, 0] a ≤ (ix4 b t hd d a).val * ![1, 1, 1, 1] a + (p a).val
        ∧ (ix4 b t hd d a).val * ![1, 1, 1, 1] a + (p a).val - ![0, 63, 0, 0] a < ![4, 64, 4, 128] a then
      x (fun a => ⟨(ix4 b t hd d a).val * ![1, 1, 1, 1] a + (p a).val - ![0, 63, 0, 0] a, (hin a).2⟩) else 0
  refine Eq.trans (b := ∑ n : Fin W.numel, G (W.rowMajor.symm n)) (Finset.sum_congr rfl fun n _ => ?_) ?_
  · by_cases hin : ∀ a : Fin 4, ![0, 63, 0, 0] a ≤ (ix4 b t hd d a).val * ![1, 1, 1, 1] a + (W.rowMajor.symm n a).val
        ∧ (ix4 b t hd d a).val * ![1, 1, 1, 1] a + (W.rowMajor.symm n a).val - ![0, 63, 0, 0] a < ![4, 64, 4, 128] a
    · exact (dif_pos hin).trans (by dsimp only [G]; rw [dif_pos hin]; rfl)
    · exact (dif_neg hin).trans (by dsimp only [G]; rw [dif_neg hin])
  rw [Equiv.sum_comp W.rowMajor.symm G, sum_idx4 G, Fin.sum_univ_one]
  simp only [Fin.sum_univ_one]
  rw [← sum_shift]
  refine Finset.sum_congr rfl fun u _ => ?_
  by_cases hc : 63 ≤ t.val + u.val
  · rw [dif_pos hc]
    have hin : ∀ a : Fin 4, ![0, 63, 0, 0] a ≤ (ix4 b t hd d a).val * ![1, 1, 1, 1] a + ((ix4 (0 : Fin 1) u (0 : Fin 1) (0 : Fin 1) : W.Idx) a).val
        ∧ (ix4 b t hd d a).val * ![1, 1, 1, 1] a + ((ix4 (0 : Fin 1) u (0 : Fin 1) (0 : Fin 1) : W.Idx) a).val - ![0, 63, 0, 0] a < ![4, 64, 4, 128] a := by
      intro a
      have h1 := b.2; have h2 := t.2; have h3 := hd.2; have h4 := d.2; have h5 := u.2
      fin_cases a
      · show 0 ≤ b.val * 1 + 0 ∧ b.val * 1 + 0 - 0 < 4; omega
      · show 63 ≤ t.val * 1 + u.val ∧ t.val * 1 + u.val - 63 < 64; omega
      · show 0 ≤ hd.val * 1 + 0 ∧ hd.val * 1 + 0 - 0 < 4; omega
      · show 0 ≤ d.val * 1 + 0 ∧ d.val * 1 + 0 - 0 < 128; omega
    refine Eq.trans (dif_pos hin) (congrArg x (funext fun a => Fin.ext ?_))
    fin_cases a
    · show b.val * 1 + 0 - 0 = b.val; omega
    · show t.val * 1 + u.val - 63 = t.val + u.val - 63; omega
    · show hd.val * 1 + 0 - 0 = hd.val; omega
    · show d.val * 1 + 0 - 0 = d.val; omega
  · rw [dif_neg hc]
    refine dif_neg fun hin => hc ?_
    have e := (hin 1).1
    have e' : 63 ≤ t.val * 1 + u.val := e
    omega

end Cert.Proof.WindowSum

end
-- ==== Proof.RefAt.lean ====
/-
  One chunk of the reference at an index.
-/
module

public import proofs.«01_k».proof.Proof.WindowSum
public import proofs.«01_k».proof.Proof.Spec
public import proofs.«01_k».proof.Proof.RefRun

@[expose] public section

set_option maxRecDepth 16384

noncomputable section

namespace Cert.Proof.RefAt

open Idealize.ShloMosaic
open Cert.Proof.Chunk Cert.Proof.Spec
open Cert.ReferenceIdeal Cert.ReferenceIdeal.Gen Cert.ReferenceIdeal.Step

variable (j : ℕ) (hj : j < 32) (s : State Ideal)

include hj in
/-- The chunk's number as a machine integer. -/
theorem start_at : (BitVec.ofNat 32 j).toInt = j := by
  revert hj; revert j; decide +kernel

/-- The starts of the slices of one chunk. -/
abbrev starts : Fin 5 → ℤ := fun k => BitVec.toInt ((![constantI S_ 32 (BitVec.ofNat 32 j), constantI S_ 32 0#32,
  constantI S_ 32 0#32, constantI S_ 32 0#32, constantI S_ 32 0#32] : Fin 5 → (⟨S_, .i32⟩ : BufTy).Contents (Elt Ideal)) k (Shape.Idx.first h_S_))

include hj in
theorem starts_zero : starts j 0 = (j : ℕ) := start_at j hj
theorem starts_one : starts j 1 = (0 : ℕ) := by show (0#32).toInt = _; decide
theorem starts_two : starts j 2 = (0 : ℕ) := by show (0#32).toInt = _; decide
theorem starts_three : starts j 3 = (0 : ℕ) := by show (0#32).toInt = _; decide
theorem starts_four : starts j 4 = (0 : ℕ) := by show (0#32).toInt = _; decide

section Clamps
variable (ht : S1x4x64x4x128.rank = S32x4x64x4x128.rank) (ht' : S1x4x64x4x256.rank = S32x4x64x4x256.rank)

include hj in
theorem clamp_zero : Host.clampedStart S32x4x64x4x128 S1x4x64x4x128 ht (starts j) 0 = j :=
  Host.clampedStart_of_le _ _ _ _ (starts_zero j hj) (by show j + 1 ≤ 32; omega)
theorem clamp_one : Host.clampedStart S32x4x64x4x128 S1x4x64x4x128 ht (starts j) 1 = 0 :=
  Host.clampedStart_of_le _ _ _ _ (starts_one j) (by show 0 + 4 ≤ 4; omega)
theorem clamp_two : Host.clampedStart S32x4x64x4x128 S1x4x64x4x128 ht (starts j) 2 = 0 :=
  Host.clampedStart_of_le _ _ _ _ (starts_two j) (by show 0 + 64 ≤ 64; omega)
theorem clamp_three : Host.clampedStart S32x4x64x4x128 S1x4x64x4x128 ht (starts j) 3 = 0 :=
  Host.clampedStart_of_le _ _ _ _ (starts_three j) (by show 0 + 4 ≤ 4; omega)
theorem clamp_four : Host.clampedStart S32x4x64x4x128 S1x4x64x4x128 ht (starts j) 4 = 0 :=
  Host.clampedStart_of_le _ _ _ _ (starts_four j) (by show 0 + 128 ≤ 128; omega)
include hj in
theorem clamp_zero' : Host.clampedStart S32x4x64x4x256 S1x4x64x4x256 ht' (starts j) 0 = j :=
  Host.clampedStart_of_le _ _ _ _ (starts_zero j hj) (by show j + 1 ≤ 32; omega)
theorem clamp_one' : Host.clampedStart S32x4x64x4x256 S1x4x64x4x256 ht' (starts j) 1 = 0 :=
  Host.clampedStart_of_le _ _ _ _ (starts_one j) (by show 0 + 4 ≤ 4; omega)
theorem clamp_two' : Host.clampedStart S32x4x64x4x256 S1x4x64x4x256 ht' (starts j) 2 = 0 :=
  Host.clampedStart_of_le _ _ _ _ (starts_two j) (by show 0 + 64 ≤ 64; omega)
theorem clamp_three' : Host.clampedStart S32x4x64x4x256 S1x4x64x4x256 ht' (starts j) 3 = 0 :=
  Host.clampedStart_of_le _ _ _ _ (starts_three j) (by show 0 + 4 ≤ 4; omega)
theorem clamp_four' : Host.clampedStart S32x4x64x4x256 S1x4x64x4x256 ht' (starts j) 4 = 0 :=
  Host.clampedStart_of_le _ _ _ _ (starts_four j) (by show 0 + 256 ≤ 256; omega)
end Clamps

/-- The chunk's queries are the array's at that chunk. -/
theorem b5_at (B : Fin 4) (t : Fin 64) (h : Fin 4) (d : Fin 128) :
    b5 j s (ix4 B t h d) = s.main_v28_0 (ix5 ⟨j, hj⟩ B t h d) := by
  unfold b5 b4 b0 b1 b2 b3
  pointwise
  simp only [clamp_zero j hj, clamp_one, clamp_two, clamp_three, clamp_four, zero_add]

/-- The chunk's keys. -/
theorem b11_at (B : Fin 4) (t : Fin 64) (h : Fin 4) (d : Fin 128) :
    b11 j s (ix4 B t h d) = s.main_v28_1 (ix5 ⟨j, hj⟩ B t h d) := by
  unfold b11 b10 b6 b7 b8 b9
  pointwise
  simp only [clamp_zero j hj, clamp_one, clamp_two, clamp_three, clamp_four, zero_add]

/-- The chunk's values. -/
theorem b17_at (B : Fin 4) (t : Fin 64) (h : Fin 4) (e : Fin 256) :
    b17 j s (ix4 B t h e) = s.main_v28_2 (ix5 ⟨j, hj⟩ B t h e) := by
  unfold b17 b16 b12 b13 b14 b15
  pointwise
  simp only [clamp_zero' j hj, clamp_one', clamp_two', clamp_three', clamp_four', zero_add]

/-- The chunk's log decays. -/
theorem b23_at (B : Fin 4) (t : Fin 64) (h : Fin 4) (d : Fin 128) :
    b23 j s (ix4 B t h d) = s.main_v28_3 (ix5 ⟨j, hj⟩ B t h d) := by
  unfold b23 b22 b18 b19 b20 b21
  pointwise
  simp only [clamp_zero j hj, clamp_one, clamp_two, clamp_three, clamp_four, zero_add]

/-- The running sums of the chunk's log decays. -/
theorem b26_at (B : Fin 4) (t : Fin 64) (h : Fin 4) (d : Fin 128) :
    b26 j s (ix4 B t h d) = cum (fun u => s.main_v28_3 (ix5 ⟨j, hj⟩ B u h d)) t := by
  unfold b26
  refine (Cert.Proof.WindowSum.reduceWindow_rows _ _ ?_ _ _ B t h d).trans ?_
  · unfold b25 b24
    exact Ideal.ofBits_zero_f32
  · simp only [b23_at j hj]

/-- The causal mask. -/
theorem mask_at (t u : Fin 64) : K_main_v17 (F := Ideal) (ix5 0 t u 0 0) = if u ≤ t then 1#1 else 0#1 := by
  unfold K_main_v17 K_main_v16 K_main_v15 K_main_call1_v4 K_main_call1_v5 K_main_c K_main_call1_v2 K_main_call1_v0 K_main_call1_v1 K_main_call1_v3 K_main_call1_c_0 K_main_call1_c
  pointwise
  revert t u
  decide +kernel

theorem ofBits_bot : Ideal.ofBits FTy.f32 4286578688#32 = ⊥ := by
  simp [Ideal.ofBits, Ideal.ieee, -EReal.coe_mul]

/-- The masked decay between two rows. -/
theorem masked_exp (p : Prop) [Decidable p] (x : EReal) :
    Ideal.exp (Scalar.select (if p then 1#1 else 0#1 : BitVec 1) x (Ideal.ofBits FTy.f32 4286578688#32))
      = if p then Ideal.exp x else 0 := by
  by_cases h : p
  · rw [if_pos h, if_pos h]; rfl
  · rw [if_neg h, if_neg h]
    show Ideal.exp (Ideal.ofBits FTy.f32 4286578688#32) = 0
    rw [ofBits_bot]; rfl

/-- The chunk's outputs. -/
theorem b65_at (B : Fin 4) (t : Fin 64) (h : Fin 4) (e : Fin 256) :
    b65 j s (ix4 B t h e)
      = out (fun i d => s.main_v28_0 (ix5 ⟨j, hj⟩ B i h d)) (fun i d => s.main_v28_1 (ix5 ⟨j, hj⟩ B i h d))
          (cums fun i d => s.main_v28_3 (ix5 ⟨j, hj⟩ B i h d)) (fun i e => s.main_v28_2 (ix5 ⟨j, hj⟩ B i h e))
          (fun d e => s.main_v28_6 (ix4 B h d e)) t e := by
  unfold b65 b32 b31 b30 b29 b53 b52 b51 b50 b49 b48 b47 b46 b45 b44 b43 b42 b41 b40 b39 b38 b37 b36 b35 b34 b33
  pointwise
  simp only [mask_at, masked_exp, b5_at j hj, b11_at j hj, b17_at j hj, b26_at j hj]
  rfl

/-- The state the chunk leaves. -/
theorem b64_at (B : Fin 4) (h : Fin 4) (d : Fin 128) (e : Fin 256) :
    b64 j s (ix4 B h d e)
      = next (fun i d => s.main_v28_1 (ix5 ⟨j, hj⟩ B i h d)) (cums fun i d => s.main_v28_3 (ix5 ⟨j, hj⟩ B i h d))
          (fun i e => s.main_v28_2 (ix5 ⟨j, hj⟩ B i h e)) (fun d e => s.main_v28_6 (ix4 B h d e)) d e := by
  unfold b64 b63 b62 b61 b60 b59 b58 b57 b56 b55 b54 b28 b27
  pointwise
  simp only [b11_at j hj, b17_at j hj, b26_at j hj]
  rfl

include hj in
/-- The outputs written at their chunk; the other chunks stay. -/
theorem b71_at (n : Fin 32) (B : Fin 4) (t : Fin 64) (h : Fin 4) (e : Fin 256) :
    b71 j s (ix5 n B t h e) = if n.val = j then b65 j s (ix4 B t h e) else s.main_v28_7 (ix5 n B t h e) := by
  unfold b71 b66 b67 b68 b69 b70
  pointwise
  simp only [clamp_zero' j hj, clamp_one', clamp_two', clamp_three', clamp_four', Nat.sub_zero, Nat.zero_le, true_and, and_true, zero_add, Fin.is_lt]
  split_ifs <;> first | rfl | (exfalso; omega)

section Arrays
variable (a0 a1 : (⟨S4x2048x512, .f32⟩ : BufTy).Contents (Elt Ideal)) (a2 : (⟨S4x2048x1024, .f32⟩ : BufTy).Contents (Elt Ideal))
  (a3 : (⟨S4x2048x1024, .f32⟩ : BufTy).Contents (Elt Ideal))
  (a4 : (⟨S4x2048x16, .f32⟩ : BufTy).Contents (Elt Ideal)) (a5 : (⟨S16x512, .f32⟩ : BufTy).Contents (Elt Ideal))
  (a6 : (⟨S512, .f32⟩ : BufTy).Contents (Elt Ideal)) (a7 : (⟨S256, .f32⟩ : BufTy).Contents (Elt Ideal))
  (n : Fin 32) (B : Fin 4) (t : Fin 64) (h : Fin 4) (d : Fin 128) (e : Fin 256)

theorem seqRow_eq (p : n.val * 64 + t.val < 2048) : (⟨n.val * 64 + t.val, p⟩ : Fin 2048) = seqRow n.val t :=
  Fin.ext (by show n.val * 64 + t.val = (64 * n.val + t.val) % 2048; omega)
theorem keyCol_eq (p : h.val * 128 + d.val < 512) : (⟨h.val * 128 + d.val, p⟩ : Fin 512) = keyCol h d :=
  Fin.ext (by show h.val * 128 + d.val = 128 * h.val + d.val; omega)
theorem valCol_eq (p : h.val * 256 + e.val < 1024) : (⟨h.val * 256 + e.val, p⟩ : Fin 1024) = valCol h e :=
  Fin.ext (by show h.val * 256 + e.val = 256 * h.val + e.val; omega)

/-- The scaled queries, chunk by chunk. -/
theorem queries_at : A_main_v20 a0 a1 a2 a4 a5 a6 (ix5 n B t h d) = queries a0 B h n.val t d := by
  unfold A_main_v20 A_main_v19 A_main_v11 A_main_v9 K_main_v10 K_main_cst_0
  pointwise
  rw [seqRow_eq, keyCol_eq]; rfl

/-- The keys, chunk by chunk. -/
theorem keys_at : A_main_v22 a0 a1 a2 a4 a5 a6 (ix5 n B t h d) = keys a1 B h n.val t d := by
  unfold A_main_v22 A_main_v21 A_main_v12
  pointwise
  rw [seqRow_eq, keyCol_eq]; rfl

/-- The values, chunk by chunk. -/
theorem values_at : A_main_v24 a0 a1 a2 a4 a5 a6 (ix5 n B t h e) = values a2 B h n.val t e := by
  unfold A_main_v24 A_main_v23 A_main_v13
  pointwise
  rw [seqRow_eq, valCol_eq]; rfl

theorem ofBits_sixteen : Ideal.ofBits FTy.f32 1098907648#32 = ((16 : ℝ) : EReal) := by
  simp [Ideal.ofBits, Ideal.ieee, -EReal.coe_mul]; norm_num

/-- The log decays, chunk by chunk. -/
theorem decays_at : A_main_v26 a0 a1 a2 a4 a5 a6 (ix5 n B t h d) = decays a4 a5 a6 B h n.val t d := by
  unfold A_main_v26 A_main_v25 A_main_v14
  pointwise
  unfold A_main_v8 A_main_v6 A_main_v5 A_main_call0_v11 A_main_call0_v10 A_main_call0_v9 A_main_call0_v8 A_main_call0_v7 A_main_call0_v4 A_main_call0_v3 A_main_call0_v1 A_main_call0_v6 A_main_v4 A_main_v3 A_main_v2 A_main_v1 A_main_v0
    K_main_call0_v0 K_main_call0_v2 K_main_call0_v5 K_main_v7 K_main_cst K_main_call0_cst
  pointwise
  rw [if_neg (fun h => h rfl), ofBits_sixteen, seqRow_eq, keyCol_eq]
  exact logDecay_of_softplus _

/-- The state and the outputs of the scan after `n` chunks. -/
theorem states_at (n : ℕ) (hn : n ≤ 32) :
    (∀ B h d e, (RefRun.states a0 a1 a2 a4 a5 a6 n).main_v28_6 (ix4 B h d e) = stateAt a1 a2 a4 a5 a6 B h n d e)
    ∧ (∀ (n' : Fin 32) B t h e, n'.val < n →
        (RefRun.states a0 a1 a2 a4 a5 a6 n).main_v28_7 (ix5 n' B t h e) = outsAt a0 a1 a2 a4 a5 a6 B h n'.val t e)
    ∧ (RefRun.states a0 a1 a2 a4 a5 a6 n).main_v28_0 = A_main_v20 a0 a1 a2 a4 a5 a6
    ∧ (RefRun.states a0 a1 a2 a4 a5 a6 n).main_v28_1 = A_main_v22 a0 a1 a2 a4 a5 a6
    ∧ (RefRun.states a0 a1 a2 a4 a5 a6 n).main_v28_2 = A_main_v24 a0 a1 a2 a4 a5 a6
    ∧ (RefRun.states a0 a1 a2 a4 a5 a6 n).main_v28_3 = A_main_v26 a0 a1 a2 a4 a5 a6 := by
  induction n with
  | zero =>
    refine ⟨fun B h d e => ?_, fun _ _ _ _ _ h0 => absurd h0 (Nat.not_lt_zero _), rfl, rfl, rfl, rfl⟩
    exact Ideal.ofBits_zero_f32
  | succ n ih =>
    obtain ⟨h6, h7, h0, h1, h2, h3⟩ := ih (by omega)
    have hn' : n < 32 := by omega
    refine ⟨fun B h d e => ?_, fun n' B t h e hlt => ?_, h0, h1, h2, h3⟩
    · refine (congrFun (step_main_v28_6 n _) _).trans ((b64_at n hn' _ B h d e).trans ?_)
      simp only [h1, h2, h3, h6, keys_at, values_at, decays_at]
      rfl
    · refine (congrFun (step_main_v28_7 n _) _).trans ((b71_at n hn' _ n' B t h e).trans ?_)
      by_cases hc : n'.val = n
      · rw [if_pos hc, b65_at n hn', hc]
        simp only [h0, h1, h2, h3, h6, queries_at, keys_at, values_at, decays_at]
        rfl
      · rw [if_neg hc]
        exact h7 n' B t h e (by omega)

end Arrays

end Cert.Proof.RefAt
-- ==== Proof.RefResult.lean ====
/-
  The reference's result at an index.
-/
module

public import proofs.«01_k».proof.Proof.RefAt

@[expose] public section

set_option maxRecDepth 16384

noncomputable section

namespace Cert.Proof.RefAt

open Idealize.ShloMosaic
open Cert.Proof.Chunk Cert.Proof.Spec
open Cert.ReferenceIdeal Cert.ReferenceIdeal.Gen Cert.ReferenceIdeal.Step

variable (a0 a1 : (⟨S4x2048x512, .f32⟩ : BufTy).Contents (Elt Ideal)) (a2 : (⟨S4x2048x1024, .f32⟩ : BufTy).Contents (Elt Ideal))
  (a3 : (⟨S4x2048x1024, .f32⟩ : BufTy).Contents (Elt Ideal))
  (a4 : (⟨S4x2048x16, .f32⟩ : BufTy).Contents (Elt Ideal)) (a5 : (⟨S16x512, .f32⟩ : BufTy).Contents (Elt Ideal))
  (a6 : (⟨S512, .f32⟩ : BufTy).Contents (Elt Ideal)) (a7 : (⟨S256, .f32⟩ : BufTy).Contents (Elt Ideal))

/-- Normalization and gating of an entry, with the logistic function written out. -/
def gateAt (o : Fin 256 → EReal) (gain g : EReal) (e : Fin 256) : EReal :=
  o e * Ideal.rsqrt (Ideal.div (∑ x, o x * o x) (Ideal.ofBits FTy.f32 1132462080#32) + Ideal.ofBits FTy.f32 897988541#32)
    * gain * (g * Ideal.div 1 (1 + Ideal.exp (-g)))

/-- It is the entry of the gated row. -/
theorem gateAt_eq (o gain g : Fin 256 → EReal) (e : Fin 256) :
    gateAt o (gain e) (g e) e = Cert.KernelIdeal.Own.gate o gain g e := rfl

/-- The reference's result at row `r` and column `n`, of the last state of the scan. -/
theorem tail_at (s : State Ideal) (B : Fin 4) (r : Fin 2048) (n : Fin 1024) :
    R_main_v47 s a3 a7 (ix3 B r n)
      = gateAt (fun x => s.main_v28_7 (ix5 ⟨r.val / 64, by omega⟩ B ⟨r.val % 64, by omega⟩ ⟨n.val / 256, by omega⟩ x))
          (a7 (ix1 ⟨n.val % 256, by omega⟩)) (a3 (ix3 B r n)) ⟨n.val % 256, by omega⟩ := by
  unfold R_main_v47 gateAt
  pointwise

/-- The reference's result at row `t` of chunk `n` and feature `e` of head `h`. -/
theorem result_at (n : Fin 32) (B : Fin 4) (t : Fin 64) (h : Fin 4) (e : Fin 256) :
    R_main_v47 (RefRun.states a0 a1 a2 a4 a5 a6 32) a3 a7 (ix3 B (seqRow n.val t) (valCol h e))
      = entry a0 a1 a2 a3 a4 a5 a6 a7 B n.val t h e := by
  have hr1 : ∀ p, (⟨(seqRow n.val t).val / 64, p⟩ : Fin 32) = n := fun p =>
    Fin.ext (by show (64 * n.val + t.val) % 2048 / 64 = n.val; omega)
  have hr2 : ∀ p, (⟨(seqRow n.val t).val % 64, p⟩ : Fin 64) = t := fun p =>
    Fin.ext (by show (64 * n.val + t.val) % 2048 % 64 = t.val; omega)
  have hc1 : ∀ p, (⟨(valCol h e).val / 256, p⟩ : Fin 4) = h := fun p =>
    Fin.ext (by show (256 * h.val + e.val) / 256 = h.val; omega)
  have hc2 : ∀ p, (⟨(valCol h e).val % 256, p⟩ : Fin 256) = e := fun p =>
    Fin.ext (by show (256 * h.val + e.val) % 256 = e.val; omega)
  rw [tail_at, hr1, hr2, hc1, hc2, entry, ← gateAt_eq]
  have ho := fun x => (states_at a0 a1 a2 a4 a5 a6 32 le_rfl).2.1 n B t h x n.2
  rw [funext ho]

end Cert.Proof.RefAt
-- ==== Proof.Equal.lean ====
/-
  The kernel's result array is the reference's, at arguments that agree.
-/
module

public import proofs.«01_k».proof.Defs
public import proofs.«01_k».proof.Proof.Grid
public import proofs.«01_k».proof.Proof.RefResult
public import proofs.«01_k».proof.Proof.Frames

@[expose] public section

set_option maxRecDepth 16384

noncomputable section

namespace Cert.Proof

open Idealize.ShloMosaic Idealize.ShloMosaic.TcCoe Idealize.SL.Sem
open Cert.Proof.Spec

/-- Every index of the result is a row of some chunk and a feature of some head. -/
theorem index_cases (i : KernelIdeal.S4x2048x1024.Idx) :
    ∃ (B : Fin 4) (n : Fin 32) (t : Fin 64) (h : Fin 4) (e : Fin 256), i = ix3 B (seqRow n.val t) (valCol h e) := by
  have h1 : (i 1).val < 2048 := (i 1).isLt
  have h2 : (i 2).val < 1024 := (i 2).isLt
  refine ⟨i 0, ⟨(i 1).val / 64, by omega⟩, ⟨(i 1).val % 64, by omega⟩, ⟨(i 2).val / 256, by omega⟩, ⟨(i 2).val % 256, by omega⟩, ?_⟩
  funext a
  fin_cases a
  · rfl
  · exact Fin.ext (by show (i 1).val = (64 * ((i 1).val / 64) + (i 1).val % 64) % 2048; omega)
  · exact Fin.ext (by show (i 2).val = 256 * ((i 2).val / 256) + (i 2).val % 256; omega)

/-- The kernel's result array, as the reference writes it from the same arguments. -/
theorem result_eq (m : (ℓ : Loc KernelIdeal.nD KernelIdeal.τ KernelIdeal.sig) → Buf (Elt Ideal) ℓ) (c : Dev KernelIdeal.nD) :
    KernelIdeal.Value.G8 m c
      = ReferenceIdeal.Step.R_main_v47 (RefRun.states (m ((c : Thread KernelIdeal.nD KernelIdeal.τ).loc KernelIdeal.main_arg0))
          (m ((c : Thread KernelIdeal.nD KernelIdeal.τ).loc KernelIdeal.main_arg1)) (m ((c : Thread KernelIdeal.nD KernelIdeal.τ).loc KernelIdeal.main_arg2))
          (m ((c : Thread KernelIdeal.nD KernelIdeal.τ).loc KernelIdeal.main_arg4)) (m ((c : Thread KernelIdeal.nD KernelIdeal.τ).loc KernelIdeal.main_arg5))
          (m ((c : Thread KernelIdeal.nD KernelIdeal.τ).loc KernelIdeal.main_arg6)) 32)
        (m ((c : Thread KernelIdeal.nD KernelIdeal.τ).loc KernelIdeal.main_arg3)) (m ((c : Thread KernelIdeal.nD KernelIdeal.τ).loc KernelIdeal.main_arg7)) := by
  funext i
  obtain ⟨B, n, t, h, e, rfl⟩ := index_cases i
  exact (KernelIdeal.Value.result_at m c B n t h e).trans (RefAt.result_at _ _ _ _ _ _ _ _ n B t h e).symm

/-- Over exact arithmetic the kernel and the reference leave the same array, their arguments unchanged. -/
theorem algebraic : Cert.algebraic_KernelIdeal_ReferenceIdeal := by
  intro m g m' g' _ hagree
  refine ⟨fun c => KernelIdeal.Value.G8 m c, KernelIdeal.Value.run m g, ?_⟩
  refine (θ_run Cert.ReferenceIdeal.defs _ _).mono (fun r h c => ⟨(h c).1.trans ?_, (h c).2⟩) (RefRun.run (F := Ideal) m' g')
  obtain ⟨e0, e1, e2, e3, e4, e5, e6, e7⟩ := hagree c
  unfold RefRun.statesOf
  rw [e0, e1, e2, e3, e4, e5, e6, e7]
  exact (result_eq m c).symm

end Cert.Proof

end
-- ==== Proof.OutEntry.lean ====
/-
  The output projection at an index: the kernel's block, and the reference's array.
-/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Proof.OutEntry

open Idealize.ShloMosaic Idealize.ShloMosaic.TcCoe Idealize.SL.Sem

/-- An entry of a row over the root of its mean square, scaled by its gain. -/
def normAt (z : Fin 2048 → EReal) (gain : EReal) (d : Fin 2048) : EReal :=
  z d * Ideal.rsqrt (Ideal.div (∑ x, z x * z x) (Ideal.ofBits FTy.f32 0x45000000#32) + Ideal.ofBits FTy.f32 0x358637BD#32) * gain

/-- The row that is normed: the residual plus the gated product, the two mixers' parts of the product one after the other. -/
def mixAt (a b : Fin 1024 → EReal) (wa wb : Fin 1024 → Fin 2048 → EReal) (x g : Fin 2048 → EReal) (d : Fin 2048) : EReal :=
  x d + g d * ((∑ k, a k * wa k d) + ∑ k, b k * wb k d)

section Block
open Cert.Kernel2Ideal Cert.Kernel2Ideal.Gen

/-- What the body leaves at a row and a column of its block. -/
theorem payload_at (x0 x1 : Vec Ideal S512x1024 .bf16) (x2 x3 : Vec Ideal S1x1024x2048 .bf16) (x4 : Vec Ideal S512x2048 .f32)
    (x5 : Vec Ideal S1x1x2048 .f32) (x6 : Vec Ideal S1x2048 .f32) (r : Fin 512) (d : Fin 2048) :
    k0_pay1 x0 x2 x1 x3 x4 x5 x6 (ix2 r d)
      = normAt (mixAt (fun k => x0 (ix2 r k)) (fun k => x1 (ix2 r k)) (fun k d => x2 (ix3 0 k d)) (fun k d => x3 (ix3 0 k d))
          (fun d => x4 (ix2 r d)) (fun d => x5 (ix3 0 0 d))) (x6 (ix2 0 d)) d := by
  unfold k0_pay1 normAt mixAt
  pointwise

/-- The body's one store covers the block and its loads read their blocks whole. -/
theorem block_eq (x0 x1 : Vec Ideal S512x1024 .bf16) (x2 x3 : Vec Ideal S1x1024x2048 .bf16) (x4 : Vec Ideal S512x2048 .f32)
    (x5 : Vec Ideal S1x1x2048 .f32) (x6 : Vec Ideal S1x2048 .f32) :
    out0_7 x0 x1 x2 x3 x4 x5 x6 = k0_pay1 x0 x2 x1 x3 x4 x5 x6 := by
  have h1 : (![0, 0] : Fin S512x1024.rank → Nat) = fun _ => 0 := funext fun a => by fin_cases a <;> rfl
  have h2 : (![0, 0] : Fin S512x2048.rank → Nat) = fun _ => 0 := funext fun a => by fin_cases a <;> rfl
  have h3 : (![0, 0, 0] : Fin S1x1024x2048.rank → Nat) = fun _ => 0 := funext fun a => by fin_cases a <;> rfl
  have h4 : (![0, 0, 0] : Fin S1x1x2048.rank → Nat) = fun _ => 0 := funext fun a => by fin_cases a <;> rfl
  have h5 : (![0, 0] : Fin S1x2048.rank → Nat) = fun _ => 0 := funext fun a => by fin_cases a <;> rfl
  unfold out0_7
  rw [View.canon_unit_zero h2, View.ld_unit_zero h1, View.ld_unit_zero h3, View.ld_unit_zero h1, View.ld_unit_zero h3,
    View.ld_unit_zero h2, View.ld_unit_zero h4, View.ld_unit_zero h5]

end Block

section Whole
open Cert.Reference2Ideal Cert.Reference2Ideal.Gen

/-- The two mixers' outputs side by side. -/
def sides (a b : FVec Ideal S4x2048x1024 .bf16) : FVec Ideal S4x2048x2048 .bf16 :=
  concatenate S4x2048x2048 2 [⟨S4x2048x1024, a⟩, ⟨S4x2048x1024, b⟩] concatenates_S4x2048x1024_S4x2048x1024_S4x2048x2048_d2

theorem sides_left (a b : FVec Ideal S4x2048x1024 .bf16) (B : Fin 4) (t : Fin 2048) (k : Fin 1024)
    (n : Fin 2048) (hn : n.val = k.val) : sides a b (ix3 B t n) = a (ix3 B t k) := by
  unfold sides
  pointwise
  have := k.isLt
  rw [dif_pos (by omega)]
  exact congrArg (fun w : Fin 1024 => a (ix3 B t w)) (Fin.ext (by show n.val = k.val; omega))

theorem sides_right (a b : FVec Ideal S4x2048x1024 .bf16) (B : Fin 4) (t : Fin 2048) (k : Fin 1024)
    (n : Fin 2048) (hn : n.val = 1024 + k.val) : sides a b (ix3 B t n) = b (ix3 B t k) := by
  unfold sides
  pointwise
  have := k.isLt
  rw [dif_neg (by omega)]
  exact congrArg (fun w : Fin 1024 => b (ix3 B t w)) (Fin.ext (by show n.val - 1024 = k.val; omega))

/-- The row that the reference norms. -/
def mixed (a b : FVec Ideal S4x2048x1024 .bf16) (w : FVec Ideal S4x2048x2048 .f32)
    (x : FVec Ideal S4x2048x2048 .f32) (g : FVec Ideal S4x2048 .f32) :
    FVec Ideal S4x2048x2048 .f32 :=
  addf x (mulf (broadcastInDim S4x2048x2048 ![0, 1, 2] bcast_S4x1x2048_S4x2048x2048_0_1_2 (broadcastInDim S4x1x2048 ![0, 2] bcast_S4x2048_S4x1x2048_0_2 g)) (Host.dotGeneral dot_S4x2048x2048_S2048x2048_S4x2048x2048_2_0_01_1_n_n none (extf .f32 (sides a b) bitsLt_bf16_f32) (shapeCast S2048x2048 (extractStridedSlice S1x2048x2048 ![3, 0, 0] w slices_S4x2048x2048_S1x2048x2048_3_0_0) shapeCasts_S1x2048x2048_S2048x2048)))

/-- The reference's result. -/
def result (a b : FVec Ideal S4x2048x1024 .bf16) (w : FVec Ideal S4x2048x2048 .f32)
    (x : FVec Ideal S4x2048x2048 .f32) (g : FVec Ideal S4x2048 .f32)
    (f : FVec Ideal S2048 .f32) : FVec Ideal S8192x2048 .f32 :=
  shapeCast S8192x2048 (mulf (mulf (mixed a b w x g) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (mixed a b w x g) (mixed a b w x g)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 f))) shapeCasts_S4x2048x2048_S8192x2048

variable (a b : FVec Ideal S4x2048x1024 .bf16) (w : FVec Ideal S4x2048x2048 .f32)
    (x : FVec Ideal S4x2048x2048 .f32) (g : FVec Ideal S4x2048 .f32)
    (f : FVec Ideal S2048 .f32)

/-- The first and the second half of the weights' rows. -/
def lo (k : Fin 1024) : Fin 2048 := ⟨k.val, by omega⟩
def hi (k : Fin 1024) : Fin 2048 := ⟨1024 + k.val, by omega⟩

/-- A sum over the rows of the weights, half by half. -/
theorem sum_halves (h : Fin 2048 → EReal) : ∑ n, h n = (∑ k, h (lo k)) + ∑ k, h (hi k) :=
  Fin.sum_univ_add (a := 1024) (b := 1024) h

theorem mixed_at (B : Fin 4) (t : Fin 2048) (d : Fin 2048) :
    mixed a b w x g (ix3 B t d)
      = mixAt (fun k => a (ix3 B t k)) (fun k => b (ix3 B t k)) (fun k d => w (ix3 3 (lo k) d)) (fun k d => w (ix3 3 (hi k) d))
          (fun d => x (ix3 B t d)) (fun d => g (ix2 B d)) d := by
  have e : mixed a b w x g (ix3 B t d)
      = x (ix3 B t d) + g (ix2 B d) * ∑ n : Fin 2048, sides a b (ix3 B t n) * w (ix3 3 n d) := by
    unfold mixed
    pointwise
  rw [e, sum_halves]
  unfold mixAt
  simp only [sides_left a b B t _ (lo _) rfl, sides_right a b B t _ (hi _) rfl]

/-- The reference's result at a row and a column. -/
theorem result_at (r : Fin 8192) (d : Fin 2048) (B : Fin 4) (t : Fin 2048) (hB : B.val = r.val / 2048) (ht : t.val = r.val % 2048) :
    result a b w x g f (ix2 r d) = normAt (fun d => mixed a b w x g (ix3 B t d)) (f (ix1 d)) d := by
  have eB : (⟨r.val / 2048, by omega⟩ : Fin 4) = B := Fin.ext hB.symm
  have et : (⟨r.val % 2048, by omega⟩ : Fin 2048) = t := Fin.ext ht.symm
  rw [← eB, ← et]
  unfold result normAt
  generalize mixed a b w x g = z
  pointwise

end Whole

end Cert.Proof.OutEntry

end
-- ==== Proof.OutEqual.lean ====
/-
  The output projection: its frames, its blocks against the arguments, and its result against the reference's.
-/
module

public import proofs.«01_k».proof.Defs
public import proofs.«01_k».proof.Proof.OutEntry
public import proofs.«01_k».proof.Proof.Gen.Kernel2.Frame
public import Idealize.ShloMosaic.Lib.Ring

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Proof.OutEntry

variable (m : (ℓ : Loc nD τ sig) → Buf (Elt Ideal) ℓ)

/-- The block indices of the windows at every grid point. -/
theorem window_index : ∀ t : Fin cfg0.N,
    win0_0.index t = ![t.val, 0] ∧ win0_1.index t = ![t.val, 0] ∧ win0_2.index t = ![3, 0, 0] ∧ win0_3.index t = ![3, 1, 0] ∧
    win0_4.index t = ![t.val, 0] ∧ win0_5.index t = ![t.val / 4, 0, 0] ∧ win0_6.index t = ![0, 0] ∧ win0_7.index t = ![t.val, 0] :=
  (by decide +kernel : ∀ t : Fin grid0.N,
    win0_0.index t = ![t.val, 0] ∧ win0_1.index t = ![t.val, 0] ∧ win0_2.index t = ![3, 0, 0] ∧ win0_3.index t = ![3, 1, 0] ∧
    win0_4.index t = ![t.val, 0] ∧ win0_5.index t = ![t.val / 4, 0, 0] ∧ win0_6.index t = ![0, 0] ∧ win0_7.index t = ![t.val, 0])

/-! ### What the launch finds -/

theorem entry_a (c : Dev nD) : V m c main_v0 = shapeCast S8192x1024 (m ((c : Thread nD τ).loc main_arg0)) shapeCasts_S4x2048x1024_S8192x1024 := by
  show StableHlo.after hostOps0 (fun b => m (c, b)) (Proc.devRef .tc main_v0) = _
  after_results
  rfl

theorem entry_b (c : Dev nD) : V m c main_v1 = shapeCast S8192x1024 (m ((c : Thread nD τ).loc main_arg1)) shapeCasts_S4x2048x1024_S8192x1024 := by
  show StableHlo.after hostOps0 (fun b => m (c, b)) (Proc.devRef .tc main_v1) = _
  after_results
  rfl

theorem entry_w (c : Dev nD) : V m c main_v2 = (m ((c : Thread nD τ).loc main_arg2) : S4x2048x2048.Idx → EReal) := by
  show StableHlo.after hostOps0 (fun b => m (c, b)) (Proc.devRef .tc main_v2) = _
  after_results
  rfl

theorem entry_x (c : Dev nD) : V m c main_v3 = shapeCast S8192x2048 (m ((c : Thread nD τ).loc main_arg3)) shapeCasts_S4x2048x2048_S8192x2048 := by
  show StableHlo.after hostOps0 (fun b => m (c, b)) (Proc.devRef .tc main_v3) = _
  after_results
  rfl

theorem entry_g (c : Dev nD) : V m c main_v4 = shapeCast S4x1x2048 (m ((c : Thread nD τ).loc main_arg4)) shapeCasts_S4x2048_S4x1x2048 := by
  show StableHlo.after hostOps0 (fun b => m (c, b)) (Proc.devRef .tc main_v4) = _
  after_results
  rfl

theorem entry_f (c : Dev nD) : V m c main_v5 = shapeCast S1x2048 (m ((c : Thread nD τ).loc main_arg5)) shapeCasts_S2048_S1x2048 := by
  show StableHlo.after hostOps0 (fun b => m (c, b)) (Proc.devRef .tc main_v5) = _
  after_results
  rfl

/-- The rows of the four sequences one after the other, read at a row. -/
theorem rows_half (x : FVec Ideal S4x2048x1024 .bf16) (r : Fin 8192) (k : Fin 1024) (B : Fin 4) (s : Fin 2048)
    (hB : B.val = r.val / 2048) (hs : s.val = r.val % 2048) :
    shapeCast S8192x1024 x shapeCasts_S4x2048x1024_S8192x1024 (ix2 r k) = x (ix3 B s k) := by
  have eB : (⟨r.val / 2048, by omega⟩ : Fin 4) = B := Fin.ext hB.symm
  have et : (⟨r.val % 2048, by omega⟩ : Fin 2048) = s := Fin.ext hs.symm
  rw [← eB, ← et]
  pointwise

theorem rows_whole (x : FVec Ideal S4x2048x2048 .f32) (r : Fin 8192) (k : Fin 2048) (B : Fin 4) (s : Fin 2048)
    (hB : B.val = r.val / 2048) (hs : s.val = r.val % 2048) :
    shapeCast S8192x2048 x shapeCasts_S4x2048x2048_S8192x2048 (ix2 r k) = x (ix3 B s k) := by
  have eB : (⟨r.val / 2048, by omega⟩ : Fin 4) = B := Fin.ext hB.symm
  have et : (⟨r.val % 2048, by omega⟩ : Fin 2048) = s := Fin.ext hs.symm
  rw [← eB, ← et]
  pointwise

/-! ### The blocks of a point, of the arguments -/

section
variable (c : Dev nD) (t : Fin cfg0.N) (R : Fin 512) (r : Fin 8192) (hr : r.val = 512 * t.val + R.val)
  (B : Fin 4) (s : Fin 2048) (hB : B.val = r.val / 2048) (hs : s.val = r.val % 2048)

include hr hB hs in
theorem block_a (k : Fin 1024) : (iblk m c 0 t : S512x1024.Idx → EReal) (ix2 R k) = m ((c : Thread nD τ).loc main_arg0) (ix3 B s k) := by
  have e := (window_index t).1
  have h1 : (iblk m c 0 t : S512x1024.Idx → EReal) (ix2 R k) = V m c main_v0 (ix2 r k) := by blk_ext [iblk, e]
  rw [h1, entry_a]
  exact rows_half _ r _ B s hB hs

include hr hB hs in
theorem block_b (k : Fin 1024) : (iblk m c 1 t : S512x1024.Idx → EReal) (ix2 R k) = m ((c : Thread nD τ).loc main_arg1) (ix3 B s k) := by
  have e := (window_index t).2.1
  have h1 : (iblk m c 1 t : S512x1024.Idx → EReal) (ix2 R k) = V m c main_v1 (ix2 r k) := by blk_ext [iblk, e]
  rw [h1, entry_b]
  exact rows_half _ r _ B s hB hs

theorem block_wa (k : Fin 1024) (d : Fin 2048) :
    (iblk m c 2 t : S1x1024x2048.Idx → EReal) (ix3 0 k d) = m ((c : Thread nD τ).loc main_arg2) (ix3 3 (lo k) d) := by
  have e := (window_index t).2.2.1
  have h1 : (iblk m c 2 t : S1x1024x2048.Idx → EReal) (ix3 0 k d) = V m c main_v2 (ix3 3 (lo k) d) := by blk_ext [iblk, e, lo]
  rw [h1, entry_w]

theorem block_wb (k : Fin 1024) (d : Fin 2048) :
    (iblk m c 3 t : S1x1024x2048.Idx → EReal) (ix3 0 k d) = m ((c : Thread nD τ).loc main_arg2) (ix3 3 (hi k) d) := by
  have e := (window_index t).2.2.2.1
  have h1 : (iblk m c 3 t : S1x1024x2048.Idx → EReal) (ix3 0 k d) = V m c main_v2 (ix3 3 (hi k) d) := by blk_ext [iblk, e, hi]
  rw [h1, entry_w]

include hr hB hs in
theorem block_x (d : Fin 2048) : (iblk m c 4 t : S512x2048.Idx → EReal) (ix2 R d) = m ((c : Thread nD τ).loc main_arg3) (ix3 B s d) := by
  have e := (window_index t).2.2.2.2.1
  have h1 : (iblk m c 4 t : S512x2048.Idx → EReal) (ix2 R d) = V m c main_v3 (ix2 r d) := by blk_ext [iblk, e]
  rw [h1, entry_x]
  exact rows_whole _ r _ B s hB hs

include hr hB in
theorem block_g (d : Fin 2048) : (iblk m c 5 t : S1x1x2048.Idx → EReal) (ix3 0 0 d) = m ((c : Thread nD τ).loc main_arg4) (ix2 B d) := by
  have e := (window_index t).2.2.2.2.2.1
  have hb : B.val = t.val / 4 := by have := R.isLt; omega
  have h1 : (iblk m c 5 t : S1x1x2048.Idx → EReal) (ix3 0 0 d) = V m c main_v4 (ix3 B 0 d) := by blk_ext [iblk, e]
  rw [h1, entry_g]
  pointwise

theorem block_f (d : Fin 2048) : (iblk m c 6 t : S1x2048.Idx → EReal) (ix2 0 d) = m ((c : Thread nD τ).loc main_arg5) (ix1 d) := by
  have e := (window_index t).2.2.2.2.2.2.1
  have h1 : (iblk m c 6 t : S1x2048.Idx → EReal) (ix2 0 d) = V m c main_v5 (ix2 0 d) := by blk_ext [iblk, e]
  rw [h1, entry_f]
  pointwise

end

/-- The result array at a row and a column. -/
theorem final_at (c : Dev nD) (r : Fin 8192) (d : Fin 2048) (B : Fin 4) (s : Fin 2048) (hB : B.val = r.val / 2048) (hs : s.val = r.val % 2048) :
    ((dats m 0 c).arrAt 7 cfg0.N : S8192x2048.Idx → EReal) (ix2 r d)
      = normAt (mixAt (fun k => m ((c : Thread nD τ).loc main_arg0) (ix3 B s k)) (fun k => m ((c : Thread nD τ).loc main_arg1) (ix3 B s k))
          (fun k d => m ((c : Thread nD τ).loc main_arg2) (ix3 3 (lo k) d)) (fun k d => m ((c : Thread nD τ).loc main_arg2) (ix3 3 (hi k) d))
          (fun d => m ((c : Thread nD τ).loc main_arg3) (ix3 B s d)) (fun d => m ((c : Thread nD τ).loc main_arg4) (ix2 B d)))
        (m ((c : Thread nD τ).loc main_arg5) (ix1 d)) d := by
  have hN : r.val / 512 < cfg0.N := by rw [show cfg0.N = 16 from N_0]; omega
  let t : Fin cfg0.N := ⟨r.val / 512, hN⟩
  have e := (window_index t).2.2.2.2.2.2.2
  let R : Fin 512 := ⟨r.val % 512, by omega⟩
  have hr : r.val = 512 * t.val + R.val := by show r.val = 512 * (r.val / 512) + r.val % 512; omega
  have h := congrFun (blocks7 m c t (flush0_7 t)) (ix2 R d)
  have hl : ((cfg0.win 7).blk t).view.read (Elt Ideal) ((dats m 0 c).arrAt 7 cfg0.N) (ix2 R d)
      = ((dats m 0 c).arrAt 7 cfg0.N : S8192x2048.Idx → EReal) (ix2 r d) := by
    generalize (dats m 0 c).arrAt 7 cfg0.N = A
    clear h
    blk_ext [e]
  rw [← hl, h, flushed7, block_eq]
  refine (payload_at _ _ _ _ _ _ _ R d).trans ?_
  simp only [block_a m c t R r hr B s hB hs, block_b m c t R r hr B s hB hs, block_wa, block_wb, block_x m c t R r hr B s hB hs,
    block_g m c t R r hr B hB, block_f]

end Cert.Kernel2Ideal.Value

namespace Cert.Proof

open Idealize.ShloMosaic Idealize.ShloMosaic.TcCoe Idealize.SL.Sem

/-- The output projection terminates, its arguments unchanged. -/
theorem frame_kernel2 : Cert.quiescent_Kernel2 := fun m ρ _ => Kernel2.Gen.frame m ρ

/-- So does its idealization. -/
theorem frame_ideal2 : Cert.quiescent_Kernel2Ideal := fun m ρ _ => Kernel2Ideal.Gen.frame m ρ

/-- So does its reference. -/
theorem frame_reference2 : Cert.quiescent_Reference2Ideal := fun m ρ _ =>
  (θ_run Cert.Reference2Ideal.defs _ _).mono (fun r h => ⟨fun c => (h c).2, sem_eq_zero_of_no_sems (by decide) r.2⟩)
    (Reference2Ideal.Value.run (F := Ideal) m ρ)

/-- The output projection's result array is the reference's of the same arguments. -/
theorem result_eq2 (m : (ℓ : Loc Kernel2Ideal.nD Kernel2Ideal.τ Kernel2Ideal.sig) → Buf (Elt Ideal) ℓ) (c : Dev Kernel2Ideal.nD) :
    (Kernel2Ideal.Gen.dats m 0 c).arrAt 7 Kernel2Ideal.cfg0.N
      = OutEntry.result (m ((c : Thread Kernel2Ideal.nD Kernel2Ideal.τ).loc Kernel2Ideal.main_arg0))
          (m ((c : Thread Kernel2Ideal.nD Kernel2Ideal.τ).loc Kernel2Ideal.main_arg1)) (m ((c : Thread Kernel2Ideal.nD Kernel2Ideal.τ).loc Kernel2Ideal.main_arg2))
          (m ((c : Thread Kernel2Ideal.nD Kernel2Ideal.τ).loc Kernel2Ideal.main_arg3)) (m ((c : Thread Kernel2Ideal.nD Kernel2Ideal.τ).loc Kernel2Ideal.main_arg4))
          (m ((c : Thread Kernel2Ideal.nD Kernel2Ideal.τ).loc Kernel2Ideal.main_arg5)) := by
  have key : ∀ (r : Fin 8192) (d : Fin 2048), ((Kernel2Ideal.Gen.dats m 0 c).arrAt 7 Kernel2Ideal.cfg0.N : Kernel2Ideal.S8192x2048.Idx → EReal) (ix2 r d)
      = OutEntry.result (m ((c : Thread Kernel2Ideal.nD Kernel2Ideal.τ).loc Kernel2Ideal.main_arg0))
          (m ((c : Thread Kernel2Ideal.nD Kernel2Ideal.τ).loc Kernel2Ideal.main_arg1)) (m ((c : Thread Kernel2Ideal.nD Kernel2Ideal.τ).loc Kernel2Ideal.main_arg2))
          (m ((c : Thread Kernel2Ideal.nD Kernel2Ideal.τ).loc Kernel2Ideal.main_arg3)) (m ((c : Thread Kernel2Ideal.nD Kernel2Ideal.τ).loc Kernel2Ideal.main_arg4))
          (m ((c : Thread Kernel2Ideal.nD Kernel2Ideal.τ).loc Kernel2Ideal.main_arg5)) (ix2 r d) := by
    intro r d
    rw [Kernel2Ideal.Value.final_at m c r d ⟨r.val / 2048, by omega⟩ ⟨r.val % 2048, by omega⟩ rfl rfl,
      OutEntry.result_at _ _ _ _ _ _ r d ⟨r.val / 2048, by omega⟩ ⟨r.val % 2048, by omega⟩ rfl rfl]
    simp only [OutEntry.mixed_at]
  funext i
  have hi : i = ix2 (i 0) (i 1) := by funext a; fin_cases a <;> rfl
  rw [hi]
  exact key (i 0) (i 1)

/-- Over exact arithmetic the output projection and its reference leave the same array, their arguments unchanged. -/
theorem algebraic2 : Cert.algebraic_Kernel2Ideal_Reference2Ideal := by
  intro m g m' g' _ hagree
  refine ⟨fun c => (Kernel2Ideal.Gen.dats m 0 c).arrAt 7 Kernel2Ideal.cfg0.N, Kernel2Ideal.Value.run_blocks m g, ?_⟩
  refine (θ_run Cert.Reference2Ideal.defs _ _).mono (fun r h c => ⟨(h c).1.trans ?_, (h c).2⟩) (Reference2Ideal.Value.run (F := Ideal) m' g')
  obtain ⟨e0, e1, e2, e3, e4, e5⟩ := hagree c
  rw [e0, e1, e2, e3, e4, e5]
  exact (result_eq2 m c).symm

end Cert.Proof

end
-- ==== Proof.ProjRunA.lean ====
/-
  The body of the projection's kernel at a point of an even row tile.
-/
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- Two arrays of 512 rows, one above the other. -/
def stacked (a b : Vec F S512x2048 .bf16) : Vec F S1024x2048 .bf16 := fun y =>
  if h : (y 0).val < 512 then a (ix2 (n0 := 512) (n1 := 2048) ⟨(y 0).val, h⟩ (y 1))
  else b (ix2 (n0 := 512) (n1 := 2048) ⟨(y 0).val - 512, by have := (y 0).isLt; change (y 0).val < 1024 at this; omega⟩ (y 1))

/-- The first row tile, normalised at the grid's first point. -/
def firstTile (x0 x1 : Vec F S512x2048 .f32) (x2 x3 : Vec F S1x1x2048 .f32) (x4 : Vec F S1x2048 .f32) : Vec F S1024x2048 .bf16 :=
  stacked (k0_pay10 x0 x4 x3 x2) (k0_pay1 (k0_pay11 x1) (k0_pay12 x1) k0_pay13 x4 x3 x2)

/-- Whether the point is the grid's first, as the body asks it. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem src_inb : ∀ (i : grid0.Coords) (a : Fin S512x2048.rank), k0_off1 i a + S64x2048.size a ≤ S512x2048.size a := by decide +kernel

/-- The sixty-four rows a point normalises for the tile ahead. -/
def chunk (i : grid0.Coords) (x0 x1 : Vec F S512x2048 .f32) (x2 x3 : Vec F S1x1x2048 .f32) (x4 : Vec F S1x2048 .f32) : FVec F S64x2048 .bf16 :=
  k0_pay2 (k0_pay14 (BitVec.ofNat 32 (i 0).val) (BitVec.ofNat 32 (i 1).val)
    (View.ld x0 (Rect.unit (s := S512x2048) (k0_off1 i) S64x2048.size (src_inb i)))
    (View.ld x1 (Rect.unit (s := S512x2048) (k0_off1 i) S64x2048.size (src_inb i))) x4) x3 x2

/-- Scratch contents with the point's sixty-four rows put in place. -/
def grow (i : grid0.Coords) (d : Vec F S1024x2048 .bf16) (w : FVec F S64x2048 .bf16) : Vec F S1024x2048 .bf16 :=
  VecWindow.put (s := S1024x2048) d (k0_off2 i) S64x2048.size w

theorem z2a : (![0, 0] : Fin S1024x2048.rank → Nat) = fun _ => 0 := funext fun a => by fin_cases a <;> rfl
theorem z2b : (![0, 0] : Fin S1024x512.rank → Nat) = fun _ => 0 := funext fun a => by fin_cases a <;> rfl
theorem z2c : (![0, 0] : Fin S1x2048.rank → Nat) = fun _ => 0 := funext fun a => by fin_cases a <;> rfl
theorem z2d : (![0, 0] : Fin S512x2048.rank → Nat) = fun _ => 0 := funext fun a => by fin_cases a <;> rfl
theorem z3a : (![0, 0, 0] : Fin S1x1x2048.rank → Nat) = fun _ => 0 := funext fun a => by fin_cases a <;> rfl
theorem z3b : (![0, 0, 0] : Fin S1x512x2048.rank → Nat) = fun _ => 0 := funext fun a => by fin_cases a <;> rfl

/-- A store of a whole buffer leaves its payload. -/
theorem whole_store {S : Shape} {e : EltTy} (v : View sig .tc .vmem S e) (f : v.ty.Contents (Elt F)) {off : Fin S.rank → ℕ}
    (inb : ∀ a, off a + S.size a ≤ S.size a) (w w' : S.Idx → Elt F e) (h : w = w') :
    v.read (Elt F) (v.writes (Elt F) f [⟨Rect.unit off S.size inb, w⟩]) = w' := by
  subst h; exact View.read_writes_full v f inb w []

set_option maxHeartbeats 4000000 in
/-- The body at an even row tile, for a column tile of the first result. -/
theorem run_even_early (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x512x2048 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x2048 .bf16) (harg10 : arg10.IsWhole) (arg11 : Memref sig .tc .vmem S1024x2048 .bf16) (harg11 : arg11.IsWhole) (hc0 : ¬cond1 i) (hc1 : k0_cond2 i = 1#1) (hc2 : k0_cond3 i = 1#1) (hc3 : ¬k0_cond4 i = 1#1) (hc4 : ¬k0_cond5 i = 1#1)
    (x0 x1 : Vec F S512x2048 .f32) (x2 x3 : Vec F S1x1x2048 .f32) (x4 : Vec F S1x2048 .f32) (x5 : Vec F S1x512x2048 .bf16) (d9 : Vec F S1024x512 .f32) (xc xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg10 fullShare xc ∗ owns (c : Thread nD τ) arg11 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 i xc x5) ∗ owns (c : Thread nD τ) arg9 fullShare d9 ∗ owns (c : Thread nD τ) arg10 fullShare xc ∗ owns (c : Thread nD τ) arg11 fullShare (grow i xn (chunk i x0 x1 x2 x3 x4))) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%fc, %hfc, HC⟩, ⟨%fn, %hfn, HN⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg10.eq_unread hfc; obtain rfl := harg11.eq_unread hfn
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    refine whole_store _ _ _ _ _ ?_
    simp only [View.readAt_eq_ld, Memref.IsWhole.read_unread]
    first | rfl | (rw [View.ld_unit_zero z2a, View.ld_unit_zero z3b]; done) | (rw [View.ld_unit_zero z2a, View.ld_unit_zero z3b]; rfl)
  isplitl [H9]
  · iexists _; isplitr; · ipureintro; exact harg9.read_unread _
    iexact H9
  isplitl [HC]
  · iexists _; isplitr; · ipureintro; exact harg10.read_unread _
    iexact HC
  iexists _; isplitr
  swap; · iexact HN
  ipureintro
  refine (View.read_writes_cons_put _ _ _ _ [] rfl).trans ?_
  simp only [View.writes_nil, View.readAt_eq_ld, Memref.IsWhole.read_unread]
  rw [View.ld_unit_zero z2c, View.ld_unit_zero z3a, View.ld_unit_zero z3a]
  rfl

set_option maxHeartbeats 4000000 in
/-- The body at an even row tile, for a column tile of the second result. -/
theorem run_even_late (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x512x2048 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x2048 .bf16) (harg10 : arg10.IsWhole) (arg11 : Memref sig .tc .vmem S1024x2048 .bf16) (harg11 : arg11.IsWhole) (hc0 : ¬cond1 i) (hc1 : k0_cond2 i = 1#1) (hc2 : ¬k0_cond3 i = 1#1) (hc3 : k0_cond4 i = 1#1) (hc4 : ¬k0_cond5 i = 1#1)
    (x0 x1 : Vec F S512x2048 .f32) (x2 x3 : Vec F S1x1x2048 .f32) (x4 : Vec F S1x2048 .f32) (x5 : Vec F S1x512x2048 .bf16) (d8 : Vec F S1024x512 .bf16) (xc xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ owns (c : Thread nD τ) arg10 fullShare xc ∗ owns (c : Thread nD τ) arg11 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (k0_pay5 xc x5) ∗ owns (c : Thread nD τ) arg10 fullShare xc ∗ owns (c : Thread nD τ) arg11 fullShare (grow i xn (chunk i x0 x1 x2 x3 x4))) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%d9, %f9, -, H9⟩, ⟨%fc, %hfc, HC⟩, ⟨%fn, %hfn, HN⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg10.eq_unread hfc; obtain rfl := harg11.eq_unread hfn
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; · ipureintro; exact harg8.read_unread _
    iexact H8
  isplitl [H9]
  · iexists _; isplitr
    swap; · iexact H9
    ipureintro
    refine whole_store _ _ _ _ _ ?_
    simp only [View.readAt_eq_ld, Memref.IsWhole.read_unread]
    first | rfl | (rw [View.ld_unit_zero z2a, View.ld_unit_zero z3b]; done) | (rw [View.ld_unit_zero z2a, View.ld_unit_zero z3b]; rfl)
  isplitl [HC]
  · iexists _; isplitr; · ipureintro; exact harg10.read_unread _
    iexact HC
  iexists _; isplitr
  swap; · iexact HN
  ipureintro
  refine (View.read_writes_cons_put _ _ _ _ [] rfl).trans ?_
  simp only [View.writes_nil, View.readAt_eq_ld, Memref.IsWhole.read_unread]
  rw [View.ld_unit_zero z2c, View.ld_unit_zero z3a, View.ld_unit_zero z3a]
  rfl

end Cert.Kernel3Ideal.Own

end
-- ==== Proof.ProjTile.lean ====
/-
  What the projection's kernel holds after each point, in closed form, and the arithmetic of its grid.
-/
module

public import proofs.«01_k».proof.Proof.ProjRunA
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cN : cfg0.N = 136 := N_0

/-- The grid's points by number. -/
def pt (n : ℕ) : Fin cfg0.N := ⟨n % 136, lt_of_lt_of_eq (Nat.mod_lt _ (by decide)) cN.symm⟩

theorem pt_val (t : Fin cfg0.N) : pt t.val = t :=
  Fin.ext (Nat.mod_eq_of_lt (lt_of_lt_of_eq t.isLt cN))

/-- The rows point `t` normalises for the tile ahead. -/
def chunkAt (c : Dev nD) (t : Fin cfg0.N) : FVec F S64x2048 .bf16 :=
  chunk (grid0.coords t) (iblk m c 0 t) (iblk m c 1 t) (iblk m c 2 t) (iblk m c 3 t) (iblk m c 4 t)

/-- The point at which rows `64 q` to `64 q + 63` of row tile `k` are written for good. -/
def maker (k q : ℕ) : ℕ := if k = 1 then q + 1 else if q = 15 then 17 * (k - 1) + 16 else 17 * (k - 1) + q

/-- Row tile `k` of the normalised input. -/
def tile (c : Dev nD) (k : ℕ) : Vec F S1024x2048 .bf16 :=
  if k = 0 then firstTile (iblk m c 0 (pt 0)) (iblk m c 1 (pt 0)) (iblk m c 2 (pt 0)) (iblk m c 3 (pt 0)) (iblk m c 4 (pt 0))
  else fun y => chunkAt m c (pt (maker k ((y 0).val / 64))) (ix2 (n0 := 64) (n1 := 2048) ⟨(y 0).val % 64, Nat.mod_lt _ (by decide)⟩ (y 1))

/-- How many groups of rows of the tile ahead are in place after point `n`. -/
def ready (n : ℕ) : ℕ := if n % 17 = 16 then 16 else if n / 17 = 0 then n % 17 else min (n % 17 + 1) 15

/-- What is known of the other scratch after point `n`. -/
def good (c : Dev nD) (n : ℕ) (d : Vec F S1024x2048 .bf16) : Prop :=
  n / 17 < 7 → ∀ y : S1024x2048.Idx, (y 0).val < 64 * ready n → d y = tile m c (n / 17 + 1) y

/-- The group of rows point `n` writes. -/
def slot (n : ℕ) : ℕ := min 15 (n % 17 - (if n / 17 = 0 then 1 else 0))

theorem dst_eq : ∀ t : Fin cfg0.N, k0_off2 (grid0.coords t) = ![64 * slot t.val, 0] :=
  (by decide +kernel : ∀ t : Fin grid0.N, k0_off2 (grid0.coords t) = ![64 * slot t.val, 0])

theorem good_grow (c : Dev nD) (t : Fin cfg0.N) (d : Vec F S1024x2048 .bf16) (h : t.val % 17 ≠ 0 → good m c (t.val - 1) d) :
    good m c t.val (grow (grid0.coords t) d (chunkAt m c t)) := by
  intro hi y hy
  have hN : t.val < 136 := lt_of_lt_of_eq t.isLt cN
  have hy0 : (y 0).val < 1024 := (y 0).isLt
  have hy1 : (y 1).val < 2048 := (y 1).isLt
  unfold grow VecWindow.put
  by_cases hin : 64 * slot t.val ≤ (y 0).val ∧ (y 0).val < 64 * slot t.val + 64
  · have hq : (y 0).val / 64 = slot t.val := by omega
    have hmk : maker (t.val / 17 + 1) (slot t.val) = t.val := by
      unfold maker slot; unfold ready slot at *
      split_ifs at * <;> omega
    have hall : ∀ a, k0_off2 (grid0.coords t) a ≤ (y a).val ∧ (y a).val < k0_off2 (grid0.coords t) a + S64x2048.size a := by
      rw [dst_eq]
      exact Fin.forall_fin_two.mpr ⟨hin, Nat.zero_le _, by show (y 1).val < 0 + 2048; omega⟩
    rw [dif_pos hall]
    unfold tile
    rw [if_neg (by omega), hq, hmk, pt_val]
    refine congrArg (chunkAt m c t) (funext fun a => Fin.ext ?_)
    rw [Rect.unitLocal_val, dst_eq]
    revert a
    exact Fin.forall_fin_two.mpr ⟨by show (y 0).val - 64 * slot t.val = (y 0).val % 64; omega, Nat.sub_zero _⟩
  · have hnot : ¬ ∀ a, k0_off2 (grid0.coords t) a ≤ (y a).val ∧ (y a).val < k0_off2 (grid0.coords t) a + S64x2048.size a := by
      rw [dst_eq]
      exact fun hall => hin (hall 0)
    rw [dif_neg hnot]
    have h0 : t.val % 17 ≠ 0 := by
      intro h0
      unfold ready slot at *
      split_ifs at * <;> omega
    have hd : (t.val - 1) / 17 = t.val / 17 := by omega
    have := h h0
    unfold good at this
    rw [hd] at this
    refine this hi y ?_
    unfold ready slot at *
    rw [hd]
    split_ifs at * <;> omega

/-- When a row of points ends, the other scratch holds the next row tile whole. -/
theorem good_last (c : Dev nD) (n : ℕ) (d : Vec F S1024x2048 .bf16) (h16 : n % 17 = 16) (hi : n / 17 < 7) (h : good m c n d) :
    d = tile m c (n / 17 + 1) := by
  funext y
  have hy0 : (y 0).val < 1024 := (y 0).isLt
  exact h hi y (by unfold ready; rw [if_pos h16]; omega)

/-! ## The conditions and the outputs' tables over the grid -/

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ t.val / 17 % 2 = 0 :=
  (by decide +kernel : ∀ t : Fin grid0.N, k0_cond2 (grid0.coords t) = 1#1 ↔ t.val / 17 % 2 = 0)
theorem cond3_iff : ∀ t : Fin cfg0.N, k0_cond3 (grid0.coords t) = 1#1 ↔ t.val % 17 < 8 :=
  (by decide +kernel : ∀ t : Fin grid0.N, k0_cond3 (grid0.coords t) = 1#1 ↔ t.val % 17 < 8)
theorem cond4_iff : ∀ t : Fin cfg0.N, k0_cond4 (grid0.coords t) = 1#1 ↔ ¬t.val % 17 < 8 :=
  (by decide +kernel : ∀ t : Fin grid0.N, k0_cond4 (grid0.coords t) = 1#1 ↔ ¬t.val % 17 < 8)
theorem cond5_iff : ∀ t : Fin cfg0.N, k0_cond5 (grid0.coords t) = 1#1 ↔ ¬t.val / 17 % 2 = 0 :=
  (by decide +kernel : ∀ t : Fin grid0.N, k0_cond5 (grid0.coords t) = 1#1 ↔ ¬t.val / 17 % 2 = 0)
theorem cond6_iff : ∀ t : Fin cfg0.N, k0_cond6 (grid0.coords t) = 1#1 ↔ t.val % 17 < 8 :=
  (by decide +kernel : ∀ t : Fin grid0.N, k0_cond6 (grid0.coords t) = 1#1 ↔ t.val % 17 < 8)
theorem cond7_iff : ∀ t : Fin cfg0.N, k0_cond7 (grid0.coords t) = 1#1 ↔ ¬t.val % 17 < 8 :=
  (by decide +kernel : ∀ t : Fin grid0.N, k0_cond7 (grid0.coords t) = 1#1 ↔ ¬t.val % 17 < 8)

theorem live6 : ∀ t : Fin cfg0.N, t.val % 17 < 8 → cfg0.idle 6 (grid0.coords t) = false := by decide +kernel
theorem idle6 : ∀ t : Fin cfg0.N, ¬t.val % 17 < 8 → cfg0.idle 6 (grid0.coords t) = true := by decide +kernel
theorem keep6 : ∀ t : Fin cfg0.N, ¬t.val % 17 < 8 → t.val % 17 ≠ 16 → (cfg0.win 6).flush t = false := by decide +kernel
theorem flush6 : ∀ t : Fin cfg0.N, t.val % 17 = 16 → (cfg0.win 6).flush t = true := by decide +kernel
theorem live7 : ∀ t : Fin cfg0.N, ¬t.val % 17 < 8 → cfg0.idle 7 (grid0.coords t) = false := by decide +kernel
theorem idle7 : ∀ t : Fin cfg0.N, t.val % 17 < 8 → cfg0.idle 7 (grid0.coords t) = true := by decide +kernel
theorem keep7 : ∀ t : Fin cfg0.N, t.val % 17 < 8 → (cfg0.win 7).flush t = false := by decide +kernel

/-- Before which positions the first output's buffer holds nothing stored since it was last written back. -/
def freshTab (n : ℕ) : Bool := n % 17 < 8
theorem freshTab_step : ∀ t : Fin cfg0.N,
    freshTab (t.val + 1) = ((cfg0.win 6).flush t || (cfg0.idle 6 (cfg0.grid.coords t) && freshTab t.val)) := by decide +kernel
theorem notFresh (t : Fin cfg0.N) (h : ¬t.val % 17 < 8) : cfg0.fresh 6 t.val = false := by
  rw [Pipeline.Cfg.fresh_tab cfg0 6 freshTab rfl freshTab_step t.val (Nat.le_of_lt t.isLt)]
  unfold freshTab
  simp [h]

end Cert.Kernel3Ideal.Own

end
-- ==== Proof.ProjRunB.lean ====
/-
  The body of the projection's kernel at a point of an odd row tile.
-/
module

public import proofs.«01_k».proof.Proof.ProjRunA
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

set_option maxHeartbeats 4000000 in
/-- The body at an odd row tile, for a column tile of the first result. -/
theorem run_odd_early (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x512x2048 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x2048 .bf16) (harg10 : arg10.IsWhole) (arg11 : Memref sig .tc .vmem S1024x2048 .bf16) (harg11 : arg11.IsWhole) (hc0 : ¬cond1 i) (hc1 : ¬k0_cond2 i = 1#1) (hc2 : k0_cond5 i = 1#1) (hc3 : k0_cond6 i = 1#1) (hc4 : ¬k0_cond7 i = 1#1)
    (x0 x1 : Vec F S512x2048 .f32) (x2 x3 : Vec F S1x1x2048 .f32) (x4 : Vec F S1x2048 .f32) (x5 : Vec F S1x512x2048 .bf16) (d9 : Vec F S1024x512 .f32) (xc xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ owns (c : Thread nD τ) arg11 fullShare xc ∗ owns (c : Thread nD τ) arg10 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 i xc x5) ∗ owns (c : Thread nD τ) arg9 fullShare d9 ∗ owns (c : Thread nD τ) arg11 fullShare xc ∗ owns (c : Thread nD τ) arg10 fullShare (grow i xn (chunk i x0 x1 x2 x3 x4))) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%fc, %hfc, HC⟩, ⟨%fn, %hfn, HN⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hfc; obtain rfl := harg10.eq_unread hfn
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    refine whole_store _ _ _ _ _ ?_
    simp only [View.readAt_eq_ld, Memref.IsWhole.read_unread]
    first | rfl | (rw [View.ld_unit_zero z2a, View.ld_unit_zero z3b]; done) | (rw [View.ld_unit_zero z2a, View.ld_unit_zero z3b]; rfl)
  isplitl [H9]
  · iexists _; isplitr; · ipureintro; exact harg9.read_unread _
    iexact H9
  isplitl [HC]
  · iexists _; isplitr; · ipureintro; exact harg11.read_unread _
    iexact HC
  iexists _; isplitr
  swap; · iexact HN
  ipureintro
  refine (View.read_writes_cons_put _ _ _ _ [] rfl).trans ?_
  simp only [View.writes_nil, View.readAt_eq_ld, Memref.IsWhole.read_unread]
  rw [View.ld_unit_zero z2c, View.ld_unit_zero z3a, View.ld_unit_zero z3a]
  rfl

set_option maxHeartbeats 4000000 in
/-- The body at an odd row tile, for a column tile of the second result. -/
theorem run_odd_late (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x512x2048 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x2048 .bf16) (harg10 : arg10.IsWhole) (arg11 : Memref sig .tc .vmem S1024x2048 .bf16) (harg11 : arg11.IsWhole) (hc0 : ¬cond1 i) (hc1 : ¬k0_cond2 i = 1#1) (hc2 : k0_cond5 i = 1#1) (hc3 : ¬k0_cond6 i = 1#1) (hc4 : k0_cond7 i = 1#1)
    (x0 x1 : Vec F S512x2048 .f32) (x2 x3 : Vec F S1x1x2048 .f32) (x4 : Vec F S1x2048 .f32) (x5 : Vec F S1x512x2048 .bf16) (d8 : Vec F S1024x512 .bf16) (xc xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ owns (c : Thread nD τ) arg11 fullShare xc ∗ owns (c : Thread nD τ) arg10 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (k0_pay5 xc x5) ∗ owns (c : Thread nD τ) arg11 fullShare xc ∗ owns (c : Thread nD τ) arg10 fullShare (grow i xn (chunk i x0 x1 x2 x3 x4))) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  simp only [k0_part5_eq_skeleton]; unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%d9, %f9, -, H9⟩, ⟨%fc, %hfc, HC⟩, ⟨%fn, %hfn, HN⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg11.eq_unread hfc; obtain rfl := harg10.eq_unread hfn
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; · ipureintro; exact harg8.read_unread _
    iexact H8
  isplitl [H9]
  · iexists _; isplitr
    swap; · iexact H9
    ipureintro
    refine whole_store _ _ _ _ _ ?_
    simp only [View.readAt_eq_ld, Memref.IsWhole.read_unread]
    first | rfl | (rw [View.ld_unit_zero z2a, View.ld_unit_zero z3b]; done) | (rw [View.ld_unit_zero z2a, View.ld_unit_zero z3b]; rfl)
  isplitl [HC]
  · iexists _; isplitr; · ipureintro; exact harg11.read_unread _
    iexact HC
  iexists _; isplitr
  swap; · iexact HN
  ipureintro
  refine (View.read_writes_cons_put _ _ _ _ [] rfl).trans ?_
  simp only [View.writes_nil, View.readAt_eq_ld, Memref.IsWhole.read_unread]
  rw [View.ld_unit_zero z2c, View.ld_unit_zero z3a, View.ld_unit_zero z3a]
  rfl

end Cert.Kernel3Ideal.Own

end
-- ==== Proof.ProjRunC.lean ====
/-
  The body of the projection's kernel at the grid's first point.
-/
module

public import proofs.«01_k».proof.Proof.ProjRunA
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- A load of a whole buffer reads its contents. -/
theorem whole_load {S : Shape} {e : EltTy} (m : Memref sig .tc .vmem S e) (hm : m.IsWhole) (d : S.Idx → Elt F e) {off : Fin S.rank → ℕ}
    (h : off = fun _ => 0) (inb : ∀ a, off a + S.size a ≤ S.size a) :
    View.readAt (Elt F) m.view (Rect.unit off S.size inb).toLoadRect (hm.unread d) = d := by
  rw [View.readAt_eq_ld, Memref.IsWhole.read_unread, View.ld_unit_zero h]

/-- Two stores of 512 rows, the upper rows first, leave the two payloads one above the other. -/
theorem stacked_store (v : View sig .tc .vmem S1024x2048 .bf16) (f : v.ty.Contents (Elt F)) (i0 : ∀ a : Fin 2, (![0, 0] : Fin 2 → Nat) a + S512x2048.size a ≤ S1024x2048.size a)
    (i1 : ∀ a : Fin 2, (![512, 0] : Fin 2 → Nat) a + S512x2048.size a ≤ S1024x2048.size a) (a b : Vec F S512x2048 .bf16) :
    v.read (Elt F) (v.writes (Elt F) f [⟨Rect.unit (s := S1024x2048) ![512, 0] S512x2048.size i1, b⟩, ⟨Rect.unit (s := S1024x2048) ![0, 0] S512x2048.size i0, a⟩]) = stacked a b := by
  funext y
  have hy : (y 0).val < 1024 := (y 0).isLt
  unfold stacked
  by_cases h : (y 0).val < 512
  · rw [dif_pos h, View.read_writes_cons_rows_of_not_mem (o := 512) (W := 512) v f i1 b _ y rfl rfl (Or.inl h)]
    exact View.read_writes_cons_rows_of_mem (o := 0) v f i0 a [] y (ix2 (n0 := 512) (n1 := 2048) ⟨(y 0).val, h⟩ (y 1)) rfl (Nat.zero_add _).symm rfl
  · rw [dif_neg h]
    exact View.read_writes_cons_rows_of_mem (o := 512) v f i1 b _ y (ix2 (n0 := 512) (n1 := 2048) ⟨(y 0).val - 512, by omega⟩ (y 1)) rfl (show (y 0).val = 512 + ((y 0).val - 512) by omega) rfl

set_option maxHeartbeats 4000000 in
/-- The body at the first point: the first row tile is normalised whole, and the product taken with it. -/
theorem run_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x512x2048 .bf16) (harg7 : arg7.IsWhole) (arg8 : Memref sig .tc .vmem S1024x512 .bf16) (harg8 : arg8.IsWhole) (arg9 : Memref sig .tc .vmem S1024x512 .f32) (harg9 : arg9.IsWhole) (arg10 : Memref sig .tc .vmem S1024x2048 .bf16) (harg10 : arg10.IsWhole) (arg11 : Memref sig .tc .vmem S1024x2048 .bf16) (harg11 : arg11.IsWhole) (hc0 : cond1 i) (hc1 : k0_cond2 i = 1#1) (hc2 : k0_cond3 i = 1#1) (hc3 : ¬k0_cond4 i = 1#1) (hc4 : ¬k0_cond5 i = 1#1)
    (x0 x1 : Vec F S512x2048 .f32) (x2 x3 : Vec F S1x1x2048 .f32) (x4 : Vec F S1x2048 .f32) (x5 : Vec F S1x512x2048 .bf16) (d9 : Vec F S1024x512 .f32) (xn : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d9 ∗ (∃ d, owns (c : Thread nD τ) arg10 fullShare d) ∗ owns (c : Thread nD τ) arg11 fullShare xn
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 i (firstTile x0 x1 x2 x3 x4) x5) ∗ owns (c : Thread nD τ) arg9 fullShare d9 ∗ owns (c : Thread nD τ) arg10 fullShare (firstTile x0 x1 x2 x3 x4) ∗ owns (c : Thread nD τ) arg11 fullShare (grow i xn (chunk i x0 x1 x2 x3 x4))) -∗ K ⟨⟩))
      ⊢ wp frame (wpE (defs₀ (F := F)) Variants.none c none) E (cc0_norm_proj i arg2 harg2 arg3 harg3 arg4 harg4 arg5 harg5 arg6 harg6 arg7 harg7 arg8 harg8 arg9 harg9 arg10 harg10 arg11 harg11) K := by
  simp only [cc0_norm_proj_eq_skeleton]; unfold cc0_norm_proj_skel
  simp only [k0_part2_eq_skeleton, k0_part1_eq_skeleton]; unfold k0_part2_skel k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%dc, %fc, -, HC⟩, ⟨%fn, %hfn, HN⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf9; obtain rfl := harg11.eq_unread hfn
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    refine whole_store _ _ _ _ _ ?_
    refine congrArg₂ (k0_pay3 i) ?_ (whole_load arg7 harg7 x5 z3b _)
    unfold run_first.sl.v95 run_first.sl.HC_2 View.readCov
    rw [View.readAt_full]
    refine (stacked_store _ _ _ _ _ _).trans ?_
    exact congrArg₂ stacked
      (congr (congr (congr (congrArg k0_pay10 (whole_load arg2 harg2 x0 z2d _)) (whole_load arg6 harg6 x4 z2c _)) (whole_load arg5 harg5 x3 z3a _)) (whole_load arg4 harg4 x2 z3a _))
      (congr (congr (congr (congr (congrArg₂ k0_pay1 (congrArg k0_pay11 (whole_load arg3 harg3 x1 z2d _)) (congrArg k0_pay12 (whole_load arg3 harg3 x1 z2d _))) rfl)
        (whole_load arg6 harg6 x4 z2c _)) (whole_load arg5 harg5 x3 z3a _)) (whole_load arg4 harg4 x2 z3a _))
  isplitl [H9]
  · iexists _; isplitr; · ipureintro; exact harg9.read_unread _
    iexact H9
  isplitl [HC]
  · iexists _; isplitr
    swap; · iexact HC
    ipureintro
    unfold run_first.sl.HC_2
    refine (stacked_store _ _ _ _ _ _).trans ?_
    exact congrArg₂ stacked
      (congr (congr (congr (congrArg k0_pay10 (whole_load arg2 harg2 x0 z2d _)) (whole_load arg6 harg6 x4 z2c _)) (whole_load arg5 harg5 x3 z3a _)) (whole_load arg4 harg4 x2 z3a _))
      (congr (congr (congr (congr (congrArg₂ k0_pay1 (congrArg k0_pay11 (whole_load arg3 harg3 x1 z2d _)) (congrArg k0_pay12 (whole_load arg3 harg3 x1 z2d _))) rfl)
        (whole_load arg6 harg6 x4 z2c _)) (whole_load arg5 harg5 x3 z3a _)) (whole_load arg4 harg4 x2 z3a _))
  iexists _; isplitr
  swap; · iexact HN
  ipureintro
  refine (View.read_writes_cons_put _ _ _ _ [] rfl).trans ?_
  simp only [View.writes_nil, View.readAt_eq_ld, Memref.IsWhole.read_unread]
  rw [View.ld_unit_zero z2c, View.ld_unit_zero z3a, View.ld_unit_zero z3a]
  rfl

end Cert.Kernel3Ideal.Own

end
-- ==== Proof.ProjBody.lean ====
/-
  The projection's kernel over the whole grid: the invariant of its two scratches and the body's triple at every point.
-/
module

public import proofs.«01_k».proof.Proof.ProjTile
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import proofs.«01_k».proof.Proof.ProjRunB
public import proofs.«01_k».proof.Proof.ProjRunC
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x2048 .f32 := win0_0.stage (cfg0.slots t 0)
abbrev ms0_1 (t : Fin cfg0.N) : Memref sig .tc .vmem S512x2048 .f32 := win0_1.stage (cfg0.slots t 1)
abbrev ms0_2 (t : Fin cfg0.N) : Memref sig .tc .vmem S1x1x2048 .f32 := win0_2.stage (cfg0.slots t 2)
abbrev ms0_3 (t : Fin cfg0.N) : Memref sig .tc .vmem S1x1x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1x512x2048 .bf16 := win0_5.stage (cfg0.slots t 5)
abbrev ms0_6 (t : Fin cfg0.N) : Memref sig .tc .vmem S1024x512 .bf16 := win0_6.stage (cfg0.slots t 6)
abbrev ms0_7 (t : Fin cfg0.N) : Memref sig .tc .vmem S1024x512 .f32 := win0_7.stage (cfg0.slots t 7)
abbrev scA : Memref sig .tc .vmem S1024x2048 .bf16 := Memref.whole cc0_scratch0
abbrev scB : Memref sig .tc .vmem S1024x2048 .bf16 := Memref.whole cc0_scratch1

theorem PhiA0_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-! ## What the outputs hold -/

/-- The point whose product the first output's buffer holds after point `n`. -/
def early (n : ℕ) : ℕ := 17 * (n / 17) + min (n % 17) 7

/-- The first output's block after point `n`. -/
def outB (c : Dev nD) (n : ℕ) : Vec F S1024x512 .bf16 :=
  k0_pay3 (grid0.coords (pt (early n))) (tile m c (n / 17)) (iblk m c 5 (pt (early n)))

/-- The second output's block after point `t`. -/
def outF (c : Dev nD) (t : Fin cfg0.N) : Vec F S1024x512 .f32 := k0_pay5 (tile m c (t.val / 17)) (iblk m c 5 t)

theorem outB_early (c : Dev nD) (t : Fin cfg0.N) (h : t.val % 17 < 8) :
    outB m c t.val = k0_pay3 (grid0.coords t) (tile m c (t.val / 17)) (iblk m c 5 t) := by
  unfold outB
  rw [show early t.val = t.val by unfold early; omega, pt_val]

theorem outB_late (c : Dev nD) (n : ℕ) (h : ¬n % 17 < 8) : outB m c n = outB m c (n - 1) := by
  unfold outB
  rw [show early (n - 1) = early n by unfold early; omega, show (n - 1) / 17 = n / 17 by omega]

/-! ## The region invariant -/

/-- The two scratches after point `n`: the one in use holds its row tile, the other is filled for the next. -/
def Held (c : Dev nD) (n : ℕ) : sProp 𝕄 :=
  if n / 17 % 2 = 0 then
    iprop(owns (c : Thread nD τ) scA fullShare (tile m c (n / 17)) ∗ (∃ d, iprop(⌜good m c n d⌝ ∗ owns (c : Thread nD τ) scB fullShare d)))
  else
    iprop(owns (c : Thread nD τ) scB fullShare (tile m c (n / 17)) ∗ (∃ d, iprop(⌜good m c n d⌝ ∗ owns (c : Thread nD τ) scA fullShare d)))

/-- The two scratches before a later point. -/
theorem held_even (c : Dev nD) (n : ℕ) (hn : n < 136) (h0 : n ≠ 0) (h : n / 17 % 2 = 0) :
    Held m c (n - 1) ⊢ iprop(owns (c : Thread nD τ) scA fullShare (tile m c (n / 17))
      ∗ (∃ d, iprop(⌜n % 17 ≠ 0 → good m c (n - 1) d⌝ ∗ owns (c : Thread nD τ) scB fullShare d))) := by
  unfold Held
  by_cases hj : n % 17 = 0
  · rw [if_neg (by omega)]
    iintro ⟨HB, ⟨%d, %hd, HA⟩⟩
    have e := good_last m c (n - 1) d (by omega) (by omega) hd
    rw [show (n - 1) / 17 + 1 = n / 17 by omega] at e
    subst e
    isplitl [HA]; · iexact HA
    iexists (tile m c ((n - 1) / 17)); isplitr; · ipureintro; exact fun hne => absurd hj hne
    iexact HB
  · rw [show (n - 1) / 17 = n / 17 by omega, if_pos h]
    iintro ⟨HA, ⟨%d, %hd, HB⟩⟩
    isplitl [HA]; · iexact HA
    iexists _; isplitr; · ipureintro; exact fun _ => hd
    iexact HB

theorem held_odd (c : Dev nD) (n : ℕ) (hn : n < 136) (h : ¬n / 17 % 2 = 0) :
    Held m c (n - 1) ⊢ iprop(owns (c : Thread nD τ) scB fullShare (tile m c (n / 17))
      ∗ (∃ d, iprop(⌜n % 17 ≠ 0 → good m c (n - 1) d⌝ ∗ owns (c : Thread nD τ) scA fullShare d))) := by
  unfold Held
  by_cases hj : n % 17 = 0
  · rw [if_pos (by omega)]
    iintro ⟨HB, ⟨%d, %hd, HA⟩⟩
    have e := good_last m c (n - 1) d (by omega) (by omega) hd
    rw [show (n - 1) / 17 + 1 = n / 17 by omega] at e
    subst e
    isplitl [HA]; · iexact HA
    iexists (tile m c ((n - 1) / 17)); isplitr; · ipureintro; exact fun hne => absurd hj hne
    iexact HB
  · rw [show (n - 1) / 17 = n / 17 by omega, if_neg h]
    iintro ⟨HA, ⟨%d, %hd, HB⟩⟩
    isplitl [HA]; · iexact HA
    iexists _; isplitr; · ipureintro; exact fun _ => hd
    iexact HB

/-- The region invariant before position `n`. -/
def PhiS (c : Dev nD) : (n : ℕ) → n ≤ cfg0.N → sProp 𝕄
  | 0, _ => Pipeline.ΦA spec0 c
  | n + 1, hn => iprop(Held m c n ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(Held m c n ∗ (∃ r, prngReg c r)) := rfl

theorem PhiS_pos (c : Dev nD) (n : ℕ) (h : n ≤ cfg0.N) (hz : n ≠ 0) :
    PhiS m c n h = iprop(Held m c (n - 1) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t.val
    | ⟨7, _⟩ => outF m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outB m c t.val := by dsimp only [dats]
theorem after0_7 (c : Dev nD) (t : Fin cfg0.N) : (dats m 0 c).after 7 t = outF m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h : t.val % 17 < 8
  · rw [live6 t h] at hi
    exact absurd hi Bool.false_ne_true
  · exact outB_late m c t.val h

theorem before6_late (c : Dev nD) (t : Fin cfg0.N) (h : ¬t.val % 17 < 8) (d) : (dats m 0 c).before 6 t d = outB m c t.val := by
  rw [Dat.before_out_traj _ 6 rfl (fun _ _ => rfl) (carry6 m c) t.val t rfl d,
    if_neg (by rw [notFresh t h]; exact Bool.false_ne_true), after0_6, outB_late m c t.val h]

/-- At the later column tiles the first output's buffer is left as found. -/
theorem leaves6_late (c : Dev nD) (t : Fin cfg0.N) (h : ¬t.val % 17 < 8) :
    owns (c : Thread nD τ) (ms0_6 t) fullShare (outB m c t.val) ⊢ (dats m 0 c).leavesExact 6 t := by
  by_cases h16 : t.val % 17 = 16
  · rw [show (dats m 0 c).leavesExact 6 t = owns (c : Thread nD τ) (ms0_6 t) fullShare ((dats m 0 c).after 6 t) from by
      unfold Dat.leavesExact; rw [idle6 t h, flush6 t h16], after0_6]
    try exact Idealize.SL.BI.Entails.refl _
  · rw [Dat.leavesExact_idle (dats m 0 c) 6 t (idle6 t h) (keep6 t h h16)]
    simp only [before6_late m c t h]
    iintro H
    iexists (outB m c t.val)
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem tile_first (c : Dev nD) (t : Fin cfg0.N) (hz : t.val = 0) :
    tile m c (t.val / 17) = firstTile (iblk m c 0 t) (iblk m c 1 t) (iblk m c 2 t) (iblk m c 3 t) (iblk m c 4 t) := by
  have e : pt 0 = t := by rw [← hz, pt_val]
  unfold tile
  rw [if_pos (by omega), e]

set_option maxHeartbeats 4000000 in
theorem sound_first (c : Dev nD) (t : Fin cfg0.N) (hz : t.val = 0) :
    bodyPre m c t ⊢ wp frame (wpE (defs₀ (F := F)) Variants.none c none) Set.univ (bodyAt0 t) (fun _ => bodyPost m c t) := by
  have hN : t.val < 136 := lt_of_lt_of_eq t.isLt cN
  have he : t.val / 17 % 2 = 0 := by omega
  have hj : t.val % 17 < 8 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from by
    unfold Dat.leavesExact; rw [live6 t hj], after0_6, outB_early m c t hj, tile_first m c t hz]
  rw [Dat.leavesExact_idle (dats m 0 c) 7 t (idle7 t hj) (keep7 t hj)]
  rw [PhiS_castSucc m c t, PhiS_zero m c _ _ hz, PhiA0_eq]
  iintro ⟨⟨⟨HC, ⟨%dn, HN⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ _ _ _ _ ((cond1_iff t).mpr hz) ((cond2_iff t).mpr he) ((cond3_iff t).mpr hj) (fun h => (cond4_iff t).mp h hj) (fun h => (cond5_iff t).mp h he) (iblk m c 0 t) (iblk m c 1 t) (iblk m c 2 t) (iblk m c 3 t) (iblk m c 4 t) (iblk m c 5 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HC]; · iexact HC
  isplitl [HN]; · iexact HN
  iintro ⟨H0, H1, H2, H3, H4, H5, H6, H7, HC, HN⟩
  isplitl [HC HN Hg]
  · isplitl [HC HN]
    · unfold Held
      rw [if_pos he]
      isplitl [HC]
      · rw [show tile m c (t.val / 17) = firstTile (iblk m c 0 t) (iblk m c 1 t) (iblk m c 2 t) (iblk m c 3 t) (iblk m c 4 t) from tile_first m c t hz]
        iexact HC
      iexists _; isplitr
      swap; · iexact HN
      ipureintro
      exact good_grow m c t dn (fun h => absurd (show t.val % 17 = 0 by omega) h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
theorem sound_even_early (c : Dev nD) (t : Fin cfg0.N) (hz : t.val ≠ 0) (he : t.val / 17 % 2 = 0) (hj : t.val % 17 < 8) :
    bodyPre m c t ⊢ wp frame (wpE (defs₀ (F := F)) Variants.none c none) Set.univ (bodyAt0 t) (fun _ => bodyPost m c t) := by
  have hN : t.val < 136 := lt_of_lt_of_eq t.isLt cN
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from by
    unfold Dat.leavesExact; rw [live6 t hj], after0_6, outB_early m c t hj]
  rw [Dat.leavesExact_idle (dats m 0 c) 7 t (idle7 t hj) (keep7 t hj)]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨HC, ⟨%dn, %hdn, HN⟩⟩ := (held_even m c t.val hN hz he) $$ HS
  iapply (run_even_early c (grid0.coords t) _ _ _ _ _ _ _ _ _ _ _ _ _ _ _ _ _ _ _ _ (fun h => hz ((cond1_iff t).mp h)) ((cond2_iff t).mpr he) ((cond3_iff t).mpr hj) (fun h => (cond4_iff t).mp h hj) (fun h => (cond5_iff t).mp h he) (iblk m c 0 t) (iblk m c 1 t) (iblk m c 2 t) (iblk m c 3 t) (iblk m c 4 t) (iblk m c 5 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HC]; · iexact HC
  isplitl [HN]; · iexact HN
  iintro ⟨H0, H1, H2, H3, H4, H5, H6, H7, HC, HN⟩
  isplitl [HC HN Hg]
  · isplitl [HC HN]
    · unfold Held
      rw [if_pos he]
      isplitl [HC]; · iexact HC
      iexists _; isplitr
      swap; · iexact HN
      ipureintro
      exact good_grow m c t dn hdn
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
theorem sound_even_late (c : Dev nD) (t : Fin cfg0.N) (hz : t.val ≠ 0) (he : t.val / 17 % 2 = 0) (hj : ¬t.val % 17 < 8) :
    bodyPre m c t ⊢ wp frame (wpE (defs₀ (F := F)) Variants.none c none) Set.univ (bodyAt0 t) (fun _ => bodyPost m c t) := by
  have hN : t.val < 136 := lt_of_lt_of_eq t.isLt cN
  unfold bodyPre bodyPost bodyAt0
  simp only [before0_0, before0_1, before0_2, before0_3, before0_4, before0_5, before6_late m c t hj]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 7 t = owns (c : Thread nD τ) (ms0_7 t) fullShare ((dats m 0 c).after 7 t) from by
    unfold Dat.leavesExact; rw [live7 t hj], after0_7]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨HC, ⟨%dn, %hdn, HN⟩⟩ := (held_even m c t.val hN hz he) $$ HS
  iapply (run_even_late c (grid0.coords t) _ _ _ _ _ _ _ _ _ _ _ _ _ _ _ _ _ _ _ _ (fun h => hz ((cond1_iff t).mp h)) ((cond2_iff t).mpr he) (fun h => hj ((cond3_iff t).mp h)) ((cond4_iff t).mpr hj) (fun h => (cond5_iff t).mp h he) (iblk m c 0 t) (iblk m c 1 t) (iblk m c 2 t) (iblk m c 3 t) (iblk m c 4 t) (iblk m c 5 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HC]; · iexact HC
  isplitl [HN]; · iexact HN
  iintro ⟨H0, H1, H2, H3, H4, H5, H6, H7, HC, HN⟩
  isplitl [HC HN Hg]
  · isplitl [HC HN]
    · unfold Held
      rw [if_pos he]
      isplitl [HC]; · iexact HC
      iexists _; isplitr
      swap; · iexact HN
      ipureintro
      exact good_grow m c t dn hdn
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6_late m c t hj); iexact H6
  iexact H7

set_option maxHeartbeats 4000000 in
theorem sound_odd_early (c : Dev nD) (t : Fin cfg0.N) (he : ¬t.val / 17 % 2 = 0) (hj : t.val % 17 < 8) :
    bodyPre m c t ⊢ wp frame (wpE (defs₀ (F := F)) Variants.none c none) Set.univ (bodyAt0 t) (fun _ => bodyPost m c t) := by
  have hN : t.val < 136 := lt_of_lt_of_eq t.isLt cN
  have hz : t.val ≠ 0 := fun h => he (by omega)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from by
    unfold Dat.leavesExact; rw [live6 t hj], after0_6, outB_early m c t hj]
  rw [Dat.leavesExact_idle (dats m 0 c) 7 t (idle7 t hj) (keep7 t hj)]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨HC, ⟨%dn, %hdn, HN⟩⟩ := (held_odd m c t.val hN he) $$ HS
  iapply (run_odd_early c (grid0.coords t) _ _ _ _ _ _ _ _ _ _ _ _ _ _ _ _ _ _ _ _ (fun h => hz ((cond1_iff t).mp h)) (fun h => he ((cond2_iff t).mp h)) ((cond5_iff t).mpr he) ((cond6_iff t).mpr hj) (fun h => (cond7_iff t).mp h hj) (iblk m c 0 t) (iblk m c 1 t) (iblk m c 2 t) (iblk m c 3 t) (iblk m c 4 t) (iblk m c 5 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HC]; · iexact HC
  isplitl [HN]; · iexact HN
  iintro ⟨H0, H1, H2, H3, H4, H5, H6, H7, HC, HN⟩
  isplitl [HC HN Hg]
  · isplitl [HC HN]
    · unfold Held
      rw [if_neg he]
      isplitl [HC]; · iexact HC
      iexists _; isplitr
      swap; · iexact HN
      ipureintro
      exact good_grow m c t dn hdn
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 4000000 in
theorem sound_odd_late (c : Dev nD) (t : Fin cfg0.N) (he : ¬t.val / 17 % 2 = 0) (hj : ¬t.val % 17 < 8) :
    bodyPre m c t ⊢ wp frame (wpE (defs₀ (F := F)) Variants.none c none) Set.univ (bodyAt0 t) (fun _ => bodyPost m c t) := by
  have hN : t.val < 136 := lt_of_lt_of_eq t.isLt cN
  have hz : t.val ≠ 0 := fun h => he (by omega)
  unfold bodyPre bodyPost bodyAt0
  simp only [before0_0, before0_1, before0_2, before0_3, before0_4, before0_5, before6_late m c t hj]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 7 t = owns (c : Thread nD τ) (ms0_7 t) fullShare ((dats m 0 c).after 7 t) from by
    unfold Dat.leavesExact; rw [live7 t hj], after0_7]
  rw [PhiS_castSucc m c t, PhiS_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨HC, ⟨%dn, %hdn, HN⟩⟩ := (held_odd m c t.val hN he) $$ HS
  iapply (run_odd_late c (grid0.coords t) _ _ _ _ _ _ _ _ _ _ _ _ _ _ _ _ _ _ _ _ (fun h => hz ((cond1_iff t).mp h)) (fun h => he ((cond2_iff t).mp h)) ((cond5_iff t).mpr he) (fun h => hj ((cond6_iff t).mp h)) ((cond7_iff t).mpr hj) (iblk m c 0 t) (iblk m c 1 t) (iblk m c 2 t) (iblk m c 3 t) (iblk m c 4 t) (iblk m c 5 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HC]; · iexact HC
  isplitl [HN]; · iexact HN
  iintro ⟨H0, H1, H2, H3, H4, H5, H6, H7, HC, HN⟩
  isplitl [HC HN Hg]
  · isplitl [HC HN]
    · unfold Held
      rw [if_neg he]
      isplitl [HC]; · iexact HC
      iexists _; isplitr
      swap; · iexact HN
      ipureintro
      exact good_grow m c t dn hdn
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6_late m c t hj); iexact H6
  iexact H7

end Cert.Kernel3Ideal.Own

end
-- ==== Proof.ProjLaunch.lean ====
/-
  The projection's launch: its run terminates with the arguments unchanged and the results as the proof data say.
-/
module

public import proofs.«01_k».proof.Proof.ProjBody
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import Idealize.ShloMosaic.Lib.Claim
public import Idealize.ShloMosaic.Lib.VecWindow
public import Idealize.ShloMosaic.Lib.Pointwise

@[expose] public section

set_option maxRecDepth 16384

noncomputable section

namespace Cert.Kernel3Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  by_cases he : t.val / 17 % 2 = 0
  · by_cases hj : t.val % 17 < 8
    · exact sound_even_early m c t hz he hj
    · exact sound_even_late m c t hz he hj
  · by_cases hj : t.val % 17 < 8
    · exact sound_odd_early m c t he hj
    · exact sound_odd_late m c t he hj

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold Held
  split
  · iintro ⟨⟨HA, ⟨%d, -, HB⟩⟩, Hg⟩
    isplitl [HA HB]
    · isplitl [HA]
      · iexists _; iexact HA
      iexists _; iexact HB
    iexact Hg
  · iintro ⟨⟨HB, ⟨%d, -, HA⟩⟩, Hg⟩
    isplitl [HA HB]
    · isplitl [HA]
      · iexists _; iexact HA
      iexists _; iexact HB
    iexact Hg

/-- The same after the last point. -/
theorem hout (c : Dev nD) : (dats m 0 c).Φ (Fin.last cfg0.N) ⊢ Pipeline.ΦA spec0 c :=
  Phi_out m c _ (by rw [Fin.val_last]; have : cfg0.N = 136 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- On the launch's devices, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame over any floats: the run terminates, every argument array and every semaphore counter as it should be. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel3Ideal.Own

end
-- ==== Proof.ProjFrames.lean ====
/-
  The projection's frames.
-/
module

public import proofs.«01_k».proof.Defs
public import proofs.«01_k».proof.Proof.ProjLaunch
public import proofs.«01_k».proof.Proof.Gen.Kernel3
public import proofs.«01_k».proof.Proof.Gen.Reference3Ideal.Run
public import Idealize.ShloMosaic.Lib.Ring

@[expose] public section

set_option maxRecDepth 16384

noncomputable section

namespace Cert.Proof

open Idealize.ShloMosaic Idealize.ShloMosaic.TcCoe Idealize.SL.Sem

theorem defs_eq3 {F : FTy → Type} [FloatOps F] : Kernel3.defs (F := F) = Kernel3Ideal.defs := by sl_kernel_rfl

theorem main_eq3 {F : FTy → Type} [FloatOps F] : Kernel3.main (F := F) = Kernel3Ideal.main := rfl

/-- The projection terminates, its arguments unchanged. -/
theorem frame_kernel3 : Cert.quiescent_Kernel3 := by
  intro m ρ _
  rw [defs_eq3, main_eq3]
  exact Kernel3Ideal.Own.frame m ρ

/-- So does its idealization. -/
theorem frame_ideal3 : Cert.quiescent_Kernel3Ideal := fun m ρ _ => Kernel3Ideal.Own.frame m ρ

/-- So does its reference. -/
theorem frame_reference3 : Cert.quiescent_Reference3Ideal := fun m ρ _ =>
  (θ_run Cert.Reference3Ideal.defs _ _).mono (fun r h => ⟨fun c => (h c).2.2, sem_eq_zero_of_no_sems (by decide) r.2⟩)
    (Reference3Ideal.Value.run (F := Ideal) m ρ)

end Cert.Proof

end
-- ==== Proof.ProjSpec.lean ====
/-
  The projection's columns: where each packed column comes from, and an entry of a normed row.
-/
module

public import Idealize.ShloMosaic.Lib.Pointwise

@[expose] public section

set_option maxRecDepth 16384

noncomputable section

namespace Cert.Proof.Proj

open Idealize.ShloMosaic Idealize.ShloMosaic.TcCoe Idealize.SL.Sem

/-- An entry of a row over the root of its mean square, scaled by its gain, then by one plus a scale, and shifted. -/
def rowAt (x : Fin 2048 → EReal) (gain scale shift : EReal) (d : Fin 2048) : EReal :=
  x d * Ideal.rsqrt (Ideal.div (∑ k, x k * x k) (Ideal.ofBits FTy.f32 0x45000000#32) + Ideal.ofBits FTy.f32 0x358637BD#32) * gain
    * (Ideal.ofBits FTy.f32 0x3F800000#32 + scale) + shift

/-- The column of the projection that packed column `n` holds; 8288 where it is padding. -/
def src (n : ℕ) : ℕ :=
  if n < 3072 then n else if n < 4096 then n + 1024 else if n < 5120 then n - 1024 else if n < 7168 then n + 1104
  else if n < 8192 then n - 1968 else if n < 8256 then n - 3072 else if n < 8320 then 8288 else if n < 8336 then n - 3136
  else if n < 8448 then 8288 else if n < 8464 then n - 176 else 8288

theorem src_0 (n : ℕ) (h1 : 0 ≤ n) (h2 : n < 3072) : src n = n := by
  unfold src
  rw [if_pos (by omega)]

theorem src_1 (n : ℕ) (h1 : 3072 ≤ n) (h2 : n < 4096) : src n = n + 1024 := by
  unfold src
  rw [if_neg (by omega), if_pos (by omega)]

theorem src_2 (n : ℕ) (h1 : 4096 ≤ n) (h2 : n < 5120) : src n = n - 1024 := by
  unfold src
  rw [if_neg (by omega), if_neg (by omega), if_pos (by omega)]

theorem src_3 (n : ℕ) (h1 : 5120 ≤ n) (h2 : n < 7168) : src n = n + 1104 := by
  unfold src
  rw [if_neg (by omega), if_neg (by omega), if_neg (by omega), if_pos (by omega)]

theorem src_4 (n : ℕ) (h1 : 7168 ≤ n) (h2 : n < 8192) : src n = n - 1968 := by
  unfold src
  rw [if_neg (by omega), if_neg (by omega), if_neg (by omega), if_neg (by omega), if_pos (by omega)]

theorem src_5 (n : ℕ) (h1 : 8192 ≤ n) (h2 : n < 8256) : src n = n - 3072 := by
  unfold src
  rw [if_neg (by omega), if_neg (by omega), if_neg (by omega), if_neg (by omega), if_neg (by omega), if_pos (by omega)]

theorem src_6 (n : ℕ) (h1 : 8256 ≤ n) (h2 : n < 8320) : src n = 8288 := by
  unfold src
  rw [if_neg (by omega), if_neg (by omega), if_neg (by omega), if_neg (by omega), if_neg (by omega), if_neg (by omega), if_pos (by omega)]

theorem src_7 (n : ℕ) (h1 : 8320 ≤ n) (h2 : n < 8336) : src n = n - 3136 := by
  unfold src
  rw [if_neg (by omega), if_neg (by omega), if_neg (by omega), if_neg (by omega), if_neg (by omega), if_neg (by omega), if_neg (by omega), if_pos (by omega)]

theorem src_8 (n : ℕ) (h1 : 8336 ≤ n) (h2 : n < 8448) : src n = 8288 := by
  unfold src
  rw [if_neg (by omega), if_neg (by omega), if_neg (by omega), if_neg (by omega), if_neg (by omega), if_neg (by omega), if_neg (by omega), if_neg (by omega), if_pos (by omega)]

theorem src_9 (n : ℕ) (h1 : 8448 ≤ n) (h2 : n < 8464) : src n = n - 176 := by
  unfold src
  rw [if_neg (by omega), if_neg (by omega), if_neg (by omega), if_neg (by omega), if_neg (by omega), if_neg (by omega), if_neg (by omega), if_neg (by omega), if_neg (by omega), if_pos (by omega)]

theorem src_10 (n : ℕ) (h1 : 8464 ≤ n) : src n = 8288 := by
  unfold src
  rw [if_neg (by omega), if_neg (by omega), if_neg (by omega), if_neg (by omega), if_neg (by omega), if_neg (by omega), if_neg (by omega), if_neg (by omega), if_neg (by omega), if_neg (by omega)]

/-- A column by number, zero past the last. -/
def pick (f : Fin 8288 → EReal) (n : ℕ) : EReal := if h : n < 8288 then f ⟨n, h⟩ else 0

theorem pick_of (f : Fin 8288 → EReal) (n : ℕ) (h : n < 8288) : pick f n = f ⟨n, h⟩ := dif_pos h

theorem pick_pad (f : Fin 8288 → EReal) (n : ℕ) (h : ¬n < 8288) : pick f n = 0 := dif_neg h

/-- A column of the product with picked weights is the picked column of the product. -/
theorem sum_pick (a : Fin 2048 → EReal) (w : Fin 2048 → Fin 8288 → EReal) (n : ℕ) :
    ∑ k, a k * pick (w k) n = pick (fun s => ∑ k, a k * w k s) n := by
  by_cases h : n < 8288
  · simp only [pick_of _ _ h]
  · simp only [pick_pad _ _ h, mul_zero, Finset.sum_const_zero]

theorem one_lit : Ideal.ofBits FTy.f32 0x3F800000#32 = 1 := Ideal.ofBits_one_f32

end Cert.Proof.Proj

end
-- ==== Proof.ProjEntry.lean ====
/-
  The projection's payloads at an index.
-/
module

public import proofs.«01_k».proof.Proof.ProjRunA
public import proofs.«01_k».proof.Proof.ProjSpec
public import Idealize.ShloMosaic.Lib.Pointwise

@[expose] public section

set_option maxRecDepth 16384

noncomputable section

namespace Cert.Proof.Proj

open Idealize.ShloMosaic Idealize.ShloMosaic.TcCoe Idealize.SL.Sem
open Cert.Kernel3Ideal Cert.Kernel3Ideal.Gen Cert.Kernel3Ideal.Own

theorem head_at (x : Vec Ideal S512x2048 .f32) (g : Vec Ideal S1x2048 .f32) (sc sh : Vec Ideal S1x1x2048 .f32) (r : Fin 512) (d : Fin 2048) :
    k0_pay10 x g sc sh (ix2 r d) = rowAt (fun d => x (ix2 r d)) (g (ix2 0 d)) (sc (ix3 0 0 d)) (sh (ix3 0 0 d)) d := by
  unfold k0_pay10 rowAt
  pointwise

theorem late_at (x : Vec Ideal S512x2048 .f32) (g : Vec Ideal S1x2048 .f32) (sc sh : Vec Ideal S1x1x2048 .f32) (r : Fin 512) (d : Fin 2048) :
    k0_pay1 (k0_pay11 x) (k0_pay12 x) k0_pay13 g sc sh (ix2 r d)
      = rowAt (fun d => x (ix2 r d)) (g (ix2 0 d)) (sc (ix3 0 0 d)) (sh (ix3 0 0 d)) d := by
  unfold k0_pay1 k0_pay12 k0_pay11 k0_pay13 rowAt
  pointwise

/-- Whether the rows ahead come from the first of the two blocks. -/
def fromFirst (a b : BitVec 32) : BitVec 1 :=
  Scalar.cmpi .slt (Scalar.minsi 15#32 (Scalar.maxsi 0#32 (Scalar.subi b (Scalar.extui (Scalar.cmpi .eq a 0#32))))) 8#32

theorem select_one {α : Type} (p q : α) : Scalar.select 1#1 p q = p := rfl
theorem select_zero {α : Type} (p q : α) : Scalar.select 0#1 p q = q := rfl

theorem chunk_first (a b : BitVec 32) (h : fromFirst a b = 1#1) (x y : Vec Ideal S64x2048 .f32) (g : Vec Ideal S1x2048 .f32)
    (sc sh : Vec Ideal S1x1x2048 .f32) (r : Fin 64) (d : Fin 2048) :
    k0_pay2 (k0_pay14 a b x y g) sc sh (ix2 r d) = rowAt (fun d => x (ix2 r d)) (g (ix2 0 d)) (sc (ix3 0 0 d)) (sh (ix3 0 0 d)) d := by
  unfold fromFirst at h
  unfold k0_pay2 k0_pay14 rowAt
  simp only [h, select_one]
  pointwise

theorem chunk_second (a b : BitVec 32) (h : fromFirst a b = 0#1) (x y : Vec Ideal S64x2048 .f32) (g : Vec Ideal S1x2048 .f32)
    (sc sh : Vec Ideal S1x1x2048 .f32) (r : Fin 64) (d : Fin 2048) :
    k0_pay2 (k0_pay14 a b x y g) sc sh (ix2 r d) = rowAt (fun d => y (ix2 r d)) (g (ix2 0 d)) (sc (ix3 0 0 d)) (sh (ix3 0 0 d)) d := by
  unfold fromFirst at h
  unfold k0_pay2 k0_pay14 rowAt
  simp only [h, select_zero]
  pointwise

theorem product_at (a : Vec Ideal S1024x2048 .bf16) (w : Vec Ideal S1x512x2048 .bf16) (r : Fin 1024) (d : Fin 512) :
    k0_pay5 a w (ix2 r d) = ∑ k, a (ix2 r k) * w (ix3 0 d k) := by
  unfold k0_pay5
  pointwise

/-- Whether a column tile is scaled. -/
def scaled (i : grid0.Coords) : BitVec 1 := Scalar.cmpi .slt (BitVec.ofNat 32 (i 1).val) 2#32

theorem scaled_at (i : grid0.Coords) (h : scaled i = 1#1) (a : Vec Ideal S1024x2048 .bf16) (w : Vec Ideal S1x512x2048 .bf16) (r : Fin 1024) (d : Fin 512) :
    k0_pay3 i a w (ix2 r d) = (∑ k, a (ix2 r k) * w (ix3 0 d k)) * Ideal.ofBits FTy.f32 0x3E0293EE#32 := by
  unfold scaled at h
  unfold k0_pay3
  simp only [h, select_one]
  pointwise

theorem plain_at (i : grid0.Coords) (h : scaled i = 0#1) (a : Vec Ideal S1024x2048 .bf16) (w : Vec Ideal S1x512x2048 .bf16) (r : Fin 1024) (d : Fin 512) :
    k0_pay3 i a w (ix2 r d) = ∑ k, a (ix2 r k) * w (ix3 0 d k) := by
  unfold scaled at h
  have e : k0_pay3 i a w (ix2 r d) = (∑ k, a (ix2 r k) * w (ix3 0 d k)) * Ideal.ofBits FTy.f32 0x3F800000#32 := by
    unfold k0_pay3
    simp only [h, select_zero]
    pointwise
  rw [e, one_lit, mul_one]

end Cert.Proof.Proj

end
-- ==== Proof.ProjGrid.lean ====
/-
  The projection's blocks against the arguments, and its row tiles entry by entry.
-/
module

public import proofs.«01_k».proof.Proof.ProjTile
public import proofs.«01_k».proof.Proof.ProjEntry
public import Idealize.ShloMosaic.Lib.Pipeline.ValueKit

@[expose] public section

set_option maxRecDepth 16384

noncomputable section

namespace Cert.Proof.Proj

open Idealize.ShloMosaic Idealize.ShloMosaic.TcCoe Idealize.SL.Sem
open Cert.Kernel3Ideal Cert.Kernel3Ideal.Gen Cert.Kernel3Ideal.Own

/-- The row tile whose first half a point has at hand. -/
def ahead (n : ℕ) : ℕ := if n = 0 then 0 else min (n / 17 + 1) 7

/-- The row tile whose second half a point has at hand. -/
def behind (n : ℕ) : ℕ := if n % 17 < 4 then n / 17 else min (n / 17 + 1) 7

/-- The block indices of the windows the row tiles are made of, at every grid point. -/
theorem window_index : ∀ t : Fin cfg0.N,
    win0_0.index t = ![2 * ahead t.val, 0] ∧ win0_1.index t = ![2 * behind t.val + 1, 0] ∧ win0_2.index t = ![ahead t.val / 2, 0, 0] ∧
    win0_3.index t = ![ahead t.val / 2, 0, 0] ∧ win0_4.index t = ![0, 0] :=
  (by decide +kernel : ∀ t : Fin grid0.N,
    win0_0.index t = ![2 * ahead t.val, 0] ∧ win0_1.index t = ![2 * behind t.val + 1, 0] ∧ win0_2.index t = ![ahead t.val / 2, 0, 0] ∧
    win0_3.index t = ![ahead t.val / 2, 0, 0] ∧ win0_4.index t = ![0, 0])

theorem src_off : ∀ t : Fin cfg0.N, k0_off1 (grid0.coords t) = ![64 * (slot t.val % 8), 0] :=
  (by decide +kernel : ∀ t : Fin grid0.N, k0_off1 (grid0.coords t) = ![64 * (slot t.val % 8), 0])

theorem from_first : ∀ t : Fin cfg0.N, slot t.val < 8 → fromFirst (BitVec.ofNat 32 ((grid0.coords t) 0).val) (BitVec.ofNat 32 ((grid0.coords t) 1).val) = 1#1 :=
  (by decide +kernel : ∀ t : Fin grid0.N, slot t.val < 8 → fromFirst (BitVec.ofNat 32 ((grid0.coords t) 0).val) (BitVec.ofNat 32 ((grid0.coords t) 1).val) = 1#1)

theorem from_second : ∀ t : Fin cfg0.N, ¬slot t.val < 8 → fromFirst (BitVec.ofNat 32 ((grid0.coords t) 0).val) (BitVec.ofNat 32 ((grid0.coords t) 1).val) = 0#1 :=
  (by decide +kernel : ∀ t : Fin grid0.N, ¬slot t.val < 8 → fromFirst (BitVec.ofNat 32 ((grid0.coords t) 0).val) (BitVec.ofNat 32 ((grid0.coords t) 1).val) = 0#1)

variable (m : (ℓ : Loc nD τ sig) → Buf (Elt Ideal) ℓ)

/-! ### What the launch finds -/

theorem entry_x (c : Dev nD) : V m c main_v0 = shapeCast S8192x2048 (m ((c : Thread nD τ).loc main_arg0)) shapeCasts_S4x2048x2048_S8192x2048 := by
  show StableHlo.after hostOps0 (fun b => m (c, b)) (Proc.devRef .tc main_v0) = _
  after_results
  rfl

theorem entry_sh (c : Dev nD) : V m c main_v1 = shapeCast S4x1x2048 (m ((c : Thread nD τ).loc main_arg1)) shapeCasts_S4x2048_S4x1x2048 := by
  show StableHlo.after hostOps0 (fun b => m (c, b)) (Proc.devRef .tc main_v1) = _
  after_results
  rfl

theorem entry_sc (c : Dev nD) : V m c main_v2 = shapeCast S4x1x2048 (m ((c : Thread nD τ).loc main_arg2)) shapeCasts_S4x2048_S4x1x2048 := by
  show StableHlo.after hostOps0 (fun b => m (c, b)) (Proc.devRef .tc main_v2) = _
  after_results
  rfl

theorem entry_g (c : Dev nD) : V m c main_v23 = shapeCast S1x2048 (m ((c : Thread nD τ).loc main_arg3)) shapeCasts_S2048_S1x2048 := by
  show StableHlo.after hostOps0 (fun b => m (c, b)) (Proc.devRef .tc main_v23) = _
  after_results
  rfl

theorem rows_whole (x : FVec Ideal S4x2048x2048 .f32) (r : Fin 8192) (k : Fin 2048) (B : Fin 4) (s : Fin 2048)
    (hB : B.val = r.val / 2048) (hs : s.val = r.val % 2048) :
    shapeCast S8192x2048 x shapeCasts_S4x2048x2048_S8192x2048 (ix2 r k) = x (ix3 B s k) := by
  have eB : (⟨r.val / 2048, by omega⟩ : Fin 4) = B := Fin.ext hB.symm
  have et : (⟨r.val % 2048, by omega⟩ : Fin 2048) = s := Fin.ext hs.symm
  rw [← eB, ← et]
  pointwise

/-! ### The blocks of a point, of the arguments -/

section
variable (c : Dev nD) (t : Fin cfg0.N) (B : Fin 4) (s : Fin 2048) (r : Fin 8192) (hB : B.val = r.val / 2048) (hs : s.val = r.val % 2048)

include hB hs in
theorem block_x0 (P : Fin 512) (hr : r.val = 512 * (2 * ahead t.val) + P.val) (k : Fin 2048) :
    (iblk m c 0 t : S512x2048.Idx → EReal) (ix2 P k) = m ((c : Thread nD τ).loc main_arg0) (ix3 B s k) := by
  have e := (window_index t).1
  have h1 : (iblk m c 0 t : S512x2048.Idx → EReal) (ix2 P k) = V m c main_v0 (ix2 r k) := by blk_ext [iblk, e]
  rw [h1, entry_x]
  exact rows_whole _ r _ B s hB hs

include hB hs in
theorem block_x1 (P : Fin 512) (hr : r.val = 512 * (2 * behind t.val + 1) + P.val) (k : Fin 2048) :
    (iblk m c 1 t : S512x2048.Idx → EReal) (ix2 P k) = m ((c : Thread nD τ).loc main_arg0) (ix3 B s k) := by
  have e := (window_index t).2.1
  have h1 : (iblk m c 1 t : S512x2048.Idx → EReal) (ix2 P k) = V m c main_v0 (ix2 r k) := by blk_ext [iblk, e]
  rw [h1, entry_x]
  exact rows_whole _ r _ B s hB hs

theorem block_sh (hb : B.val = ahead t.val / 2) (d : Fin 2048) :
    (iblk m c 2 t : S1x1x2048.Idx → EReal) (ix3 0 0 d) = m ((c : Thread nD τ).loc main_arg1) (ix2 B d) := by
  have e := (window_index t).2.2.1
  have h1 : (iblk m c 2 t : S1x1x2048.Idx → EReal) (ix3 0 0 d) = V m c main_v1 (ix3 B 0 d) := by blk_ext [iblk, e]
  rw [h1, entry_sh]
  pointwise

theorem block_sc (hb : B.val = ahead t.val / 2) (d : Fin 2048) :
    (iblk m c 3 t : S1x1x2048.Idx → EReal) (ix3 0 0 d) = m ((c : Thread nD τ).loc main_arg2) (ix2 B d) := by
  have e := (window_index t).2.2.2.1
  have h1 : (iblk m c 3 t : S1x1x2048.Idx → EReal) (ix3 0 0 d) = V m c main_v2 (ix3 B 0 d) := by blk_ext [iblk, e]
  rw [h1, entry_sc]
  pointwise

theorem block_g (d : Fin 2048) : (iblk m c 4 t : S1x2048.Idx → EReal) (ix2 0 d) = m ((c : Thread nD τ).loc main_arg3) (ix1 d) := by
  have e := (window_index t).2.2.2.2
  have h1 : (iblk m c 4 t : S1x2048.Idx → EReal) (ix2 0 d) = V m c main_v23 (ix2 0 d) := by blk_ext [iblk, e]
  rw [h1, entry_g]
  pointwise

end

/-- Sixty-four rows cut out of a block, at an entry. -/
theorem cut_at (x : Vec Ideal S512x2048 .f32) (o : Fin S512x2048.rank → ℕ) (inb : ∀ a, o a + S64x2048.size a ≤ S512x2048.size a) (b : ℕ)
    (ho : o = ![64 * b, 0]) (q : Fin 64) (p : Fin 512) (hp : p.val = 64 * b + q.val) (d : Fin 2048) :
    View.ld x (Rect.unit (s := S512x2048) o S64x2048.size inb) (ix2 q d) = x (ix2 p d) := by
  subst ho
  refine congrArg x (funext fun a => Fin.ext ?_)
  revert a
  exact Fin.forall_fin_two.mpr ⟨(Rect.idx_unit_val _ _ inb _ _).trans (by show 64 * b + q.val = p.val; omega),
    (Rect.idx_unit_val _ _ inb _ _).trans (by show 0 + d.val = d.val; omega)⟩

/-- An entry of the rows a point normalises. -/
theorem chunk_at (c : Dev nD) (t : Fin cfg0.N) (hsec : ¬slot t.val < 8 → behind t.val = ahead t.val) (Q : Fin 64) (r : Fin 8192)
    (hr : r.val = 1024 * ahead t.val + 64 * slot t.val + Q.val) (B : Fin 4) (s : Fin 2048) (hB : B.val = r.val / 2048) (hs : s.val = r.val % 2048)
    (d : Fin 2048) :
    chunkAt m c t (ix2 Q d) = rowAt (fun d => m ((c : Thread nD τ).loc main_arg0) (ix3 B s d)) (m ((c : Thread nD τ).loc main_arg3) (ix1 d))
      (m ((c : Thread nD τ).loc main_arg2) (ix2 B d)) (m ((c : Thread nD τ).loc main_arg1) (ix2 B d)) d := by
  have hq : Q.val < 64 := Q.isLt
  have hsl : slot t.val < 16 := by unfold slot; omega
  have hb : B.val = ahead t.val / 2 := by omega
  have hp : 64 * (slot t.val % 8) + Q.val < 512 := by omega
  unfold chunkAt chunk
  by_cases h8 : slot t.val < 8
  · refine (chunk_first _ _ (from_first t h8) _ _ _ _ _ Q d).trans ?_
    rw [block_sh m c t B hb, block_sc m c t B hb, block_g]
    exact congrArg (fun f => rowAt f _ _ _ d) (funext fun k => (cut_at _ _ _ _ (src_off t) Q ⟨64 * (slot t.val % 8) + Q.val, hp⟩ rfl k).trans
      (block_x0 m c t B s r hB hs ⟨64 * (slot t.val % 8) + Q.val, hp⟩
        (by show r.val = 512 * (2 * ahead t.val) + (64 * (slot t.val % 8) + Q.val); omega) k))
  · have hbe := hsec h8
    refine (chunk_second _ _ (from_second t h8) _ _ _ _ _ Q d).trans ?_
    rw [block_sh m c t B hb, block_sc m c t B hb, block_g]
    exact congrArg (fun f => rowAt f _ _ _ d) (funext fun k => (cut_at _ _ _ _ (src_off t) Q ⟨64 * (slot t.val % 8) + Q.val, hp⟩ rfl k).trans
      (block_x1 m c t B s r hB hs ⟨64 * (slot t.val % 8) + Q.val, hp⟩
        (by show r.val = 512 * (2 * behind t.val + 1) + (64 * (slot t.val % 8) + Q.val); omega) k))

/-- The point that makes a group of rows, and what it has at hand. -/
theorem maker_spec (k q : ℕ) (h1 : 1 ≤ k) (hk : k < 8) (hq : q < 16) :
    maker k q < 136 ∧ slot (maker k q) = q ∧ ahead (maker k q) = k ∧ (¬q < 8 → behind (maker k q) = k) := by
  have key : ∀ k : Fin 8, ∀ q : Fin 16, 1 ≤ k.val →
      maker k.val q.val < 136 ∧ slot (maker k.val q.val) = q.val ∧ ahead (maker k.val q.val) = k.val ∧ (¬q.val < 8 → behind (maker k.val q.val) = k.val) := by
    decide +kernel
  exact key ⟨k, hk⟩ ⟨q, hq⟩ h1

/-- An entry of a row tile. -/
theorem tile_at (c : Dev nD) (k : ℕ) (hk : k < 8) (R : Fin 1024) (r : Fin 8192) (hr : r.val = 1024 * k + R.val) (B : Fin 4) (s : Fin 2048)
    (hB : B.val = r.val / 2048) (hs : s.val = r.val % 2048) (d : Fin 2048) :
    tile m c k (ix2 R d) = rowAt (fun d => m ((c : Thread nD τ).loc main_arg0) (ix3 B s d)) (m ((c : Thread nD τ).loc main_arg3) (ix1 d))
      (m ((c : Thread nD τ).loc main_arg2) (ix2 B d)) (m ((c : Thread nD τ).loc main_arg1) (ix2 B d)) d := by
  have hR : R.val < 1024 := R.isLt
  unfold tile
  by_cases h0 : k = 0
  · subst h0
    rw [if_pos rfl]
    have hv : (pt 0).val = 0 := rfl
    have ha : ahead (pt 0).val = 0 := rfl
    have hbh : behind (pt 0).val = 0 := rfl
    have hb : B.val = ahead (pt 0).val / 2 := by rw [ha]; omega
    unfold firstTile stacked
    by_cases h : R.val < 512
    · refine (dif_pos (show ((ix2 R d : S1024x2048.Idx) 0).val < 512 from h)).trans ?_
      refine (head_at _ _ _ _ ⟨R.val, h⟩ d).trans ?_
      simp only [block_x0 m c (pt 0) B s r hB hs ⟨R.val, h⟩ (by rw [ha]; show r.val = 512 * (2 * 0) + R.val; omega),
        block_sh m c (pt 0) B hb, block_sc m c (pt 0) B hb, block_g]
    · refine (dif_neg (show ¬((ix2 R d : S1024x2048.Idx) 0).val < 512 from h)).trans ?_
      refine (late_at _ _ _ _ ⟨R.val - 512, by omega⟩ d).trans ?_
      simp only [block_x1 m c (pt 0) B s r hB hs ⟨R.val - 512, by omega⟩ (by rw [hbh]; show r.val = 512 * (2 * 0 + 1) + (R.val - 512); omega),
        block_sh m c (pt 0) B hb, block_sc m c (pt 0) B hb, block_g]
  · rw [if_neg h0]
    have hq : R.val / 64 < 16 := by omega
    have key : maker k (R.val / 64) < 136 ∧ slot (maker k (R.val / 64)) = R.val / 64 ∧ ahead (maker k (R.val / 64)) = k ∧
        (¬R.val / 64 < 8 → behind (maker k (R.val / 64)) = k) := maker_spec k (R.val / 64) (by omega) hk (by omega)
    obtain ⟨hm, hsl, hah, hbe⟩ := key
    have hv : (pt (maker k (R.val / 64))).val = maker k (R.val / 64) := Nat.mod_eq_of_lt hm
    refine chunk_at m c (pt (maker k (R.val / 64))) ?_ ⟨R.val % 64, Nat.mod_lt _ (by decide)⟩ r ?_ B s hB hs d
    · rw [hv, hsl, hah]
      exact hbe
    · rw [hv, hsl, hah]
      show r.val = 1024 * k + 64 * (R.val / 64) + R.val % 64
      omega

end Cert.Proof.Proj

end
-- ==== Proof.ProjPack.lean ====
/-
  The packed weights at an index.
-/
module

public import proofs.«01_k».proof.Proof.Gen.Kernel3Ideal.Frame
public import proofs.«01_k».proof.Proof.ProjSpec
public import Idealize.ShloMosaic.Lib.Pointwise
public import Idealize.ShloMosaic.Lib.Pipeline.ValueKit

@[expose] public section

set_option maxRecDepth 16384

noncomputable section

namespace Cert.Proof.Proj

open Idealize.ShloMosaic Idealize.ShloMosaic.TcCoe Idealize.SL.Sem
open Cert.Kernel3Ideal Cert.Kernel3Ideal.Gen

/-- The transposed weights' columns in the order the kernel reads them, padded. -/
def packed (t : FVec Ideal S8288x2048 .f32) : FVec Ideal S8704x2048 .f32 :=
  concatenate S8704x2048 0 [⟨S1024x2048, extractStridedSlice S1024x2048 ![0, 0] t slices_S8288x2048_S1024x2048_0_0⟩, ⟨S1024x2048, extractStridedSlice S1024x2048 ![1024, 0] t slices_S8288x2048_S1024x2048_1024_0⟩, ⟨S1024x2048, extractStridedSlice S1024x2048 ![2048, 0] t slices_S8288x2048_S1024x2048_2048_0⟩, ⟨S1024x2048, extractStridedSlice S1024x2048 ![4096, 0] t slices_S8288x2048_S1024x2048_4096_0⟩, ⟨S1024x2048, extractStridedSlice S1024x2048 ![3072, 0] t slices_S8288x2048_S1024x2048_3072_0⟩, ⟨S1024x2048, extractStridedSlice S1024x2048 ![6224, 0] t slices_S8288x2048_S1024x2048_6224_0⟩, ⟨S1024x2048, extractStridedSlice S1024x2048 ![7248, 0] t slices_S8288x2048_S1024x2048_7248_0⟩, ⟨S512x2048, extractStridedSlice S512x2048 ![5200, 0] t slices_S8288x2048_S512x2048_5200_0⟩, ⟨S512x2048, extractStridedSlice S512x2048 ![5712, 0] t slices_S8288x2048_S512x2048_5712_0⟩, ⟨S64x2048, extractStridedSlice S64x2048 ![5120, 0] t slices_S8288x2048_S64x2048_5120_0⟩, ⟨S64x2048, broadcastInDim S64x2048 ![] bcast_S_S64x2048 (constant S_ .f32 0x00000000#32)⟩, ⟨S16x2048, extractStridedSlice S16x2048 ![5184, 0] t slices_S8288x2048_S16x2048_5184_0⟩, ⟨S112x2048, broadcastInDim S112x2048 ![] bcast_S_S112x2048 (constant S_ .f32 0x00000000#32)⟩, ⟨S16x2048, extractStridedSlice S16x2048 ![8272, 0] t slices_S8288x2048_S16x2048_8272_0⟩, ⟨S112x2048, broadcastInDim S112x2048 ![] bcast_S_S112x2048 (constant S_ .f32 0x00000000#32)⟩, ⟨S128x2048, broadcastInDim S128x2048 ![] bcast_S_S128x2048 (constant S_ .f32 0x00000000#32)⟩] concatenates_S1024x2048_S1024x2048_S1024x2048_S1024x2048_S1024x2048_S1024x2048_S1024x2048_S512x2048_S512x2048_S64x2048_S64x2048_S16x2048_S112x2048_S16x2048_S112x2048_S128x2048_S8704x2048_d0

theorem sizes_0 : (((([S1024x2048, S1024x2048, S1024x2048, S1024x2048, S1024x2048, S1024x2048, S1024x2048, S512x2048, S512x2048, S64x2048, S64x2048, S16x2048, S112x2048, S16x2048, S112x2048, S128x2048] : List Shape).take 0)).map fun s : Shape => if h : s.rank = S8704x2048.rank then s.size ((0 : Fin S8704x2048.rank).cast h.symm) else 0).sum = 0 := by
  decide +kernel

theorem packed_0 (t : FVec Ideal S8288x2048 .f32) (n : Fin 8704) (k : Fin 2048) (h1 : 0 ≤ n.val) (h2 : n.val < 1024) :
    packed t (ix2 n k) = pick (fun s => t (ix2 s k)) (src n.val) := by
  unfold packed
  refine (concatenate_apply_piece (t := S8704x2048) 0 _ _ (ix2 n k) 0 (by simp only [List.length_cons, List.length_nil]; omega) S1024x2048 (extractStridedSlice S1024x2048 ![0, 0] t slices_S8288x2048_S1024x2048_0_0) rfl rfl 0 (by rw [List.map_take]; exact sizes_0)
    (ix2 (n0 := 1024) (n1 := 2048) ⟨n.val - 0, by omega⟩ k) (Fin.forall_fin_two.mpr ⟨fun hb => absurd rfl hb, fun _ => rfl⟩)
    (by show 0 + (n.val - 0) = n.val; omega)).trans ?_
  have e : ∀ i : Fin 1024, extractStridedSlice S1024x2048 ![0, 0] t slices_S8288x2048_S1024x2048_0_0 (ix2 i k) = t (ix2 ⟨0 + i.val, by omega⟩ k) := by
    intro i
    pointwise
  rw [pick_of _ (src n.val) (by rw [src_0 (n.val) (by omega) (by omega)]; omega)]
  refine (e _).trans (congrArg (fun w : Fin 8288 => t (ix2 w k)) (Fin.ext ?_))
  show 0 + (n.val - 0) = src n.val
  rw [src_0 (n.val) (by omega) (by omega)]
  omega

theorem sizes_1 : (((([S1024x2048, S1024x2048, S1024x2048, S1024x2048, S1024x2048, S1024x2048, S1024x2048, S512x2048, S512x2048, S64x2048, S64x2048, S16x2048, S112x2048, S16x2048, S112x2048, S128x2048] : List Shape).take 1)).map fun s : Shape => if h : s.rank = S8704x2048.rank then s.size ((0 : Fin S8704x2048.rank).cast h.symm) else 0).sum = 1024 := by
  decide +kernel

theorem packed_1 (t : FVec Ideal S8288x2048 .f32) (n : Fin 8704) (k : Fin 2048) (h1 : 1024 ≤ n.val) (h2 : n.val < 2048) :
    packed t (ix2 n k) = pick (fun s => t (ix2 s k)) (src n.val) := by
  unfold packed
  refine (concatenate_apply_piece (t := S8704x2048) 0 _ _ (ix2 n k) 1 (by simp only [List.length_cons, List.length_nil]; omega) S1024x2048 (extractStridedSlice S1024x2048 ![1024, 0] t slices_S8288x2048_S1024x2048_1024_0) rfl rfl 1024 (by rw [List.map_take]; exact sizes_1)
    (ix2 (n0 := 1024) (n1 := 2048) ⟨n.val - 1024, by omega⟩ k) (Fin.forall_fin_two.mpr ⟨fun hb => absurd rfl hb, fun _ => rfl⟩)
    (by show 1024 + (n.val - 1024) = n.val; omega)).trans ?_
  have e : ∀ i : Fin 1024, extractStridedSlice S1024x2048 ![1024, 0] t slices_S8288x2048_S1024x2048_1024_0 (ix2 i k) = t (ix2 ⟨1024 + i.val, by omega⟩ k) := by
    intro i
    pointwise
  rw [pick_of _ (src n.val) (by rw [src_0 (n.val) (by omega) (by omega)]; omega)]
  refine (e _).trans (congrArg (fun w : Fin 8288 => t (ix2 w k)) (Fin.ext ?_))
  show 1024 + (n.val - 1024) = src n.val
  rw [src_0 (n.val) (by omega) (by omega)]
  omega

theorem sizes_2 : (((([S1024x2048, S1024x2048, S1024x2048, S1024x2048, S1024x2048, S1024x2048, S1024x2048, S512x2048, S512x2048, S64x2048, S64x2048, S16x2048, S112x2048, S16x2048, S112x2048, S128x2048] : List Shape).take 2)).map fun s : Shape => if h : s.rank = S8704x2048.rank then s.size ((0 : Fin S8704x2048.rank).cast h.symm) else 0).sum = 2048 := by
  decide +kernel

theorem packed_2 (t : FVec Ideal S8288x2048 .f32) (n : Fin 8704) (k : Fin 2048) (h1 : 2048 ≤ n.val) (h2 : n.val < 3072) :
    packed t (ix2 n k) = pick (fun s => t (ix2 s k)) (src n.val) := by
  unfold packed
  refine (concatenate_apply_piece (t := S8704x2048) 0 _ _ (ix2 n k) 2 (by simp only [List.length_cons, List.length_nil]; omega) S1024x2048 (extractStridedSlice S1024x2048 ![2048, 0] t slices_S8288x2048_S1024x2048_2048_0) rfl rfl 2048 (by rw [List.map_take]; exact sizes_2)
    (ix2 (n0 := 1024) (n1 := 2048) ⟨n.val - 2048, by omega⟩ k) (Fin.forall_fin_two.mpr ⟨fun hb => absurd rfl hb, fun _ => rfl⟩)
    (by show 2048 + (n.val - 2048) = n.val; omega)).trans ?_
  have e : ∀ i : Fin 1024, extractStridedSlice S1024x2048 ![2048, 0] t slices_S8288x2048_S1024x2048_2048_0 (ix2 i k) = t (ix2 ⟨2048 + i.val, by omega⟩ k) := by
    intro i
    pointwise
  rw [pick_of _ (src n.val) (by rw [src_0 (n.val) (by omega) (by omega)]; omega)]
  refine (e _).trans (congrArg (fun w : Fin 8288 => t (ix2 w k)) (Fin.ext ?_))
  show 2048 + (n.val - 2048) = src n.val
  rw [src_0 (n.val) (by omega) (by omega)]
  omega

theorem sizes_3 : (((([S1024x2048, S1024x2048, S1024x2048, S1024x2048, S1024x2048, S1024x2048, S1024x2048, S512x2048, S512x2048, S64x2048, S64x2048, S16x2048, S112x2048, S16x2048, S112x2048, S128x2048] : List Shape).take 3)).map fun s : Shape => if h : s.rank = S8704x2048.rank then s.size ((0 : Fin S8704x2048.rank).cast h.symm) else 0).sum = 3072 := by
  decide +kernel

theorem packed_3 (t : FVec Ideal S8288x2048 .f32) (n : Fin 8704) (k : Fin 2048) (h1 : 3072 ≤ n.val) (h2 : n.val < 4096) :
    packed t (ix2 n k) = pick (fun s => t (ix2 s k)) (src n.val) := by
  unfold packed
  refine (concatenate_apply_piece (t := S8704x2048) 0 _ _ (ix2 n k) 3 (by simp only [List.length_cons, List.length_nil]; omega) S1024x2048 (extractStridedSlice S1024x2048 ![4096, 0] t slices_S8288x2048_S1024x2048_4096_0) rfl rfl 3072 (by rw [List.map_take]; exact sizes_3)
    (ix2 (n0 := 1024) (n1 := 2048) ⟨n.val - 3072, by omega⟩ k) (Fin.forall_fin_two.mpr ⟨fun hb => absurd rfl hb, fun _ => rfl⟩)
    (by show 3072 + (n.val - 3072) = n.val; omega)).trans ?_
  have e : ∀ i : Fin 1024, extractStridedSlice S1024x2048 ![4096, 0] t slices_S8288x2048_S1024x2048_4096_0 (ix2 i k) = t (ix2 ⟨4096 + i.val, by omega⟩ k) := by
    intro i
    pointwise
  rw [pick_of _ (src n.val) (by rw [src_1 (n.val) (by omega) (by omega)]; omega)]
  refine (e _).trans (congrArg (fun w : Fin 8288 => t (ix2 w k)) (Fin.ext ?_))
  show 4096 + (n.val - 3072) = src n.val
  rw [src_1 (n.val) (by omega) (by omega)]
  omega

theorem sizes_4 : (((([S1024x2048, S1024x2048, S1024x2048, S1024x2048, S1024x2048, S1024x2048, S1024x2048, S512x2048, S512x2048, S64x2048, S64x2048, S16x2048, S112x2048, S16x2048, S112x2048, S128x2048] : List Shape).take 4)).map fun s : Shape => if h : s.rank = S8704x2048.rank then s.size ((0 : Fin S8704x2048.rank).cast h.symm) else 0).sum = 4096 := by
  decide +kernel

theorem packed_4 (t : FVec Ideal S8288x2048 .f32) (n : Fin 8704) (k : Fin 2048) (h1 : 4096 ≤ n.val) (h2 : n.val < 5120) :
    packed t (ix2 n k) = pick (fun s => t (ix2 s k)) (src n.val) := by
  unfold packed
  refine (concatenate_apply_piece (t := S8704x2048) 0 _ _ (ix2 n k) 4 (by simp only [List.length_cons, List.length_nil]; omega) S1024x2048 (extractStridedSlice S1024x2048 ![3072, 0] t slices_S8288x2048_S1024x2048_3072_0) rfl rfl 4096 (by rw [List.map_take]; exact sizes_4)
    (ix2 (n0 := 1024) (n1 := 2048) ⟨n.val - 4096, by omega⟩ k) (Fin.forall_fin_two.mpr ⟨fun hb => absurd rfl hb, fun _ => rfl⟩)
    (by show 4096 + (n.val - 4096) = n.val; omega)).trans ?_
  have e : ∀ i : Fin 1024, extractStridedSlice S1024x2048 ![3072, 0] t slices_S8288x2048_S1024x2048_3072_0 (ix2 i k) = t (ix2 ⟨3072 + i.val, by omega⟩ k) := by
    intro i
    pointwise
  rw [pick_of _ (src n.val) (by rw [src_2 (n.val) (by omega) (by omega)]; omega)]
  refine (e _).trans (congrArg (fun w : Fin 8288 => t (ix2 w k)) (Fin.ext ?_))
  show 3072 + (n.val - 4096) = src n.val
  rw [src_2 (n.val) (by omega) (by omega)]
  omega

theorem sizes_5 : (((([S1024x2048, S1024x2048, S1024x2048, S1024x2048, S1024x2048, S1024x2048, S1024x2048, S512x2048, S512x2048, S64x2048, S64x2048, S16x2048, S112x2048, S16x2048, S112x2048, S128x2048] : List Shape).take 5)).map fun s : Shape => if h : s.rank = S8704x2048.rank then s.size ((0 : Fin S8704x2048.rank).cast h.symm) else 0).sum = 5120 := by
  decide +kernel

theorem packed_5 (t : FVec Ideal S8288x2048 .f32) (n : Fin 8704) (k : Fin 2048) (h1 : 5120 ≤ n.val) (h2 : n.val < 6144) :
    packed t (ix2 n k) = pick (fun s => t (ix2 s k)) (src n.val) := by
  unfold packed
  refine (concatenate_apply_piece (t := S8704x2048) 0 _ _ (ix2 n k) 5 (by simp only [List.length_cons, List.length_nil]; omega) S1024x2048 (extractStridedSlice S1024x2048 ![6224, 0] t slices_S8288x2048_S1024x2048_6224_0) rfl rfl 5120 (by rw [List.map_take]; exact sizes_5)
    (ix2 (n0 := 1024) (n1 := 2048) ⟨n.val - 5120, by omega⟩ k) (Fin.forall_fin_two.mpr ⟨fun hb => absurd rfl hb, fun _ => rfl⟩)
    (by show 5120 + (n.val - 5120) = n.val; omega)).trans ?_
  have e : ∀ i : Fin 1024, extractStridedSlice S1024x2048 ![6224, 0] t slices_S8288x2048_S1024x2048_6224_0 (ix2 i k) = t (ix2 ⟨6224 + i.val, by omega⟩ k) := by
    intro i
    pointwise
  rw [pick_of _ (src n.val) (by rw [src_3 (n.val) (by omega) (by omega)]; omega)]
  refine (e _).trans (congrArg (fun w : Fin 8288 => t (ix2 w k)) (Fin.ext ?_))
  show 6224 + (n.val - 5120) = src n.val
  rw [src_3 (n.val) (by omega) (by omega)]
  omega

theorem sizes_6 : (((([S1024x2048, S1024x2048, S1024x2048, S1024x2048, S1024x2048, S1024x2048, S1024x2048, S512x2048, S512x2048, S64x2048, S64x2048, S16x2048, S112x2048, S16x2048, S112x2048, S128x2048] : List Shape).take 6)).map fun s : Shape => if h : s.rank = S8704x2048.rank then s.size ((0 : Fin S8704x2048.rank).cast h.symm) else 0).sum = 6144 := by
  decide +kernel

theorem packed_6 (t : FVec Ideal S8288x2048 .f32) (n : Fin 8704) (k : Fin 2048) (h1 : 6144 ≤ n.val) (h2 : n.val < 7168) :
    packed t (ix2 n k) = pick (fun s => t (ix2 s k)) (src n.val) := by
  unfold packed
  refine (concatenate_apply_piece (t := S8704x2048) 0 _ _ (ix2 n k) 6 (by simp only [List.length_cons, List.length_nil]; omega) S1024x2048 (extractStridedSlice S1024x2048 ![7248, 0] t slices_S8288x2048_S1024x2048_7248_0) rfl rfl 6144 (by rw [List.map_take]; exact sizes_6)
    (ix2 (n0 := 1024) (n1 := 2048) ⟨n.val - 6144, by omega⟩ k) (Fin.forall_fin_two.mpr ⟨fun hb => absurd rfl hb, fun _ => rfl⟩)
    (by show 6144 + (n.val - 6144) = n.val; omega)).trans ?_
  have e : ∀ i : Fin 1024, extractStridedSlice S1024x2048 ![7248, 0] t slices_S8288x2048_S1024x2048_7248_0 (ix2 i k) = t (ix2 ⟨7248 + i.val, by omega⟩ k) := by
    intro i
    pointwise
  rw [pick_of _ (src n.val) (by rw [src_3 (n.val) (by omega) (by omega)]; omega)]
  refine (e _).trans (congrArg (fun w : Fin 8288 => t (ix2 w k)) (Fin.ext ?_))
  show 7248 + (n.val - 6144) = src n.val
  rw [src_3 (n.val) (by omega) (by omega)]
  omega

theorem sizes_7 : (((([S1024x2048, S1024x2048, S1024x2048, S1024x2048, S1024x2048, S1024x2048, S1024x2048, S512x2048, S512x2048, S64x2048, S64x2048, S16x2048, S112x2048, S16x2048, S112x2048, S128x2048] : List Shape).take 7)).map fun s : Shape => if h : s.rank = S8704x2048.rank then s.size ((0 : Fin S8704x2048.rank).cast h.symm) else 0).sum = 7168 := by
  decide +kernel

theorem packed_7 (t : FVec Ideal S8288x2048 .f32) (n : Fin 8704) (k : Fin 2048) (h1 : 7168 ≤ n.val) (h2 : n.val < 7680) :
    packed t (ix2 n k) = pick (fun s => t (ix2 s k)) (src n.val) := by
  unfold packed
  refine (concatenate_apply_piece (t := S8704x2048) 0 _ _ (ix2 n k) 7 (by simp only [List.length_cons, List.length_nil]; omega) S512x2048 (extractStridedSlice S512x2048 ![5200, 0] t slices_S8288x2048_S512x2048_5200_0) rfl rfl 7168 (by rw [List.map_take]; exact sizes_7)
    (ix2 (n0 := 512) (n1 := 2048) ⟨n.val - 7168, by omega⟩ k) (Fin.forall_fin_two.mpr ⟨fun hb => absurd rfl hb, fun _ => rfl⟩)
    (by show 7168 + (n.val - 7168) = n.val; omega)).trans ?_
  have e : ∀ i : Fin 512, extractStridedSlice S512x2048 ![5200, 0] t slices_S8288x2048_S512x2048_5200_0 (ix2 i k) = t (ix2 ⟨5200 + i.val, by omega⟩ k) := by
    intro i
    pointwise
  rw [pick_of _ (src n.val) (by rw [src_4 (n.val) (by omega) (by omega)]; omega)]
  refine (e _).trans (congrArg (fun w : Fin 8288 => t (ix2 w k)) (Fin.ext ?_))
  show 5200 + (n.val - 7168) = src n.val
  rw [src_4 (n.val) (by omega) (by omega)]
  omega

theorem sizes_8 : (((([S1024x2048, S1024x2048, S1024x2048, S1024x2048, S1024x2048, S1024x2048, S1024x2048, S512x2048, S512x2048, S64x2048, S64x2048, S16x2048, S112x2048, S16x2048, S112x2048, S128x2048] : List Shape).take 8)).map fun s : Shape => if h : s.rank = S8704x2048.rank then s.size ((0 : Fin S8704x2048.rank).cast h.symm) else 0).sum = 7680 := by
  decide +kernel

theorem packed_8 (t : FVec Ideal S8288x2048 .f32) (n : Fin 8704) (k : Fin 2048) (h1 : 7680 ≤ n.val) (h2 : n.val < 8192) :
    packed t (ix2 n k) = pick (fun s => t (ix2 s k)) (src n.val) := by
  unfold packed
  refine (concatenate_apply_piece (t := S8704x2048) 0 _ _ (ix2 n k) 8 (by simp only [List.length_cons, List.length_nil]; omega) S512x2048 (extractStridedSlice S512x2048 ![5712, 0] t slices_S8288x2048_S512x2048_5712_0) rfl rfl 7680 (by rw [List.map_take]; exact sizes_8)
    (ix2 (n0 := 512) (n1 := 2048) ⟨n.val - 7680, by omega⟩ k) (Fin.forall_fin_two.mpr ⟨fun hb => absurd rfl hb, fun _ => rfl⟩)
    (by show 7680 + (n.val - 7680) = n.val; omega)).trans ?_
  have e : ∀ i : Fin 512, extractStridedSlice S512x2048 ![5712, 0] t slices_S8288x2048_S512x2048_5712_0 (ix2 i k) = t (ix2 ⟨5712 + i.val, by omega⟩ k) := by
    intro i
    pointwise
  rw [pick_of _ (src n.val) (by rw [src_4 (n.val) (by omega) (by omega)]; omega)]
  refine (e _).trans (congrArg (fun w : Fin 8288 => t (ix2 w k)) (Fin.ext ?_))
  show 5712 + (n.val - 7680) = src n.val
  rw [src_4 (n.val) (by omega) (by omega)]
  omega

theorem sizes_9 : (((([S1024x2048, S1024x2048, S1024x2048, S1024x2048, S1024x2048, S1024x2048, S1024x2048, S512x2048, S512x2048, S64x2048, S64x2048, S16x2048, S112x2048, S16x2048, S112x2048, S128x2048] : List Shape).take 9)).map fun s : Shape => if h : s.rank = S8704x2048.rank then s.size ((0 : Fin S8704x2048.rank).cast h.symm) else 0).sum = 8192 := by
  decide +kernel

theorem packed_9 (t : FVec Ideal S8288x2048 .f32) (n : Fin 8704) (k : Fin 2048) (h1 : 8192 ≤ n.val) (h2 : n.val < 8256) :
    packed t (ix2 n k) = pick (fun s => t (ix2 s k)) (src n.val) := by
  unfold packed
  refine (concatenate_apply_piece (t := S8704x2048) 0 _ _ (ix2 n k) 9 (by simp only [List.length_cons, List.length_nil]; omega) S64x2048 (extractStridedSlice S64x2048 ![5120, 0] t slices_S8288x2048_S64x2048_5120_0) rfl rfl 8192 (by rw [List.map_take]; exact sizes_9)
    (ix2 (n0 := 64) (n1 := 2048) ⟨n.val - 8192, by omega⟩ k) (Fin.forall_fin_two.mpr ⟨fun hb => absurd rfl hb, fun _ => rfl⟩)
    (by show 8192 + (n.val - 8192) = n.val; omega)).trans ?_
  have e : ∀ i : Fin 64, extractStridedSlice S64x2048 ![5120, 0] t slices_S8288x2048_S64x2048_5120_0 (ix2 i k) = t (ix2 ⟨5120 + i.val, by omega⟩ k) := by
    intro i
    pointwise
  rw [pick_of _ (src n.val) (by rw [src_5 (n.val) (by omega) (by omega)]; omega)]
  refine (e _).trans (congrArg (fun w : Fin 8288 => t (ix2 w k)) (Fin.ext ?_))
  show 5120 + (n.val - 8192) = src n.val
  rw [src_5 (n.val) (by omega) (by omega)]
  omega

theorem sizes_10 : (((([S1024x2048, S1024x2048, S1024x2048, S1024x2048, S1024x2048, S1024x2048, S1024x2048, S512x2048, S512x2048, S64x2048, S64x2048, S16x2048, S112x2048, S16x2048, S112x2048, S128x2048] : List Shape).take 10)).map fun s : Shape => if h : s.rank = S8704x2048.rank then s.size ((0 : Fin S8704x2048.rank).cast h.symm) else 0).sum = 8256 := by
  decide +kernel

theorem packed_10 (t : FVec Ideal S8288x2048 .f32) (n : Fin 8704) (k : Fin 2048) (h1 : 8256 ≤ n.val) (h2 : n.val < 8320) :
    packed t (ix2 n k) = pick (fun s => t (ix2 s k)) (src n.val) := by
  unfold packed
  refine (concatenate_apply_piece (t := S8704x2048) 0 _ _ (ix2 n k) 10 (by simp only [List.length_cons, List.length_nil]; omega) S64x2048 (broadcastInDim S64x2048 ![] bcast_S_S64x2048 (constant S_ .f32 0x00000000#32)) rfl rfl 8256 (by rw [List.map_take]; exact sizes_10)
    (ix2 (n0 := 64) (n1 := 2048) ⟨n.val - 8256, by omega⟩ k) (Fin.forall_fin_two.mpr ⟨fun hb => absurd rfl hb, fun _ => rfl⟩)
    (by show 8256 + (n.val - 8256) = n.val; omega)).trans ?_
  rw [pick_pad _ (src n.val) (by rw [src_6 (n.val) (by omega) (by omega)]; omega)]
  pointwise

theorem sizes_11 : (((([S1024x2048, S1024x2048, S1024x2048, S1024x2048, S1024x2048, S1024x2048, S1024x2048, S512x2048, S512x2048, S64x2048, S64x2048, S16x2048, S112x2048, S16x2048, S112x2048, S128x2048] : List Shape).take 11)).map fun s : Shape => if h : s.rank = S8704x2048.rank then s.size ((0 : Fin S8704x2048.rank).cast h.symm) else 0).sum = 8320 := by
  decide +kernel

theorem packed_11 (t : FVec Ideal S8288x2048 .f32) (n : Fin 8704) (k : Fin 2048) (h1 : 8320 ≤ n.val) (h2 : n.val < 8336) :
    packed t (ix2 n k) = pick (fun s => t (ix2 s k)) (src n.val) := by
  unfold packed
  refine (concatenate_apply_piece (t := S8704x2048) 0 _ _ (ix2 n k) 11 (by simp only [List.length_cons, List.length_nil]; omega) S16x2048 (extractStridedSlice S16x2048 ![5184, 0] t slices_S8288x2048_S16x2048_5184_0) rfl rfl 8320 (by rw [List.map_take]; exact sizes_11)
    (ix2 (n0 := 16) (n1 := 2048) ⟨n.val - 8320, by omega⟩ k) (Fin.forall_fin_two.mpr ⟨fun hb => absurd rfl hb, fun _ => rfl⟩)
    (by show 8320 + (n.val - 8320) = n.val; omega)).trans ?_
  have e : ∀ i : Fin 16, extractStridedSlice S16x2048 ![5184, 0] t slices_S8288x2048_S16x2048_5184_0 (ix2 i k) = t (ix2 ⟨5184 + i.val, by omega⟩ k) := by
    intro i
    pointwise
  rw [pick_of _ (src n.val) (by rw [src_7 (n.val) (by omega) (by omega)]; omega)]
  refine (e _).trans (congrArg (fun w : Fin 8288 => t (ix2 w k)) (Fin.ext ?_))
  show 5184 + (n.val - 8320) = src n.val
  rw [src_7 (n.val) (by omega) (by omega)]
  omega

theorem sizes_12 : (((([S1024x2048, S1024x2048, S1024x2048, S1024x2048, S1024x2048, S1024x2048, S1024x2048, S512x2048, S512x2048, S64x2048, S64x2048, S16x2048, S112x2048, S16x2048, S112x2048, S128x2048] : List Shape).take 12)).map fun s : Shape => if h : s.rank = S8704x2048.rank then s.size ((0 : Fin S8704x2048.rank).cast h.symm) else 0).sum = 8336 := by
  decide +kernel

theorem packed_12 (t : FVec Ideal S8288x2048 .f32) (n : Fin 8704) (k : Fin 2048) (h1 : 8336 ≤ n.val) (h2 : n.val < 8448) :
    packed t (ix2 n k) = pick (fun s => t (ix2 s k)) (src n.val) := by
  unfold packed
  refine (concatenate_apply_piece (t := S8704x2048) 0 _ _ (ix2 n k) 12 (by simp only [List.length_cons, List.length_nil]; omega) S112x2048 (broadcastInDim S112x2048 ![] bcast_S_S112x2048 (constant S_ .f32 0x00000000#32)) rfl rfl 8336 (by rw [List.map_take]; exact sizes_12)
    (ix2 (n0 := 112) (n1 := 2048) ⟨n.val - 8336, by omega⟩ k) (Fin.forall_fin_two.mpr ⟨fun hb => absurd rfl hb, fun _ => rfl⟩)
    (by show 8336 + (n.val - 8336) = n.val; omega)).trans ?_
  rw [pick_pad _ (src n.val) (by rw [src_8 (n.val) (by omega) (by omega)]; omega)]
  pointwise

theorem sizes_13 : (((([S1024x2048, S1024x2048, S1024x2048, S1024x2048, S1024x2048, S1024x2048, S1024x2048, S512x2048, S512x2048, S64x2048, S64x2048, S16x2048, S112x2048, S16x2048, S112x2048, S128x2048] : List Shape).take 13)).map fun s : Shape => if h : s.rank = S8704x2048.rank then s.size ((0 : Fin S8704x2048.rank).cast h.symm) else 0).sum = 8448 := by
  decide +kernel

theorem packed_13 (t : FVec Ideal S8288x2048 .f32) (n : Fin 8704) (k : Fin 2048) (h1 : 8448 ≤ n.val) (h2 : n.val < 8464) :
    packed t (ix2 n k) = pick (fun s => t (ix2 s k)) (src n.val) := by
  unfold packed
  refine (concatenate_apply_piece (t := S8704x2048) 0 _ _ (ix2 n k) 13 (by simp only [List.length_cons, List.length_nil]; omega) S16x2048 (extractStridedSlice S16x2048 ![8272, 0] t slices_S8288x2048_S16x2048_8272_0) rfl rfl 8448 (by rw [List.map_take]; exact sizes_13)
    (ix2 (n0 := 16) (n1 := 2048) ⟨n.val - 8448, by omega⟩ k) (Fin.forall_fin_two.mpr ⟨fun hb => absurd rfl hb, fun _ => rfl⟩)
    (by show 8448 + (n.val - 8448) = n.val; omega)).trans ?_
  have e : ∀ i : Fin 16, extractStridedSlice S16x2048 ![8272, 0] t slices_S8288x2048_S16x2048_8272_0 (ix2 i k) = t (ix2 ⟨8272 + i.val, by omega⟩ k) := by
    intro i
    pointwise
  rw [pick_of _ (src n.val) (by rw [src_9 (n.val) (by omega) (by omega)]; omega)]
  refine (e _).trans (congrArg (fun w : Fin 8288 => t (ix2 w k)) (Fin.ext ?_))
  show 8272 + (n.val - 8448) = src n.val
  rw [src_9 (n.val) (by omega) (by omega)]
  omega

theorem sizes_14 : (((([S1024x2048, S1024x2048, S1024x2048, S1024x2048, S1024x2048, S1024x2048, S1024x2048, S512x2048, S512x2048, S64x2048, S64x2048, S16x2048, S112x2048, S16x2048, S112x2048, S128x2048] : List Shape).take 14)).map fun s : Shape => if h : s.rank = S8704x2048.rank then s.size ((0 : Fin S8704x2048.rank).cast h.symm) else 0).sum = 8464 := by
  decide +kernel

theorem packed_14 (t : FVec Ideal S8288x2048 .f32) (n : Fin 8704) (k : Fin 2048) (h1 : 8464 ≤ n.val) (h2 : n.val < 8576) :
    packed t (ix2 n k) = pick (fun s => t (ix2 s k)) (src n.val) := by
  unfold packed
  refine (concatenate_apply_piece (t := S8704x2048) 0 _ _ (ix2 n k) 14 (by simp only [List.length_cons, List.length_nil]; omega) S112x2048 (broadcastInDim S112x2048 ![] bcast_S_S112x2048 (constant S_ .f32 0x00000000#32)) rfl rfl 8464 (by rw [List.map_take]; exact sizes_14)
    (ix2 (n0 := 112) (n1 := 2048) ⟨n.val - 8464, by omega⟩ k) (Fin.forall_fin_two.mpr ⟨fun hb => absurd rfl hb, fun _ => rfl⟩)
    (by show 8464 + (n.val - 8464) = n.val; omega)).trans ?_
  rw [pick_pad _ (src n.val) (by rw [src_10 (n.val) (by omega)]; omega)]
  pointwise

theorem sizes_15 : (((([S1024x2048, S1024x2048, S1024x2048, S1024x2048, S1024x2048, S1024x2048, S1024x2048, S512x2048, S512x2048, S64x2048, S64x2048, S16x2048, S112x2048, S16x2048, S112x2048, S128x2048] : List Shape).take 15)).map fun s : Shape => if h : s.rank = S8704x2048.rank then s.size ((0 : Fin S8704x2048.rank).cast h.symm) else 0).sum = 8576 := by
  decide +kernel

theorem packed_15 (t : FVec Ideal S8288x2048 .f32) (n : Fin 8704) (k : Fin 2048) (h1 : 8576 ≤ n.val) (h2 : n.val < 8704) :
    packed t (ix2 n k) = pick (fun s => t (ix2 s k)) (src n.val) := by
  unfold packed
  refine (concatenate_apply_piece (t := S8704x2048) 0 _ _ (ix2 n k) 15 (by simp only [List.length_cons, List.length_nil]; omega) S128x2048 (broadcastInDim S128x2048 ![] bcast_S_S128x2048 (constant S_ .f32 0x00000000#32)) rfl rfl 8576 (by rw [List.map_take]; exact sizes_15)
    (ix2 (n0 := 128) (n1 := 2048) ⟨n.val - 8576, by omega⟩ k) (Fin.forall_fin_two.mpr ⟨fun hb => absurd rfl hb, fun _ => rfl⟩)
    (by show 8576 + (n.val - 8576) = n.val; omega)).trans ?_
  rw [pick_pad _ (src n.val) (by rw [src_10 (n.val) (by omega)]; omega)]
  pointwise

theorem packed_at (t : FVec Ideal S8288x2048 .f32) (n : Fin 8704) (k : Fin 2048) :
    packed t (ix2 n k) = pick (fun s => t (ix2 s k)) (src n.val) := by
  by_cases h0 : n.val < 1024
  · exact packed_0 t n k (by omega) h0
  by_cases h1 : n.val < 2048
  · exact packed_1 t n k (by omega) h1
  by_cases h2 : n.val < 3072
  · exact packed_2 t n k (by omega) h2
  by_cases h3 : n.val < 4096
  · exact packed_3 t n k (by omega) h3
  by_cases h4 : n.val < 5120
  · exact packed_4 t n k (by omega) h4
  by_cases h5 : n.val < 6144
  · exact packed_5 t n k (by omega) h5
  by_cases h6 : n.val < 7168
  · exact packed_6 t n k (by omega) h6
  by_cases h7 : n.val < 7680
  · exact packed_7 t n k (by omega) h7
  by_cases h8 : n.val < 8192
  · exact packed_8 t n k (by omega) h8
  by_cases h9 : n.val < 8256
  · exact packed_9 t n k (by omega) h9
  by_cases h10 : n.val < 8320
  · exact packed_10 t n k (by omega) h10
  by_cases h11 : n.val < 8336
  · exact packed_11 t n k (by omega) h11
  by_cases h12 : n.val < 8448
  · exact packed_12 t n k (by omega) h12
  by_cases h13 : n.val < 8464
  · exact packed_13 t n k (by omega) h13
  by_cases h14 : n.val < 8576
  · exact packed_14 t n k (by omega) h14
  exact packed_15 t n k (by omega) n.isLt

variable (m : (ℓ : Loc nD τ sig) → Buf (Elt Ideal) ℓ)

theorem entry_w (c : Dev nD) : V m c main_v22 = broadcastInDim S1x8704x2048 ![1, 2] bcast_S8704x2048_S1x8704x2048_1_2
    (truncf .bf16 (packed (transpose S8288x2048 [1, 0] (m ((c : Thread nD τ).loc main_arg4)) transposes_S2048x8288_S8288x2048_1_0)) bitsLt_bf16_f32) := by
  show StableHlo.after hostOps0 (fun b => m (c, b)) (Proc.devRef .tc main_v22) = _
  after_results
  rfl

theorem entry_w_at (c : Dev nD) (n : Fin 8704) (k : Fin 2048) :
    (V m c main_v22 : S1x8704x2048.Idx → EReal) (ix3 0 n k) = pick (fun s => m ((c : Thread nD τ).loc main_arg4) (ix2 k s)) (src n.val) := by
  rw [entry_w]
  have e : ∀ t : FVec Ideal S8704x2048 .f32, (broadcastInDim S1x8704x2048 ![1, 2] bcast_S8704x2048_S1x8704x2048_1_2
      (truncf .bf16 t bitsLt_bf16_f32) : FVec Ideal S1x8704x2048 .bf16) (ix3 0 n k) = t (ix2 n k) := by
    intro t
    pointwise
  have e2 : ∀ (w : FVec Ideal S2048x8288 .f32) (s : Fin 8288), transpose S8288x2048 [1, 0] w transposes_S2048x8288_S8288x2048_1_0 (ix2 s k) = w (ix2 k s) := by
    intro w s
    pointwise
  refine (e _).trans ((packed_at _ n k).trans ?_)
  exact congrArg (fun f => pick f (src n.val)) (funext fun s => e2 _ s)

end Cert.Proof.Proj

end
-- ==== Proof.ProjValue.lean ====
/-
  The projection's two results, entry by entry.
-/
module

public import proofs.«01_k».proof.Proof.ProjLaunch
public import proofs.«01_k».proof.Proof.ProjGrid
public import proofs.«01_k».proof.Proof.ProjPack

@[expose] public section

set_option maxRecDepth 16384

noncomputable section

namespace Cert.Proof.Proj

open Idealize.ShloMosaic Idealize.ShloMosaic.TcCoe Idealize.SL.Sem
open Cert.Kernel3Ideal Cert.Kernel3Ideal.Gen Cert.Kernel3Ideal.Own
open Idealize.ShloMosaic.Pipeline (Dat)

/-- The block indices of the weights' window and of the two outputs', at every grid point. -/
theorem out_index : ∀ t : Fin cfg0.N,
    win0_5.index t = ![0, t.val % 17, 0] ∧ win0_6.index t = ![t.val / 17, min (t.val % 17) 7] ∧ win0_7.index t = ![t.val / 17, t.val % 17 - 8] :=
  (by decide +kernel : ∀ t : Fin grid0.N,
    win0_5.index t = ![0, t.val % 17, 0] ∧ win0_6.index t = ![t.val / 17, min (t.val % 17) 7] ∧ win0_7.index t = ![t.val / 17, t.val % 17 - 8])

theorem flush6_iff : ∀ t : Fin cfg0.N, (cfg0.win 6).flush t = decide (t.val % 17 < 7 ∨ t.val % 17 = 16) :=
  (by decide +kernel : ∀ t : Fin grid0.N, (cfg0.win 6).flush t = decide (t.val % 17 < 7 ∨ t.val % 17 = 16))

theorem flush7_iff : ∀ t : Fin cfg0.N, (cfg0.win 7).flush t = decide (¬t.val % 17 < 8) :=
  (by decide +kernel : ∀ t : Fin grid0.N, (cfg0.win 7).flush t = decide (¬t.val % 17 < 8))

theorem scaled_yes : ∀ t : Fin cfg0.N, t.val % 17 < 2 → scaled (grid0.coords t) = 1#1 :=
  (by decide +kernel : ∀ t : Fin grid0.N, t.val % 17 < 2 → scaled (grid0.coords t) = 1#1)

theorem scaled_no : ∀ t : Fin cfg0.N, ¬t.val % 17 < 2 → scaled (grid0.coords t) = 0#1 :=
  (by decide +kernel : ∀ t : Fin grid0.N, ¬t.val % 17 < 2 → scaled (grid0.coords t) = 0#1)

theorem inj6 (t t' : Fin cfg0.N) (hf : (cfg0.win 6).flush t = true) (hf' : (cfg0.win 6).flush t' = true)
    (h : (cfg0.win 6).index t = (cfg0.win 6).index t') : t = t' := by
  rw [flush6_iff] at hf hf'
  have h1 := of_decide_eq_true hf
  have h2 := of_decide_eq_true hf'
  have e := ((out_index t).2.1).symm.trans (h.trans (out_index t').2.1)
  have e0 : t.val / 17 = t'.val / 17 := congrFun e 0
  have e1 : min (t.val % 17) 7 = min (t'.val % 17) 7 := congrFun e 1
  exact Fin.ext (by omega)

theorem inj7 (t t' : Fin cfg0.N) (hf : (cfg0.win 7).flush t = true) (hf' : (cfg0.win 7).flush t' = true)
    (h : (cfg0.win 7).index t = (cfg0.win 7).index t') : t = t' := by
  rw [flush7_iff] at hf hf'
  have h1 := of_decide_eq_true hf
  have h2 := of_decide_eq_true hf'
  have e := ((out_index t).2.2).symm.trans (h.trans (out_index t').2.2)
  have e0 : t.val / 17 = t'.val / 17 := congrFun e 0
  have e1 : t.val % 17 - 8 = t'.val % 17 - 8 := congrFun e 1
  exact Fin.ext (by omega)

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (inj6 t t' hf hf' h)

theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (inj7 t t' hf hf' h)

variable (m : (ℓ : Loc nD τ sig) → Buf (Elt Ideal) ℓ)

/-- The weights' block of a point. -/
theorem block_w (c : Dev nD) (t : Fin cfg0.N) (e : Fin 512) (n : Fin 8704) (hn : n.val = 512 * (t.val % 17) + e.val) (k : Fin 2048) :
    (iblk m c 5 t : S1x512x2048.Idx → EReal) (ix3 0 e k) = pick (fun s => m ((c : Thread nD τ).loc main_arg4) (ix2 k s)) (src n.val) := by
  have e5 := (out_index t).1
  have h1 : (iblk m c 5 t : S1x512x2048.Idx → EReal) (ix3 0 e k) = V m c main_v22 (ix3 0 n k) := by blk_ext [iblk, e5]
  rw [h1, entry_w_at]

/-- An entry of the normed rows times the weights, at a row and a packed column. -/
def entryAt (c : Dev nD) (B : Fin 4) (s : Fin 2048) (n : ℕ) : EReal :=
  pick (fun j => ∑ k, rowAt (fun d => m ((c : Thread nD τ).loc main_arg0) (ix3 B s d)) (m ((c : Thread nD τ).loc main_arg3) (ix1 k))
      (m ((c : Thread nD τ).loc main_arg2) (ix2 B k)) (m ((c : Thread nD τ).loc main_arg1) (ix2 B k)) k
    * m ((c : Thread nD τ).loc main_arg4) (ix2 k j)) (src n)

theorem sum_at (c : Dev nD) (t : Fin cfg0.N) (R : Fin 1024) (r : Fin 8192) (hr : r.val = 1024 * (t.val / 17) + R.val) (B : Fin 4) (s : Fin 2048)
    (hB : B.val = r.val / 2048) (hs : s.val = r.val % 2048) (e : Fin 512) (n : Fin 8704) (hn : n.val = 512 * (t.val % 17) + e.val) :
    (∑ k, tile m c (t.val / 17) (ix2 R k) * (iblk m c 5 t : S1x512x2048.Idx → EReal) (ix3 0 e k)) = entryAt m c B s n.val := by
  have ht : t.val < 136 := lt_of_lt_of_eq t.isLt cN
  unfold entryAt
  rw [← sum_pick]
  refine Finset.sum_congr rfl fun k _ => ?_
  rw [tile_at m c (t.val / 17) (by omega) R r hr B s hB hs k, block_w m c t e n hn k]

/-- What a point leaves in the first output's block. -/
theorem early_at (c : Dev nD) (t : Fin cfg0.N) (h8 : t.val % 17 < 8) (R : Fin 1024) (r : Fin 8192) (hr : r.val = 1024 * (t.val / 17) + R.val)
    (B : Fin 4) (s : Fin 2048) (hB : B.val = r.val / 2048) (hs : s.val = r.val % 2048) (e : Fin 512) (n : Fin 8704)
    (hn : n.val = 512 * (t.val % 17) + e.val) :
    outB m c t.val (ix2 R e) = if n.val < 1024 then entryAt m c B s n.val * Ideal.ofBits FTy.f32 0x3E0293EE#32 else entryAt m c B s n.val := by
  have he : e.val < 512 := e.isLt
  rw [outB_early m c t h8]
  by_cases h2 : t.val % 17 < 2
  · rw [if_pos (by omega)]
    refine (scaled_at _ (scaled_yes t h2) _ _ R e).trans ?_
    rw [sum_at m c t R r hr B s hB hs e n hn]
  · rw [if_neg (by omega)]
    refine (plain_at _ (scaled_no t h2) _ _ R e).trans ?_
    exact sum_at m c t R r hr B s hB hs e n hn

/-- The first output's block at a point that writes it back, against the point that computed it. -/
theorem flushed6 (c : Dev nD) (t : Fin cfg0.N) : (dats m 0 c).flushed 6 t = (cfg0.win 6).cut (grid0.coords t) (outB m c t.val) := by
  show (cfg0.win 6).cut (grid0.coords t) ((dats m 0 c).after 6 t) = _
  rw [after0_6]

theorem flushed7 (c : Dev nD) (t : Fin cfg0.N) : (dats m 0 c).flushed 7 t = (cfg0.win 7).cut (grid0.coords t) (outF m c t) := by
  show (cfg0.win 7).cut (grid0.coords t) ((dats m 0 c).after 7 t) = _
  rw [after0_7]

/-- The first result at a row and a column. -/
theorem first_at (c : Dev nD) (r : Fin 8192) (d : Fin 4096) (B : Fin 4) (s : Fin 2048) (hB : B.val = r.val / 2048) (hs : s.val = r.val % 2048) :
    ((dats m 0 c).arrAt 6 cfg0.N : S8192x4096.Idx → EReal) (ix2 r d)
      = if d.val < 1024 then entryAt m c B s d.val * Ideal.ofBits FTy.f32 0x3E0293EE#32 else entryAt m c B s d.val := by
  have hr8 : r.val < 8192 := r.isLt
  have hd4 : d.val < 4096 := d.isLt
  have hN : ∀ j, j < 17 → 17 * (r.val / 1024) + j < cfg0.N := fun j hj => by rw [cN]; omega
  let t : Fin cfg0.N := ⟨17 * (r.val / 1024) + (if d.val / 512 < 7 then d.val / 512 else 16), hN _ (by split <;> omega)⟩
  let u : Fin cfg0.N := ⟨17 * (r.val / 1024) + d.val / 512, hN _ (by omega)⟩
  have htd : t.val / 17 = r.val / 1024 := by show (17 * (r.val / 1024) + (if d.val / 512 < 7 then d.val / 512 else 16)) / 17 = _; split <;> omega
  have htm : t.val % 17 = if d.val / 512 < 7 then d.val / 512 else 16 := by
    show (17 * (r.val / 1024) + (if d.val / 512 < 7 then d.val / 512 else 16)) % 17 = _; split <;> omega
  have hud : u.val / 17 = r.val / 1024 := by show (17 * (r.val / 1024) + d.val / 512) / 17 = _; omega
  have hum : u.val % 17 = d.val / 512 := by show (17 * (r.val / 1024) + d.val / 512) % 17 = _; omega
  have hmin : min (t.val % 17) 7 = d.val / 512 := by rw [htm]; split <;> omega
  have hfl : (cfg0.win 6).flush t = true := by
    rw [flush6_iff, htm]
    refine decide_eq_true ?_
    split
    · left; assumption
    · right; rfl
  have e := (out_index t).2.1
  rw [htd, hmin] at e
  let R : Fin 1024 := ⟨r.val % 1024, by omega⟩
  let E : Fin 512 := ⟨d.val % 512, by omega⟩
  have hout : outB m c t.val = outB m c u.val := by
    unfold outB
    rw [show early t.val = early u.val by unfold early; omega, htd, hud]
  have h := congrFun ((dats m 0 c).read_blk_arrAt_eq_flushed 6 disjoint6 cfg0.N t t.isLt hfl) (ix2 R E)
  have hl : ((cfg0.win 6).blk t).view.read (Elt Ideal) ((dats m 0 c).arrAt 6 cfg0.N) (ix2 R E)
      = ((dats m 0 c).arrAt 6 cfg0.N : S8192x4096.Idx → EReal) (ix2 r d) := by
    generalize (dats m 0 c).arrAt 6 cfg0.N = A
    clear h
    blk_ext [e, R, E]
  rw [← hl, h, flushed6, hout]
  exact early_at m c u (by omega) R r (by rw [hud]; show r.val = 1024 * (r.val / 1024) + r.val % 1024; omega) B s hB hs E ⟨d.val, by omega⟩
    (by rw [hum]; show d.val = 512 * (d.val / 512) + d.val % 512; omega)

/-- The second result at a row and a column. -/
theorem second_at (c : Dev nD) (r : Fin 8192) (d : Fin 4608) (B : Fin 4) (s : Fin 2048) (hB : B.val = r.val / 2048) (hs : s.val = r.val % 2048) :
    ((dats m 0 c).arrAt 7 cfg0.N : S8192x4608.Idx → EReal) (ix2 r d) = entryAt m c B s (4096 + d.val) := by
  have hr8 : r.val < 8192 := r.isLt
  have hd4 : d.val < 4608 := d.isLt
  let t : Fin cfg0.N := ⟨17 * (r.val / 1024) + (8 + d.val / 512), by rw [cN]; omega⟩
  have htd : t.val / 17 = r.val / 1024 := by show (17 * (r.val / 1024) + (8 + d.val / 512)) / 17 = _; omega
  have htm : t.val % 17 = 8 + d.val / 512 := by show (17 * (r.val / 1024) + (8 + d.val / 512)) % 17 = _; omega
  have hfl : (cfg0.win 7).flush t = true := by
    rw [flush7_iff, htm]
    exact decide_eq_true (by omega)
  have e := (out_index t).2.2
  rw [htd, show t.val % 17 - 8 = d.val / 512 by omega] at e
  let R : Fin 1024 := ⟨r.val % 1024, by omega⟩
  let E : Fin 512 := ⟨d.val % 512, by omega⟩
  have h := congrFun ((dats m 0 c).read_blk_arrAt_eq_flushed 7 disjoint7 cfg0.N t t.isLt hfl) (ix2 R E)
  have hl : ((cfg0.win 7).blk t).view.read (Elt Ideal) ((dats m 0 c).arrAt 7 cfg0.N) (ix2 R E)
      = ((dats m 0 c).arrAt 7 cfg0.N : S8192x4608.Idx → EReal) (ix2 r d) := by
    generalize (dats m 0 c).arrAt 7 cfg0.N = A
    clear h
    blk_ext [e, R, E]
  rw [← hl, h, flushed7]
  refine (product_at _ _ R E).trans ?_
  exact sum_at m c t R r (by rw [htd]; show r.val = 1024 * (r.val / 1024) + r.val % 1024; omega) B s hB hs E ⟨4096 + d.val, by omega⟩
    (by rw [htm]; show 4096 + d.val = 512 * (8 + d.val / 512) + d.val % 512; omega)

end Cert.Proof.Proj

end
-- ==== Proof.ProjRef.lean ====
/-
  The projection's reference at an index.
-/
module

public import proofs.«01_k».proof.Proof.Gen.Reference3Ideal.Run
public import proofs.«01_k».proof.Proof.ProjSpec
public import Idealize.ShloMosaic.Lib.Pointwise

@[expose] public section

set_option maxRecDepth 16384

noncomputable section

namespace Cert.Proof.Proj

open Idealize.ShloMosaic Idealize.ShloMosaic.TcCoe Idealize.SL.Sem
open Cert.Reference3Ideal Cert.Reference3Ideal.Gen

/-- The normed input. -/
def normed (x : FVec Ideal S4x2048x2048 .f32) (sh sc : FVec Ideal S4x2048 .f32) (g : FVec Ideal S2048 .f32) : FVec Ideal S4x2048x2048 .f32 :=
  (addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 sc)))) (broadcastInDim S4x2048x2048 ![0, 1, 2] bcast_S4x1x2048_S4x2048x2048_0_1_2 (broadcastInDim S4x1x2048 ![0, 2] bcast_S4x2048_S4x1x2048_0_2 sh)))

/-- Its product with the weights, the sequences' rows one after the other. -/
def wide (n : FVec Ideal S4x2048x2048 .f32) (w : FVec Ideal S2048x8288 .f32) : FVec Ideal S8192x8288 .f32 :=
  shapeCast S8192x8288 (Host.dotGeneral dot_S4x2048x2048_S2048x8288_S4x2048x8288_2_0_01_1_n_n none n w) shapeCasts_S4x2048x8288_S8192x8288

/-- The first result of that product, before it is rounded. -/
def narrowed (y : FVec Ideal S8192x8288 .f32) : FVec Ideal S8192x4096 .f32 :=
  ((concatenate S8192x4096 1 [⟨S8192x1024, ((mulf (extractStridedSlice S8192x1024 ![0, 0] y slices_S8192x8288_S8192x1024_0_0) (broadcastInDim S8192x1024 ![] bcast_S_S8192x1024 (constant (F := Ideal) S_ .f32 0x3E0293EE#32))))⟩, ⟨S8192x1024, ((extractStridedSlice S8192x1024 ![0, 1024] y slices_S8192x8288_S8192x1024_0_1024))⟩, ⟨S8192x1024, ((extractStridedSlice S8192x1024 ![0, 2048] y slices_S8192x8288_S8192x1024_0_2048))⟩, ⟨S8192x1024, ((extractStridedSlice S8192x1024 ![0, 4096] y slices_S8192x8288_S8192x1024_0_4096))⟩] concatenates_S8192x1024_S8192x1024_S8192x1024_S8192x1024_S8192x4096_d1))

/-- The first result of that product. -/
def narrow (y : FVec Ideal S8192x8288 .f32) : FVec Ideal S8192x4096 .bf16 :=
  truncf .bf16 (narrowed y) bitsLt_bf16_f32

/-- The second result of that product. -/
def rest (y : FVec Ideal S8192x8288 .f32) : FVec Ideal S8192x4608 .f32 :=
  (concatenate S8192x4608 1 [⟨S8192x1024, ((extractStridedSlice S8192x1024 ![0, 3072] y slices_S8192x8288_S8192x1024_0_3072))⟩, ⟨S8192x1024, ((extractStridedSlice S8192x1024 ![0, 6224] y slices_S8192x8288_S8192x1024_0_6224))⟩, ⟨S8192x1024, ((extractStridedSlice S8192x1024 ![0, 7248] y slices_S8192x8288_S8192x1024_0_7248))⟩, ⟨S8192x512, ((extractStridedSlice S8192x512 ![0, 5200] y slices_S8192x8288_S8192x512_0_5200))⟩, ⟨S8192x512, ((extractStridedSlice S8192x512 ![0, 5712] y slices_S8192x8288_S8192x512_0_5712))⟩, ⟨S8192x128, ((concatenate S8192x128 1 [⟨S8192x64, (extractStridedSlice S8192x64 ![0, 5120] y slices_S8192x8288_S8192x64_0_5120)⟩, ⟨S8192x64, (broadcastInDim S8192x64 ![] bcast_S_S8192x64 (constant (F := Ideal) S_ .f32 0x00000000#32))⟩] concatenates_S8192x64_S8192x64_S8192x128_d1))⟩, ⟨S8192x128, ((concatenate S8192x128 1 [⟨S8192x16, (extractStridedSlice S8192x16 ![0, 5184] y slices_S8192x8288_S8192x16_0_5184)⟩, ⟨S8192x112, (broadcastInDim S8192x112 ![] bcast_S_S8192x112 (constant (F := Ideal) S_ .f32 0x00000000#32))⟩] concatenates_S8192x16_S8192x112_S8192x128_d1))⟩, ⟨S8192x256, ((concatenate S8192x256 1 [⟨S8192x16, (extractStridedSlice S8192x16 ![0, 8272] y slices_S8192x8288_S8192x16_0_8272)⟩, ⟨S8192x240, (broadcastInDim S8192x240 ![] bcast_S_S8192x240 (constant (F := Ideal) S_ .f32 0x00000000#32))⟩] concatenates_S8192x16_S8192x240_S8192x256_d1))⟩] concatenates_S8192x1024_S8192x1024_S8192x1024_S8192x512_S8192x512_S8192x128_S8192x128_S8192x256_S8192x4608_d1)

theorem first_eq (m : (ℓ : Loc nD τ sig) → Buf (Elt Ideal) ℓ) (c : Dev nD) :
    Cert.Reference3Ideal.Value.res_main_v38 m c = narrow (wide (normed (m ((c : Thread nD τ).loc main_arg0)) (m ((c : Thread nD τ).loc main_arg1))
      (m ((c : Thread nD τ).loc main_arg2)) (m ((c : Thread nD τ).loc main_arg3))) (m ((c : Thread nD τ).loc main_arg4))) := by
  unfold Cert.Reference3Ideal.Value.res_main_v38 narrow narrowed wide normed
  rfl

theorem second_eq (m : (ℓ : Loc nD τ sig) → Buf (Elt Ideal) ℓ) (c : Dev nD) :
    Cert.Reference3Ideal.Value.res_main_v45 m c = rest (wide (normed (m ((c : Thread nD τ).loc main_arg0)) (m ((c : Thread nD τ).loc main_arg1))
      (m ((c : Thread nD τ).loc main_arg2)) (m ((c : Thread nD τ).loc main_arg3))) (m ((c : Thread nD τ).loc main_arg4))) := by
  unfold Cert.Reference3Ideal.Value.res_main_v45 rest wide normed
  rfl

theorem normed_at (x : FVec Ideal S4x2048x2048 .f32) (sh sc : FVec Ideal S4x2048 .f32) (g : FVec Ideal S2048 .f32) (B : Fin 4) (t : Fin 2048) (d : Fin 2048) :
    normed x sh sc g (ix3 B t d) = rowAt (fun d => x (ix3 B t d)) (g (ix1 d)) (sc (ix2 B d)) (sh (ix2 B d)) d := by
  unfold normed rowAt
  pointwise

theorem wide_at (n : FVec Ideal S4x2048x2048 .f32) (w : FVec Ideal S2048x8288 .f32) (r : Fin 8192) (s : Fin 8288)
    (B : Fin 4) (t : Fin 2048) (hB : B.val = r.val / 2048) (ht : t.val = r.val % 2048) :
    wide n w (ix2 r s) = ∑ k, n (ix3 B t k) * w (ix2 k s) := by
  have eB : (⟨r.val / 2048, by omega⟩ : Fin 4) = B := Fin.ext hB.symm
  have et : (⟨r.val % 2048, by omega⟩ : Fin 2048) = t := Fin.ext ht.symm
  rw [← eB, ← et]
  unfold wide
  pointwise

theorem narrowed_0 (y : FVec Ideal S8192x8288 .f32) (r : Fin 8192) (d : Fin 4096) (h1 : 0 ≤ d.val) (h2 : d.val < 1024) :
    narrowed y (ix2 r d) = pick (fun s => y (ix2 r s)) (src d.val) * Ideal.ofBits FTy.f32 0x3E0293EE#32 := by
  unfold narrowed
  refine (concatenate_apply_piece (t := S8192x4096) 1 _ _ (ix2 r d) 0 (by simp only [List.length_cons, List.length_nil]; omega) S8192x1024 (mulf (extractStridedSlice S8192x1024 ![0, 0] y slices_S8192x8288_S8192x1024_0_0) (broadcastInDim S8192x1024 ![] bcast_S_S8192x1024 (constant (F := Ideal) S_ .f32 0x3E0293EE#32))) rfl rfl 0 rfl
    (ix2 (n0 := 8192) (n1 := 1024) r ⟨d.val - 0, by omega⟩) (Fin.forall_fin_two.mpr ⟨fun _ => rfl, fun hb => absurd rfl hb⟩)
    (by show 0 + (d.val - 0) = d.val; omega)).trans ?_
  have e : ∀ i : Fin 1024, (mulf (extractStridedSlice S8192x1024 ![0, 0] y slices_S8192x8288_S8192x1024_0_0) (broadcastInDim S8192x1024 ![] bcast_S_S8192x1024 (constant (F := Ideal) S_ .f32 0x3E0293EE#32)) : FVec Ideal S8192x1024 .f32) (ix2 r i) = y (ix2 r ⟨0 + i.val, by omega⟩) * Ideal.ofBits FTy.f32 0x3E0293EE#32 := by
    intro i
    pointwise
  rw [pick_of _ (src d.val) (by rw [src_0 (d.val) (by omega) (by omega)]; omega)]
  refine (e _).trans (congrArg (fun w : Fin 8288 => y (ix2 r w) * Ideal.ofBits FTy.f32 0x3E0293EE#32) (Fin.ext ?_))
  show 0 + (d.val - 0) = src d.val
  rw [src_0 (d.val) (by omega) (by omega)]
  omega

theorem narrowed_1 (y : FVec Ideal S8192x8288 .f32) (r : Fin 8192) (d : Fin 4096) (h1 : 1024 ≤ d.val) (h2 : d.val < 2048) :
    narrowed y (ix2 r d) = pick (fun s => y (ix2 r s)) (src d.val) := by
  unfold narrowed
  refine (concatenate_apply_piece (t := S8192x4096) 1 _ _ (ix2 r d) 1 (by simp only [List.length_cons, List.length_nil]; omega) S8192x1024 (extractStridedSlice S8192x1024 ![0, 1024] y slices_S8192x8288_S8192x1024_0_1024) rfl rfl 1024 rfl
    (ix2 (n0 := 8192) (n1 := 1024) r ⟨d.val - 1024, by omega⟩) (Fin.forall_fin_two.mpr ⟨fun _ => rfl, fun hb => absurd rfl hb⟩)
    (by show 1024 + (d.val - 1024) = d.val; omega)).trans ?_
  have e : ∀ i : Fin 1024, (extractStridedSlice S8192x1024 ![0, 1024] y slices_S8192x8288_S8192x1024_0_1024 : FVec Ideal S8192x1024 .f32) (ix2 r i) = y (ix2 r ⟨1024 + i.val, by omega⟩) := by
    intro i
    pointwise
  rw [pick_of _ (src d.val) (by rw [src_0 (d.val) (by omega) (by omega)]; omega)]
  refine (e _).trans (congrArg (fun w : Fin 8288 => y (ix2 r w)) (Fin.ext ?_))
  show 1024 + (d.val - 1024) = src d.val
  rw [src_0 (d.val) (by omega) (by omega)]
  omega

theorem narrowed_2 (y : FVec Ideal S8192x8288 .f32) (r : Fin 8192) (d : Fin 4096) (h1 : 2048 ≤ d.val) (h2 : d.val < 3072) :
    narrowed y (ix2 r d) = pick (fun s => y (ix2 r s)) (src d.val) := by
  unfold narrowed
  refine (concatenate_apply_piece (t := S8192x4096) 1 _ _ (ix2 r d) 2 (by simp only [List.length_cons, List.length_nil]; omega) S8192x1024 (extractStridedSlice S8192x1024 ![0, 2048] y slices_S8192x8288_S8192x1024_0_2048) rfl rfl 2048 rfl
    (ix2 (n0 := 8192) (n1 := 1024) r ⟨d.val - 2048, by omega⟩) (Fin.forall_fin_two.mpr ⟨fun _ => rfl, fun hb => absurd rfl hb⟩)
    (by show 2048 + (d.val - 2048) = d.val; omega)).trans ?_
  have e : ∀ i : Fin 1024, (extractStridedSlice S8192x1024 ![0, 2048] y slices_S8192x8288_S8192x1024_0_2048 : FVec Ideal S8192x1024 .f32) (ix2 r i) = y (ix2 r ⟨2048 + i.val, by omega⟩) := by
    intro i
    pointwise
  rw [pick_of _ (src d.val) (by rw [src_0 (d.val) (by omega) (by omega)]; omega)]
  refine (e _).trans (congrArg (fun w : Fin 8288 => y (ix2 r w)) (Fin.ext ?_))
  show 2048 + (d.val - 2048) = src d.val
  rw [src_0 (d.val) (by omega) (by omega)]
  omega

theorem narrowed_3 (y : FVec Ideal S8192x8288 .f32) (r : Fin 8192) (d : Fin 4096) (h1 : 3072 ≤ d.val) (h2 : d.val < 4096) :
    narrowed y (ix2 r d) = pick (fun s => y (ix2 r s)) (src d.val) := by
  unfold narrowed
  refine (concatenate_apply_piece (t := S8192x4096) 1 _ _ (ix2 r d) 3 (by simp only [List.length_cons, List.length_nil]; omega) S8192x1024 (extractStridedSlice S8192x1024 ![0, 4096] y slices_S8192x8288_S8192x1024_0_4096) rfl rfl 3072 rfl
    (ix2 (n0 := 8192) (n1 := 1024) r ⟨d.val - 3072, by omega⟩) (Fin.forall_fin_two.mpr ⟨fun _ => rfl, fun hb => absurd rfl hb⟩)
    (by show 3072 + (d.val - 3072) = d.val; omega)).trans ?_
  have e : ∀ i : Fin 1024, (extractStridedSlice S8192x1024 ![0, 4096] y slices_S8192x8288_S8192x1024_0_4096 : FVec Ideal S8192x1024 .f32) (ix2 r i) = y (ix2 r ⟨4096 + i.val, by omega⟩) := by
    intro i
    pointwise
  rw [pick_of _ (src d.val) (by rw [src_1 (d.val) (by omega) (by omega)]; omega)]
  refine (e _).trans (congrArg (fun w : Fin 8288 => y (ix2 r w)) (Fin.ext ?_))
  show 4096 + (d.val - 3072) = src d.val
  rw [src_1 (d.val) (by omega) (by omega)]
  omega

theorem rest_0 (y : FVec Ideal S8192x8288 .f32) (r : Fin 8192) (d : Fin 4608) (h1 : 0 ≤ d.val) (h2 : d.val < 1024) :
    rest y (ix2 r d) = pick (fun s => y (ix2 r s)) (src (4096 + d.val)) := by
  unfold rest
  refine (concatenate_apply_piece (t := S8192x4608) 1 _ _ (ix2 r d) 0 (by simp only [List.length_cons, List.length_nil]; omega) S8192x1024 (extractStridedSlice S8192x1024 ![0, 3072] y slices_S8192x8288_S8192x1024_0_3072) rfl rfl 0 rfl
    (ix2 (n0 := 8192) (n1 := 1024) r ⟨d.val - 0, by omega⟩) (Fin.forall_fin_two.mpr ⟨fun _ => rfl, fun hb => absurd rfl hb⟩)
    (by show 0 + (d.val - 0) = d.val; omega)).trans ?_
  have e : ∀ i : Fin 1024, (extractStridedSlice S8192x1024 ![0, 3072] y slices_S8192x8288_S8192x1024_0_3072 : FVec Ideal S8192x1024 .f32) (ix2 r i) = y (ix2 r ⟨3072 + i.val, by omega⟩) := by
    intro i
    pointwise
  rw [pick_of _ (src (4096 + d.val)) (by rw [src_2 (4096 + d.val) (by omega) (by omega)]; omega)]
  refine (e _).trans (congrArg (fun w : Fin 8288 => y (ix2 r w)) (Fin.ext ?_))
  show 3072 + (d.val - 0) = src (4096 + d.val)
  rw [src_2 (4096 + d.val) (by omega) (by omega)]
  omega

theorem rest_1 (y : FVec Ideal S8192x8288 .f32) (r : Fin 8192) (d : Fin 4608) (h1 : 1024 ≤ d.val) (h2 : d.val < 2048) :
    rest y (ix2 r d) = pick (fun s => y (ix2 r s)) (src (4096 + d.val)) := by
  unfold rest
  refine (concatenate_apply_piece (t := S8192x4608) 1 _ _ (ix2 r d) 1 (by simp only [List.length_cons, List.length_nil]; omega) S8192x1024 (extractStridedSlice S8192x1024 ![0, 6224] y slices_S8192x8288_S8192x1024_0_6224) rfl rfl 1024 rfl
    (ix2 (n0 := 8192) (n1 := 1024) r ⟨d.val - 1024, by omega⟩) (Fin.forall_fin_two.mpr ⟨fun _ => rfl, fun hb => absurd rfl hb⟩)
    (by show 1024 + (d.val - 1024) = d.val; omega)).trans ?_
  have e : ∀ i : Fin 1024, (extractStridedSlice S8192x1024 ![0, 6224] y slices_S8192x8288_S8192x1024_0_6224 : FVec Ideal S8192x1024 .f32) (ix2 r i) = y (ix2 r ⟨6224 + i.val, by omega⟩) := by
    intro i
    pointwise
  rw [pick_of _ (src (4096 + d.val)) (by rw [src_3 (4096 + d.val) (by omega) (by omega)]; omega)]
  refine (e _).trans (congrArg (fun w : Fin 8288 => y (ix2 r w)) (Fin.ext ?_))
  show 6224 + (d.val - 1024) = src (4096 + d.val)
  rw [src_3 (4096 + d.val) (by omega) (by omega)]
  omega

theorem rest_2 (y : FVec Ideal S8192x8288 .f32) (r : Fin 8192) (d : Fin 4608) (h1 : 2048 ≤ d.val) (h2 : d.val < 3072) :
    rest y (ix2 r d) = pick (fun s => y (ix2 r s)) (src (4096 + d.val)) := by
  unfold rest
  refine (concatenate_apply_piece (t := S8192x4608) 1 _ _ (ix2 r d) 2 (by simp only [List.length_cons, List.length_nil]; omega) S8192x1024 (extractStridedSlice S8192x1024 ![0, 7248] y slices_S8192x8288_S8192x1024_0_7248) rfl rfl 2048 rfl
    (ix2 (n0 := 8192) (n1 := 1024) r ⟨d.val - 2048, by omega⟩) (Fin.forall_fin_two.mpr ⟨fun _ => rfl, fun hb => absurd rfl hb⟩)
    (by show 2048 + (d.val - 2048) = d.val; omega)).trans ?_
  have e : ∀ i : Fin 1024, (extractStridedSlice S8192x1024 ![0, 7248] y slices_S8192x8288_S8192x1024_0_7248 : FVec Ideal S8192x1024 .f32) (ix2 r i) = y (ix2 r ⟨7248 + i.val, by omega⟩) := by
    intro i
    pointwise
  rw [pick_of _ (src (4096 + d.val)) (by rw [src_3 (4096 + d.val) (by omega) (by omega)]; omega)]
  refine (e _).trans (congrArg (fun w : Fin 8288 => y (ix2 r w)) (Fin.ext ?_))
  show 7248 + (d.val - 2048) = src (4096 + d.val)
  rw [src_3 (4096 + d.val) (by omega) (by omega)]
  omega

theorem rest_3 (y : FVec Ideal S8192x8288 .f32) (r : Fin 8192) (d : Fin 4608) (h1 : 3072 ≤ d.val) (h2 : d.val < 3584) :
    rest y (ix2 r d) = pick (fun s => y (ix2 r s)) (src (4096 + d.val)) := by
  unfold rest
  refine (concatenate_apply_piece (t := S8192x4608) 1 _ _ (ix2 r d) 3 (by simp only [List.length_cons, List.length_nil]; omega) S8192x512 (extractStridedSlice S8192x512 ![0, 5200] y slices_S8192x8288_S8192x512_0_5200) rfl rfl 3072 rfl
    (ix2 (n0 := 8192) (n1 := 512) r ⟨d.val - 3072, by omega⟩) (Fin.forall_fin_two.mpr ⟨fun _ => rfl, fun hb => absurd rfl hb⟩)
    (by show 3072 + (d.val - 3072) = d.val; omega)).trans ?_
  have e : ∀ i : Fin 512, (extractStridedSlice S8192x512 ![0, 5200] y slices_S8192x8288_S8192x512_0_5200 : FVec Ideal S8192x512 .f32) (ix2 r i) = y (ix2 r ⟨5200 + i.val, by omega⟩) := by
    intro i
    pointwise
  rw [pick_of _ (src (4096 + d.val)) (by rw [src_4 (4096 + d.val) (by omega) (by omega)]; omega)]
  refine (e _).trans (congrArg (fun w : Fin 8288 => y (ix2 r w)) (Fin.ext ?_))
  show 5200 + (d.val - 3072) = src (4096 + d.val)
  rw [src_4 (4096 + d.val) (by omega) (by omega)]
  omega

theorem rest_4 (y : FVec Ideal S8192x8288 .f32) (r : Fin 8192) (d : Fin 4608) (h1 : 3584 ≤ d.val) (h2 : d.val < 4096) :
    rest y (ix2 r d) = pick (fun s => y (ix2 r s)) (src (4096 + d.val)) := by
  unfold rest
  refine (concatenate_apply_piece (t := S8192x4608) 1 _ _ (ix2 r d) 4 (by simp only [List.length_cons, List.length_nil]; omega) S8192x512 (extractStridedSlice S8192x512 ![0, 5712] y slices_S8192x8288_S8192x512_0_5712) rfl rfl 3584 rfl
    (ix2 (n0 := 8192) (n1 := 512) r ⟨d.val - 3584, by omega⟩) (Fin.forall_fin_two.mpr ⟨fun _ => rfl, fun hb => absurd rfl hb⟩)
    (by show 3584 + (d.val - 3584) = d.val; omega)).trans ?_
  have e : ∀ i : Fin 512, (extractStridedSlice S8192x512 ![0, 5712] y slices_S8192x8288_S8192x512_0_5712 : FVec Ideal S8192x512 .f32) (ix2 r i) = y (ix2 r ⟨5712 + i.val, by omega⟩) := by
    intro i
    pointwise
  rw [pick_of _ (src (4096 + d.val)) (by rw [src_4 (4096 + d.val) (by omega) (by omega)]; omega)]
  refine (e _).trans (congrArg (fun w : Fin 8288 => y (ix2 r w)) (Fin.ext ?_))
  show 5712 + (d.val - 3584) = src (4096 + d.val)
  rw [src_4 (4096 + d.val) (by omega) (by omega)]
  omega

theorem rest_5 (y : FVec Ideal S8192x8288 .f32) (r : Fin 8192) (d : Fin 4608) (h1 : 4096 ≤ d.val) (h2 : d.val < 4224) :
    rest y (ix2 r d) = pick (fun s => y (ix2 r s)) (src (4096 + d.val)) := by
  unfold rest
  refine (concatenate_apply_piece (t := S8192x4608) 1 _ _ (ix2 r d) 5 (by simp only [List.length_cons, List.length_nil]; omega) S8192x128 (concatenate S8192x128 1 [⟨S8192x64, extractStridedSlice S8192x64 ![0, 5120] y slices_S8192x8288_S8192x64_0_5120⟩, ⟨S8192x64, broadcastInDim S8192x64 ![] bcast_S_S8192x64 (constant (F := Ideal) S_ .f32 0x00000000#32)⟩] concatenates_S8192x64_S8192x64_S8192x128_d1) rfl rfl 4096 rfl
    (ix2 (n0 := 8192) (n1 := 128) r ⟨d.val - 4096, by omega⟩) (Fin.forall_fin_two.mpr ⟨fun _ => rfl, fun hb => absurd rfl hb⟩)
    (by show 4096 + (d.val - 4096) = d.val; omega)).trans ?_
  by_cases h3 : d.val - 4096 < 64
  · have e : ∀ i : Fin 128, i.val < 64 → (concatenate S8192x128 1 [⟨S8192x64, extractStridedSlice S8192x64 ![0, 5120] y slices_S8192x8288_S8192x64_0_5120⟩, ⟨S8192x64, broadcastInDim S8192x64 ![] bcast_S_S8192x64 (constant (F := Ideal) S_ .f32 0x00000000#32)⟩] concatenates_S8192x64_S8192x64_S8192x128_d1 : FVec Ideal S8192x128 .f32) (ix2 r i) = if h : i.val < 64 then y (ix2 r ⟨5120 + i.val, by omega⟩) else 0 := by
      intro i hi
      pointwise
    have e' := (e ⟨d.val - 4096, by omega⟩ h3).trans (dif_pos h3)
    rw [pick_of _ (src (4096 + d.val)) (by rw [src_5 (4096 + d.val) (by omega) (by omega)]; omega)]
    refine (e').trans (congrArg (fun w : Fin 8288 => y (ix2 r w)) (Fin.ext ?_))
    show 5120 + (d.val - 4096) = src (4096 + d.val)
    rw [src_5 (4096 + d.val) (by omega) (by omega)]
    omega
  · have e : ∀ i : Fin 128, ¬i.val < 64 → (concatenate S8192x128 1 [⟨S8192x64, extractStridedSlice S8192x64 ![0, 5120] y slices_S8192x8288_S8192x64_0_5120⟩, ⟨S8192x64, broadcastInDim S8192x64 ![] bcast_S_S8192x64 (constant (F := Ideal) S_ .f32 0x00000000#32)⟩] concatenates_S8192x64_S8192x64_S8192x128_d1 : FVec Ideal S8192x128 .f32) (ix2 r i) = 0 := by
      intro i hi
      pointwise
      rw [dif_neg hi]
    rw [pick_pad _ (src (4096 + d.val)) (by rw [src_6 (4096 + d.val) (by omega) (by omega)]; omega)]
    exact e _ h3

theorem rest_6 (y : FVec Ideal S8192x8288 .f32) (r : Fin 8192) (d : Fin 4608) (h1 : 4224 ≤ d.val) (h2 : d.val < 4352) :
    rest y (ix2 r d) = pick (fun s => y (ix2 r s)) (src (4096 + d.val)) := by
  unfold rest
  refine (concatenate_apply_piece (t := S8192x4608) 1 _ _ (ix2 r d) 6 (by simp only [List.length_cons, List.length_nil]; omega) S8192x128 (concatenate S8192x128 1 [⟨S8192x16, extractStridedSlice S8192x16 ![0, 5184] y slices_S8192x8288_S8192x16_0_5184⟩, ⟨S8192x112, broadcastInDim S8192x112 ![] bcast_S_S8192x112 (constant (F := Ideal) S_ .f32 0x00000000#32)⟩] concatenates_S8192x16_S8192x112_S8192x128_d1) rfl rfl 4224 rfl
    (ix2 (n0 := 8192) (n1 := 128) r ⟨d.val - 4224, by omega⟩) (Fin.forall_fin_two.mpr ⟨fun _ => rfl, fun hb => absurd rfl hb⟩)
    (by show 4224 + (d.val - 4224) = d.val; omega)).trans ?_
  by_cases h3 : d.val - 4224 < 16
  · have e : ∀ i : Fin 128, i.val < 16 → (concatenate S8192x128 1 [⟨S8192x16, extractStridedSlice S8192x16 ![0, 5184] y slices_S8192x8288_S8192x16_0_5184⟩, ⟨S8192x112, broadcastInDim S8192x112 ![] bcast_S_S8192x112 (constant (F := Ideal) S_ .f32 0x00000000#32)⟩] concatenates_S8192x16_S8192x112_S8192x128_d1 : FVec Ideal S8192x128 .f32) (ix2 r i) = if h : i.val < 16 then y (ix2 r ⟨5184 + i.val, by omega⟩) else 0 := by
      intro i hi
      pointwise
    have e' := (e ⟨d.val - 4224, by omega⟩ h3).trans (dif_pos h3)
    rw [pick_of _ (src (4096 + d.val)) (by rw [src_7 (4096 + d.val) (by omega) (by omega)]; omega)]
    refine (e').trans (congrArg (fun w : Fin 8288 => y (ix2 r w)) (Fin.ext ?_))
    show 5184 + (d.val - 4224) = src (4096 + d.val)
    rw [src_7 (4096 + d.val) (by omega) (by omega)]
    omega
  · have e : ∀ i : Fin 128, ¬i.val < 16 → (concatenate S8192x128 1 [⟨S8192x16, extractStridedSlice S8192x16 ![0, 5184] y slices_S8192x8288_S8192x16_0_5184⟩, ⟨S8192x112, broadcastInDim S8192x112 ![] bcast_S_S8192x112 (constant (F := Ideal) S_ .f32 0x00000000#32)⟩] concatenates_S8192x16_S8192x112_S8192x128_d1 : FVec Ideal S8192x128 .f32) (ix2 r i) = 0 := by
      intro i hi
      pointwise
      rw [dif_neg hi]
    rw [pick_pad _ (src (4096 + d.val)) (by rw [src_8 (4096 + d.val) (by omega) (by omega)]; omega)]
    exact e _ h3

theorem rest_7 (y : FVec Ideal S8192x8288 .f32) (r : Fin 8192) (d : Fin 4608) (h1 : 4352 ≤ d.val) (h2 : d.val < 4608) :
    rest y (ix2 r d) = pick (fun s => y (ix2 r s)) (src (4096 + d.val)) := by
  unfold rest
  refine (concatenate_apply_piece (t := S8192x4608) 1 _ _ (ix2 r d) 7 (by simp only [List.length_cons, List.length_nil]; omega) S8192x256 (concatenate S8192x256 1 [⟨S8192x16, extractStridedSlice S8192x16 ![0, 8272] y slices_S8192x8288_S8192x16_0_8272⟩, ⟨S8192x240, broadcastInDim S8192x240 ![] bcast_S_S8192x240 (constant (F := Ideal) S_ .f32 0x00000000#32)⟩] concatenates_S8192x16_S8192x240_S8192x256_d1) rfl rfl 4352 rfl
    (ix2 (n0 := 8192) (n1 := 256) r ⟨d.val - 4352, by omega⟩) (Fin.forall_fin_two.mpr ⟨fun _ => rfl, fun hb => absurd rfl hb⟩)
    (by show 4352 + (d.val - 4352) = d.val; omega)).trans ?_
  by_cases h3 : d.val - 4352 < 16
  · have e : ∀ i : Fin 256, i.val < 16 → (concatenate S8192x256 1 [⟨S8192x16, extractStridedSlice S8192x16 ![0, 8272] y slices_S8192x8288_S8192x16_0_8272⟩, ⟨S8192x240, broadcastInDim S8192x240 ![] bcast_S_S8192x240 (constant (F := Ideal) S_ .f32 0x00000000#32)⟩] concatenates_S8192x16_S8192x240_S8192x256_d1 : FVec Ideal S8192x256 .f32) (ix2 r i) = if h : i.val < 16 then y (ix2 r ⟨8272 + i.val, by omega⟩) else 0 := by
      intro i hi
      pointwise
    have e' := (e ⟨d.val - 4352, by omega⟩ h3).trans (dif_pos h3)
    rw [pick_of _ (src (4096 + d.val)) (by rw [src_9 (4096 + d.val) (by omega) (by omega)]; omega)]
    refine (e').trans (congrArg (fun w : Fin 8288 => y (ix2 r w)) (Fin.ext ?_))
    show 8272 + (d.val - 4352) = src (4096 + d.val)
    rw [src_9 (4096 + d.val) (by omega) (by omega)]
    omega
  · have e : ∀ i : Fin 256, ¬i.val < 16 → (concatenate S8192x256 1 [⟨S8192x16, extractStridedSlice S8192x16 ![0, 8272] y slices_S8192x8288_S8192x16_0_8272⟩, ⟨S8192x240, broadcastInDim S8192x240 ![] bcast_S_S8192x240 (constant (F := Ideal) S_ .f32 0x00000000#32)⟩] concatenates_S8192x16_S8192x240_S8192x256_d1 : FVec Ideal S8192x256 .f32) (ix2 r i) = 0 := by
      intro i hi
      pointwise
      rw [dif_neg hi]
    rw [pick_pad _ (src (4096 + d.val)) (by rw [src_10 (4096 + d.val) (by omega)]; omega)]
    exact e _ h3

theorem narrow_at (y : FVec Ideal S8192x8288 .f32) (r : Fin 8192) (d : Fin 4096) :
    narrow y (ix2 r d) = if d.val < 1024 then pick (fun s => y (ix2 r s)) (src d.val) * Ideal.ofBits FTy.f32 0x3E0293EE#32
      else pick (fun s => y (ix2 r s)) (src d.val) := by
  have e : narrow y (ix2 r d) = narrowed y (ix2 r d) := by
    unfold narrow
    pointwise
  rw [e]
  by_cases h0 : d.val < 1024
  · rw [if_pos h0]
    exact narrowed_0 y r d (by omega) h0
  rw [if_neg h0]
  by_cases h1 : d.val < 2048
  · exact narrowed_1 y r d (by omega) h1
  by_cases h2 : d.val < 3072
  · exact narrowed_2 y r d (by omega) h2
  exact narrowed_3 y r d (by omega) d.isLt

theorem rest_at (y : FVec Ideal S8192x8288 .f32) (r : Fin 8192) (d : Fin 4608) :
    rest y (ix2 r d) = pick (fun s => y (ix2 r s)) (src (4096 + d.val)) := by
  by_cases h0 : d.val < 1024
  · exact rest_0 y r d (by omega) h0
  by_cases h1 : d.val < 2048
  · exact rest_1 y r d (by omega) h1
  by_cases h2 : d.val < 3072
  · exact rest_2 y r d (by omega) h2
  by_cases h3 : d.val < 3584
  · exact rest_3 y r d (by omega) h3
  by_cases h4 : d.val < 4096
  · exact rest_4 y r d (by omega) h4
  by_cases h5 : d.val < 4224
  · exact rest_5 y r d (by omega) h5
  by_cases h6 : d.val < 4352
  · exact rest_6 y r d (by omega) h6
  exact rest_7 y r d (by omega) d.isLt

end Cert.Proof.Proj

end
-- ==== Proof.ProjEqual.lean ====
/-
  The projection's two results against the reference's.
-/
module

public import proofs.«01_k».proof.Defs
public import proofs.«01_k».proof.Proof.ProjValue
public import proofs.«01_k».proof.Proof.ProjRef
public import proofs.«01_k».proof.Proof.Gen.Reference3Ideal.Run

@[expose] public section

set_option maxRecDepth 16384

noncomputable section

namespace Cert.Proof.Proj

open Idealize.ShloMosaic Idealize.ShloMosaic.TcCoe Idealize.SL.Sem
open Idealize.ShloMosaic.Pipeline (Dat)

/-- The projection's run, its two results and its arguments named. -/
theorem run_blocks (m : (ℓ : Loc Kernel3Ideal.nD Kernel3Ideal.τ Kernel3Ideal.sig) → Buf (Elt Ideal) ℓ) (ρ : Dev Kernel3Ideal.nD → PrngReg) :
    θ_run (Kernel3Ideal.defs (F := Ideal)) (onTc (τ := Kernel3Ideal.τ) (Kernel3Ideal.main (F := Ideal))) ⟨m, fun _ => 0, ρ⟩ (fun r => ∀ c : Dev Kernel3Ideal.nD,
      r.2.mem ((c.tc : Thread Kernel3Ideal.nD Kernel3Ideal.τ).loc Kernel3Ideal.main_v24_0) = (Kernel3Ideal.Own.dats m 0 c).arrAt 6 Kernel3Ideal.cfg0.N
      ∧ r.2.mem ((c.tc : Thread Kernel3Ideal.nD Kernel3Ideal.τ).loc Kernel3Ideal.main_v24_1) = (Kernel3Ideal.Own.dats m 0 c).arrAt 7 Kernel3Ideal.cfg0.N
      ∧ r.2.mem ((c.tc : Thread Kernel3Ideal.nD Kernel3Ideal.τ).loc Kernel3Ideal.main_arg0) = m ((c.tc : Thread Kernel3Ideal.nD Kernel3Ideal.τ).loc Kernel3Ideal.main_arg0)
      ∧ r.2.mem ((c.tc : Thread Kernel3Ideal.nD Kernel3Ideal.τ).loc Kernel3Ideal.main_arg1) = m ((c.tc : Thread Kernel3Ideal.nD Kernel3Ideal.τ).loc Kernel3Ideal.main_arg1)
      ∧ r.2.mem ((c.tc : Thread Kernel3Ideal.nD Kernel3Ideal.τ).loc Kernel3Ideal.main_arg2) = m ((c.tc : Thread Kernel3Ideal.nD Kernel3Ideal.τ).loc Kernel3Ideal.main_arg2)
      ∧ r.2.mem ((c.tc : Thread Kernel3Ideal.nD Kernel3Ideal.τ).loc Kernel3Ideal.main_arg3) = m ((c.tc : Thread Kernel3Ideal.nD Kernel3Ideal.τ).loc Kernel3Ideal.main_arg3)
      ∧ r.2.mem ((c.tc : Thread Kernel3Ideal.nD Kernel3Ideal.τ).loc Kernel3Ideal.main_arg4) = m ((c.tc : Thread Kernel3Ideal.nD Kernel3Ideal.τ).loc Kernel3Ideal.main_arg4)) :=
  (θ_run Kernel3Ideal.defs _ _).mono (fun r h c => ⟨(h.1 c).1 6, (h.1 c).1 7, h.2 c⟩)
    (θ_run_and (Kernel3Ideal.Own.run_main m ρ) (Kernel3Ideal.Own.unchanged m ρ))

/-- The reference's product at a row and a column, by the rows and the weights. -/
theorem wide_entry (x : FVec Ideal Reference3Ideal.S4x2048x2048 .f32) (sh sc : FVec Ideal Reference3Ideal.S4x2048 .f32)
    (g : FVec Ideal Reference3Ideal.S2048 .f32) (w : FVec Ideal Reference3Ideal.S2048x8288 .f32) (r : Fin 8192)
    (B : Fin 4) (t : Fin 2048) (hB : B.val = r.val / 2048) (ht : t.val = r.val % 2048) :
    (fun s : Fin 8288 => wide (normed x sh sc g) w (ix2 r s))
      = fun s => ∑ k, rowAt (fun d => x (ix3 B t d)) (g (ix1 k)) (sc (ix2 B k)) (sh (ix2 B k)) k * w (ix2 k s) := by
  funext s
  rw [wide_at _ _ r s B t hB ht]
  refine Finset.sum_congr rfl fun k _ => ?_
  rw [normed_at]

theorem first_result (m : (ℓ : Loc Kernel3Ideal.nD Kernel3Ideal.τ Kernel3Ideal.sig) → Buf (Elt Ideal) ℓ) (c : Dev Kernel3Ideal.nD) :
    (Kernel3Ideal.Own.dats m 0 c).arrAt 6 Kernel3Ideal.cfg0.N
      = narrow (wide (normed (m ((c : Thread Kernel3Ideal.nD Kernel3Ideal.τ).loc Kernel3Ideal.main_arg0))
          (m ((c : Thread Kernel3Ideal.nD Kernel3Ideal.τ).loc Kernel3Ideal.main_arg1)) (m ((c : Thread Kernel3Ideal.nD Kernel3Ideal.τ).loc Kernel3Ideal.main_arg2))
          (m ((c : Thread Kernel3Ideal.nD Kernel3Ideal.τ).loc Kernel3Ideal.main_arg3))) (m ((c : Thread Kernel3Ideal.nD Kernel3Ideal.τ).loc Kernel3Ideal.main_arg4))) := by
  have key : ∀ (r : Fin 8192) (d : Fin 4096), ((Kernel3Ideal.Own.dats m 0 c).arrAt 6 Kernel3Ideal.cfg0.N : Kernel3Ideal.S8192x4096.Idx → EReal) (ix2 r d)
      = narrow (wide (normed (m ((c : Thread Kernel3Ideal.nD Kernel3Ideal.τ).loc Kernel3Ideal.main_arg0))
          (m ((c : Thread Kernel3Ideal.nD Kernel3Ideal.τ).loc Kernel3Ideal.main_arg1)) (m ((c : Thread Kernel3Ideal.nD Kernel3Ideal.τ).loc Kernel3Ideal.main_arg2))
          (m ((c : Thread Kernel3Ideal.nD Kernel3Ideal.τ).loc Kernel3Ideal.main_arg3))) (m ((c : Thread Kernel3Ideal.nD Kernel3Ideal.τ).loc Kernel3Ideal.main_arg4))) (ix2 r d) := by
    intro r d
    have hr : r.val < 8192 := r.isLt
    rw [first_at m c r d ⟨r.val / 2048, by omega⟩ ⟨r.val % 2048, by omega⟩ rfl rfl, narrow_at,
      wide_entry _ _ _ _ _ r ⟨r.val / 2048, by omega⟩ ⟨r.val % 2048, by omega⟩ rfl rfl]
    rfl
  funext i
  have hi : i = ix2 (i 0) (i 1) := by funext a; fin_cases a <;> rfl
  rw [hi]
  exact key (i 0) (i 1)

theorem second_result (m : (ℓ : Loc Kernel3Ideal.nD Kernel3Ideal.τ Kernel3Ideal.sig) → Buf (Elt Ideal) ℓ) (c : Dev Kernel3Ideal.nD) :
    (Kernel3Ideal.Own.dats m 0 c).arrAt 7 Kernel3Ideal.cfg0.N
      = rest (wide (normed (m ((c : Thread Kernel3Ideal.nD Kernel3Ideal.τ).loc Kernel3Ideal.main_arg0))
          (m ((c : Thread Kernel3Ideal.nD Kernel3Ideal.τ).loc Kernel3Ideal.main_arg1)) (m ((c : Thread Kernel3Ideal.nD Kernel3Ideal.τ).loc Kernel3Ideal.main_arg2))
          (m ((c : Thread Kernel3Ideal.nD Kernel3Ideal.τ).loc Kernel3Ideal.main_arg3))) (m ((c : Thread Kernel3Ideal.nD Kernel3Ideal.τ).loc Kernel3Ideal.main_arg4))) := by
  have key : ∀ (r : Fin 8192) (d : Fin 4608), ((Kernel3Ideal.Own.dats m 0 c).arrAt 7 Kernel3Ideal.cfg0.N : Kernel3Ideal.S8192x4608.Idx → EReal) (ix2 r d)
      = rest (wide (normed (m ((c : Thread Kernel3Ideal.nD Kernel3Ideal.τ).loc Kernel3Ideal.main_arg0))
          (m ((c : Thread Kernel3Ideal.nD Kernel3Ideal.τ).loc Kernel3Ideal.main_arg1)) (m ((c : Thread Kernel3Ideal.nD Kernel3Ideal.τ).loc Kernel3Ideal.main_arg2))
          (m ((c : Thread Kernel3Ideal.nD Kernel3Ideal.τ).loc Kernel3Ideal.main_arg3))) (m ((c : Thread Kernel3Ideal.nD Kernel3Ideal.τ).loc Kernel3Ideal.main_arg4))) (ix2 r d) := by
    intro r d
    have hr : r.val < 8192 := r.isLt
    rw [second_at m c r d ⟨r.val / 2048, by omega⟩ ⟨r.val % 2048, by omega⟩ rfl rfl, rest_at,
      wide_entry _ _ _ _ _ r ⟨r.val / 2048, by omega⟩ ⟨r.val % 2048, by omega⟩ rfl rfl]
    rfl
  funext i
  have hi : i = ix2 (i 0) (i 1) := by funext a; fin_cases a <;> rfl
  rw [hi]
  exact key (i 0) (i 1)

end Cert.Proof.Proj

namespace Cert.Proof

open Idealize.ShloMosaic Idealize.ShloMosaic.TcCoe Idealize.SL.Sem

/-- Over exact arithmetic the projection and its reference leave the same two arrays, their arguments unchanged. -/
theorem algebraic3 : Cert.algebraic_Kernel3Ideal_Reference3Ideal := by
  intro m g m' g' _ hagree
  refine ⟨fun c => (Kernel3Ideal.Own.dats m 0 c).arrAt 6 Kernel3Ideal.cfg0.N, fun c => (Kernel3Ideal.Own.dats m 0 c).arrAt 7 Kernel3Ideal.cfg0.N,
    Proj.run_blocks m g, ?_⟩
  refine (θ_run Cert.Reference3Ideal.defs _ _).mono (fun r h c => ⟨(h c).1.trans ?_, (h c).2.1.trans ?_, (h c).2.2⟩)
    (Reference3Ideal.Value.run (F := Ideal) m' g')
  · obtain ⟨e0, e1, e2, e3, e4⟩ := hagree c
    refine (Proj.first_eq m' c).trans ?_
    rw [e0, e1, e2, e3, e4]
    exact (Proj.first_result m c).symm
  · obtain ⟨e0, e1, e2, e3, e4⟩ := hagree c
    refine (Proj.second_eq m' c).trans ?_
    rw [e0, e1, e2, e3, e4]
    exact (Proj.second_result m c).symm

end Cert.Proof

end
-- ==== Proof.lean ====
/-
  Every claim, assembled. The gated linear attention, the output projection and the input projection: each kernel, its idealization and its
  reference terminate with their arguments unchanged, the idealization changes nothing, and over exact arithmetic the
  kernel's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Frame
public import proofs.«01_k».proof.Proof.Gen.Kernel3Ideal.Points
public import proofs.«01_k».proof.Proof.Gen.Kernel3Ideal.Skeleton
public import proofs.«01_k».proof.Proof.Gen.Reference3Ideal
public import proofs.«01_k».proof.Proof.Gen.Reference3Ideal.Run
public import proofs.«01_k».proof.Proof.Frames
public import proofs.«01_k».proof.Proof.Equal
public import proofs.«01_k».proof.Proof.OutEqual
public import proofs.«01_k».proof.Proof.ProjFrames
public import proofs.«01_k».proof.Proof.ProjEqual

@[expose] public section

noncomputable section

namespace Cert.Proof

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_kernel, frame_ideal, frame_reference, frame_kernel2, frame_ideal2, frame_reference2,
    frame_kernel3, frame_ideal3, frame_reference3, trivial, algebraic, trivial, algebraic2, trivial, algebraic3⟩

end Cert.Proof

end
